-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_weights.lean ====
abbrev S2x8192x8192 : Shape := ⟨3, ![2, 8192, 8192]⟩
abbrev S128 : Shape := ⟨1, ![128]⟩
abbrev S16x513 : Shape := ⟨2, ![16, 513]⟩
abbrev S_ : Shape := ⟨0, ![]⟩
abbrev S1x1x128 : Shape := ⟨3, ![1, 1, 128]⟩
abbrev S16x513x1 : Shape := ⟨3, ![16, 513, 1]⟩
abbrev S16x513x128 : Shape := ⟨3, ![16, 513, 128]⟩

class Facts : Prop where
  bcast_S_S128 : S_.BroadcastsInDim S128 (![] : Fin 0 → Fin S128.rank)
  bcast_S128_S1x1x128_2 : S128.BroadcastsInDim S1x1x128 (![2] : Fin 1 → Fin S1x1x128.rank)
  bcast_S_S16x513 : S_.BroadcastsInDim S16x513 (![] : Fin 0 → Fin S16x513.rank)
  bcast_S16x513_S16x513x1_0_1 : S16x513.BroadcastsInDim S16x513x1 (![0, 1] : Fin 2 → Fin S16x513x1.rank)
  bcast_S1x1x128_S16x513x128_0_1_2 : S1x1x128.BroadcastsInDim S16x513x128 (![0, 1, 2] : Fin 3 → Fin S16x513x128.rank)
  bcast_S16x513x1_S16x513x128_0_1_2 : S16x513x1.BroadcastsInDim S16x513x128 (![0, 1, 2] : Fin 3 → Fin S16x513x128.rank)

variable [Facts]

def fn {F : FTy → Type} [FloatOps F] (main_arg0 : FVec F S2x8192x8192 .f32) (main_arg1 : FVec F S128 .f32) (main_arg2 : FVec F S128 .f32) (main_arg3 : FVec F S16x513 .f32) : IVec S16x513x128 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : IVec S128 1 := andi main_v2 main_v5
  let main_v7 : IVec S1x1x128 1 := broadcastInDim S1x1x128 ![2] bcast_S128_S1x1x128_2 main_v6
  let main_v8 : FVec F S16x513 .f32 := Host.absf main_arg3
  let main_cst_1 : FVec F S_ .f32 := constant S_ .f32 0x7F800000#32
  let main_v9 : FVec F S16x513 .f32 := broadcastInDim S16x513 ![] bcast_S_S16x513 main_cst_1
  let main_v10 : IVec S16x513 1 := cmpf .olt main_v8 main_v9
  let main_v11 : IVec S16x513x1 1 := broadcastInDim S16x513x1 ![0, 1] bcast_S16x513_S16x513x1_0_1 main_v10
  let main_v12 : IVec S16x513x128 1 := broadcastInDim S16x513x128 ![0, 1, 2] bcast_S1x1x128_S16x513x128_0_1_2 main_v7
  let main_v13 : IVec S16x513x128 1 := broadcastInDim S16x513x128 ![0, 1, 2] bcast_S16x513x1_S16x513x128_0_1_2 main_v11
  let main_v14 : IVec S16x513x128 1 := andi main_v12 main_v13
  main_v14
-- ==== Kernel.lean ====
abbrev S2x8192x8192 : Shape := ⟨3, ![2, 8192, 8192]⟩
abbrev S128 : Shape := ⟨1, ![128]⟩
abbrev S16x513 : Shape := ⟨2, ![16, 513]⟩
abbrev S16384x4x4x512 : Shape := ⟨4, ![16384, 4, 4, 512]⟩
abbrev S16384x8192 : Shape := ⟨2, ![16384, 8192]⟩
abbrev S639 : Shape := ⟨1, ![639]⟩
abbrev S_ : Shape := ⟨0, ![]⟩
abbrev S639x1 : Shape := ⟨2, ![639, 1]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S16x64x64 : Shape := ⟨3, ![16, 64, 64]⟩
abbrev S16x64x640 : Shape := ⟨3, ![16, 64, 640]⟩
abbrev S16x1x64x640 : Shape := ⟨4, ![16, 1, 64, 640]⟩
abbrev S16x2x64x640 : Shape := ⟨4, ![16, 2, 64, 640]⟩
abbrev S1x128 : Shape := ⟨2, ![1, 128]⟩
abbrev S16384x2048 : Shape := ⟨2, ![16384, 2048]⟩
abbrev S1024x2048 : Shape := ⟨2, ![1024, 2048]⟩
abbrev S4x2x64x640 : Shape := ⟨4, ![4, 2, 64, 640]⟩
abbrev S1024x512 : Shape := ⟨2, ![1024, 512]⟩
abbrev S1536x512 : Shape := ⟨2, ![1536, 512]⟩
abbrev S4x1024x640 : Shape := ⟨3, ![4, 1024, 640]⟩
abbrev S1x640 : Shape := ⟨2, ![1, 640]⟩
abbrev S512x512 : Shape := ⟨2, ![512, 512]⟩
abbrev S1024x128 : Shape := ⟨2, ![1024, 128]⟩
abbrev S1024 : Shape := ⟨1, ![1024]⟩
abbrev S1024x1 : Shape := ⟨2, ![1024, 1]⟩
abbrev S128x128 : Shape := ⟨2, ![128, 128]⟩
abbrev S640x128 : Shape := ⟨2, ![640, 128]⟩
abbrev S128x640 : Shape := ⟨2, ![128, 640]⟩
abbrev S1x128x640 : Shape := ⟨3, ![1, 128, 640]⟩
abbrev S1x64x640 : Shape := ⟨3, ![1, 64, 640]⟩
abbrev S64x640 : Shape := ⟨2, ![64, 640]⟩
abbrev S1x1x64x640 : Shape := ⟨4, ![1, 1, 64, 640]⟩
abbrev S64 : Shape := ⟨1, ![64]⟩
abbrev S64x1 : Shape := ⟨2, ![64, 1]⟩
abbrev S64x128 : Shape := ⟨2, ![64, 128]⟩

abbrev nBuf : Space → Nat
  | .hbm => 179
  | .vmem => 11
  | .smem => 0
  | _ => 0

abbrev hbmTy0_0 (i : Nat) : BufTy := match i % 128 with
  | 0 => ⟨S2x8192x8192, .f32⟩
  | 1 => ⟨S128, .f32⟩
  | 2 => ⟨S128, .f32⟩
  | 3 => ⟨S16x513, .f32⟩
  | 4 => ⟨S2x8192x8192, .bf16⟩
  | 5 => ⟨S16384x4x4x512, .bf16⟩
  | 6 => ⟨S16384x4x4x512, .bf16⟩
  | 7 => ⟨S16384x8192, .bf16⟩
  | 8 => ⟨S639, .i32⟩
  | 9 => ⟨S_, .i32⟩
  | 10 => ⟨S639, .i32⟩
  | 11 => ⟨S639, .i32⟩
  | 12 => ⟨S_, .i32⟩
  | 13 => ⟨S_, .i32⟩
  | 14 => ⟨S_, .i32⟩
  | 15 => ⟨S639, .i32⟩
  | 16 => ⟨S639, .i32⟩
  | 17 => ⟨S_, .i32⟩
  | 18 => ⟨S639, .i32⟩
  | 19 => ⟨S639, .i32⟩
  | 20 => ⟨S_, .i32⟩
  | 21 => ⟨S639, .i32⟩
  | 22 => ⟨S639, .i32⟩
  | 23 => ⟨S_, .i32⟩
  | 24 => ⟨S639, .i32⟩
  | 25 => ⟨S639, .i1⟩
  | 26 => ⟨S_, .i32⟩
  | 27 => ⟨S639, .i32⟩
  | 28 => ⟨S639, .i32⟩
  | 29 => ⟨S639, .i32⟩
  | 30 => ⟨S639x1, .i32⟩
  | 31 => ⟨S16x639, .f32⟩
  | 32 => ⟨S_, .f32⟩
  | 33 => ⟨S_, .f32⟩
  | 34 => ⟨S16x639, .f32⟩
  | 35 => ⟨S16x639, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x576, .f32⟩
  | 81 => ⟨S16x576, .f32⟩
  | 82 => ⟨S16x576, .f32⟩
  | 83 => ⟨S16x576, .f32⟩
  | 84 => ⟨S16x576, .f32⟩
  | 85 => ⟨S16x576, .f32⟩
  | 86 => ⟨S16x576, .f32⟩
  | 87 => ⟨S16x576, .f32⟩
  | 88 => ⟨S16x576, .f32⟩
  | 89 => ⟨S16x576, .f32⟩
  | 90 => ⟨S16x576, .f32⟩
  | 91 => ⟨S16x576, .f32⟩
  | 92 => ⟨S16x576, .f32⟩
  | 93 => ⟨S16x576, .f32⟩
  | 94 => ⟨S16x576, .f32⟩
  | 95 => ⟨S16x576, .f32⟩
  | 96 => ⟨S16x576, .f32⟩
  | 97 => ⟨S16x576, .f32⟩
  | 98 => ⟨S16x576, .f32⟩
  | 99 => ⟨S16x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S2x8192x8192, .f32⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x1x576, .f32⟩
  | 17 => ⟨S16x1x576, .f32⟩
  | 18 => ⟨S16x1x576, .f32⟩
  | 19 => ⟨S16x1x576, .f32⟩
  | 20 => ⟨S16x1x576, .f32⟩
  | 21 => ⟨S16x1x576, .f32⟩
  | 22 => ⟨S16x1x576, .f32⟩
  | 23 => ⟨S16x1x576, .f32⟩
  | 24 => ⟨S16x1x576, .f32⟩
  | 25 => ⟨S16x1x576, .f32⟩
  | 26 => ⟨S16x1x576, .f32⟩
  | 27 => ⟨S16x1x576, .f32⟩
  | 28 => ⟨S16x1x576, .f32⟩
  | 29 => ⟨S16x1x576, .f32⟩
  | 30 => ⟨S16x1x576, .f32⟩
  | 31 => ⟨S16x1x576, .f32⟩
  | 32 => ⟨S16x1x576, .f32⟩
  | 33 => ⟨S16x1x576, .f32⟩
  | 34 => ⟨S16x1x576, .f32⟩
  | 35 => ⟨S16x1x576, .f32⟩
  | 36 => ⟨S16x16x576, .f32⟩
  | 37 => ⟨S16x16x576, .f32⟩
  | 38 => ⟨S16x16x576, .f32⟩
  | 39 => ⟨S16x16x576, .f32⟩
  | 40 => ⟨S16x64x576, .f32⟩
  | 41 => ⟨S_, .f32⟩
  | 42 => ⟨S16x64x64, .f32⟩
  | 43 => ⟨S16x64x640, .f32⟩
  | 44 => ⟨S16x64x640, .f32⟩
  | 45 => ⟨S16x1x64x640, .f32⟩
  | 46 => ⟨S16x1x64x640, .f32⟩
  | 47 => ⟨S16x2x64x640, .f32⟩
  | 48 => ⟨S1x128, .f32⟩
  | 49 => ⟨S1x128, .f32⟩
  | 50 => ⟨S16384x2048, .bf16⟩
  | _ => ⟨S2x8192x8192, .f32⟩

abbrev hbmTy (i : Nat) : BufTy := match i / 128 with
  | 0 => hbmTy0_0 i
  | 1 => hbmTy0_1 i
  | _ => ⟨S2x8192x8192, .f32⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S1x128, .f32⟩
  | .local _ .vmem, ⟨3, _⟩ => ⟨S1x128, .f32⟩
  | .local _ .vmem, ⟨4, _⟩ => ⟨S4x2x64x640, .f32⟩
  | .local _ .vmem, ⟨5, _⟩ => ⟨S4x2x64x640, .f32⟩
  | .local _ .vmem, ⟨6, _⟩ => ⟨S1024x512, .bf16⟩
  | .local _ .vmem, ⟨7, _⟩ => ⟨S1024x512, .bf16⟩
  | .local _ .vmem, ⟨8, _⟩ => ⟨S1536x512, .bf16⟩
  | .local _ .vmem, ⟨9, _⟩ => ⟨S1536x512, .bf16⟩
  | .local _ .vmem, ⟨10, _⟩ => ⟨S4x1024x640, .f32⟩
  | _, _ => ⟨S2x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_cst_5 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg2 : BitVec 32 := BitVec.ofNat 32 (i 2).val
  let c0_i32_1 : BitVec 32 := 0#32
  let v4 : BitVec 1 := Scalar.cmpi .sgt arg2 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S4x2x64x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S2x8192x8192 : Shape := ⟨3, ![2, 8192, 8192]⟩
abbrev S128 : Shape := ⟨1, ![128]⟩
abbrev S16x513 : Shape := ⟨2, ![16, 513]⟩
abbrev S2x8192x2048 : Shape := ⟨3, ![2, 8192, 2048]⟩
abbrev S2x8192x16x128 : Shape := ⟨4, ![2, 8192, 16, 128]⟩
abbrev S_ : Shape := ⟨0, ![]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩
abbrev S2x8704x16x128 : Shape := ⟨4, ![2, 8704, 16, 128]⟩
abbrev S2x128x64x16x128 : Shape := ⟨5, ![2, 128, 64, 16, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128x1 : Shape := ⟨2, ![128, 1]⟩
abbrev S128x576 : Shape := ⟨2, ![128, 576]⟩
abbrev S128x576x1 : Shape := ⟨3, ![128, 576, 1]⟩
abbrev S2x128x576x16x128 : Shape := ⟨5, ![2, 128, 576, 16, 128]⟩
abbrev S2x128x16x64x576 : Shape := ⟨5, ![2, 128, 16, 64, 576]⟩
abbrev S1x1x16x64x576 : Shape := ⟨5, ![1, 1, 16, 64, 576]⟩
abbrev S1x128x1x1x576 : Shape := ⟨5, ![1, 128, 1, 1, 576]⟩
abbrev S2x128x16x64 : Shape := ⟨4, ![2, 128, 16, 64]⟩
abbrev S2x128x16x64x1 : Shape := ⟨5, ![2, 128, 16, 64, 1]⟩
abbrev S2x128x16x128x64 : Shape := ⟨5, ![2, 128, 16, 128, 64]⟩
abbrev S16384x2048 : Shape := ⟨2, ![16384, 2048]⟩

abbrev nBuf : Space → Nat
  | .hbm => 156
  | .vmem => 0
  | .smem => 0
  | _ => 0

abbrev hbmTy0_0 (i : Nat) : BufTy := match i % 128 with
  | 0 => ⟨S2x8192x8192, .f32⟩
  | 1 => ⟨S128, .f32⟩
  | 2 => ⟨S128, .f32⟩
  | 3 => ⟨S16x513, .f32⟩
  | 4 => ⟨S2x8192x2048, .f32⟩
  | 5 => ⟨S2x8192x16x128, .f32⟩
  | 6 => ⟨S2x8192x16x128, .f32⟩
  | 7 => ⟨S_, .f32⟩
  | 8 => ⟨S2x8192x16, .f32⟩
  | 9 => ⟨S2x8192x16x1, .f32⟩
  | 10 => ⟨S_, .f32⟩
  | 11 => ⟨S2x8192x16x1, .f32⟩
  | 12 => ⟨S2x8192x16x1, .f32⟩
  | 13 => ⟨S_, .f32⟩
  | 14 => ⟨S2x8192x16x1, .f32⟩
  | 15 => ⟨S2x8192x16x1, .f32⟩
  | 16 => ⟨S2x8192x16x1, .f32⟩
  | 17 => ⟨S2x8192x16x128, .f32⟩
  | 18 => ⟨S2x8192x16x128, .f32⟩
  | 19 => ⟨S1x1x1x128, .f32⟩
  | 20 => ⟨S2x8192x16x128, .f32⟩
  | 21 => ⟨S2x8192x16x128, .f32⟩
  | 22 => ⟨S2x8192x2048, .f32⟩
  | 23 => ⟨S2x8192x16x128, .f32⟩
  | 24 => ⟨S2x8192x16x128, .f32⟩
  | 25 => ⟨S_, .f32⟩
  | 26 => ⟨S2x8192x16, .f32⟩
  | 27 => ⟨S2x8192x16x1, .f32⟩
  | 28 => ⟨S_, .f32⟩
  | 29 => ⟨S2x8192x16x1, .f32⟩
  | 30 => ⟨S2x8192x16x1, .f32⟩
  | 31 => ⟨S_, .f32⟩
  | 32 => ⟨S2x8192x16x1, .f32⟩
  | 33 => ⟨S2x8192x16x1, .f32⟩
  | 34 => ⟨S2x8192x16x1, .f32⟩
  | 35 => ⟨S2x8192x16x128, .f32⟩
  | 36 => ⟨S2x8192x16x128, .f32⟩
  | 37 => ⟨S1x1x1x128, .f32⟩
  | 38 => ⟨S2x8192x16x128, .f32⟩
  | 39 => ⟨S2x8192x16x128, .f32⟩
  | 40 => ⟨S2x8192x2048, .f32⟩
  | 41 => ⟨S2x8192x16x128, .f32⟩
  | 42 => ⟨S2x8192x2048, .f32⟩
  | 43 => ⟨S_, .i32⟩
  | 44 => ⟨S_, .f32⟩
  | 45 => ⟨S2x8704x16x128, .f32⟩
  | 46 => ⟨S_, .i32⟩
  | 47 => ⟨S_, .f32⟩
  | 48 => ⟨S2x8704x16x128, .f32⟩
  | 49 => ⟨S2x128x64x16x128, .f32⟩
  | 50 => ⟨S64, .i32⟩
  | 51 => ⟨S576, .i32⟩
  | 52 => ⟨S64x1, .i32⟩
  | 53 => ⟨S_, .i32⟩
  | 54 => ⟨S64x1, .i32⟩
  | 55 => ⟨S64x1, .i32⟩
  | 56 => ⟨S1x576, .i32⟩
  | 57 => ⟨S64x576, .i32⟩
  | 58 => ⟨S64x576, .i32⟩
  | 59 => ⟨S64x576, .i32⟩
  | 60 => ⟨S_, .i32⟩
  | 61 => ⟨S_, .i32⟩
  | 62 => ⟨S_, .i32⟩
  | 63 => ⟨S64x576, .i32⟩
  | 64 => ⟨S64x576, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i32⟩
  | 71 => ⟨S_, .i32⟩
  | 72 => ⟨S64x576, .i32⟩
  | 73 => ⟨S64x576, .i1⟩
  | 74 => ⟨S_, .i32⟩
  | 75 => ⟨S64x576, .i32⟩
  | 76 => ⟨S64x576, .i32⟩
  | 77 => ⟨S64x576, .i32⟩
  | 78 => ⟨S64x576x1, .i32⟩
  | 79 => ⟨S16x64x576, .f32⟩
  | 80 => ⟨S128, .i32⟩
  | 81 => ⟨S128x1, .i32⟩
  | 82 => ⟨S_, .i32⟩
  | 83 => ⟨S128x1, .i32⟩
  | 84 => ⟨S128x1, .i32⟩
  | 85 => ⟨S1x576, .i32⟩
  | 86 => ⟨S128x576, .i32⟩
  | 87 => ⟨S128x576, .i32⟩
  | 88 => ⟨S128x576, .i32⟩
  | 89 => ⟨S_, .i32⟩
  | 90 => ⟨S128x576, .i32⟩
  | 91 => ⟨S128x576, .i1⟩
  | 92 => ⟨S_, .i32⟩
  | 93 => ⟨S128x576, .i32⟩
  | 94 => ⟨S128x576, .i32⟩
  | 95 => ⟨S128x576, .i32⟩
  | 96 => ⟨S128x576x1, .i32⟩
  | 97 => ⟨S2x128x576x16x128, .f32⟩
  | 98 => ⟨S_, .i32⟩
  | 99 => ⟨S128x576, .i32⟩
  | 100 => ⟨S128x576, .i1⟩
  | 101 => ⟨S_, .i32⟩
  | 102 => ⟨S128x576, .i32⟩
  | 103 => ⟨S128x576, .i32⟩
  | 104 => ⟨S128x576, .i32⟩
  | 105 => ⟨S128x576x1, .i32⟩
  | 106 => ⟨S2x128x576x16x128, .f32⟩
  | 107 => ⟨S2x128x16x64x576, .f32⟩
  | 108 => ⟨S_, .f32⟩
  | 109 => ⟨S_, .f32⟩
  | 110 => ⟨S2x128x16x64x576, .f32⟩
  | 111 => ⟨S2x128x16x64x576, .f32⟩
  | 112 => ⟨S1x1x16x64x576, .f32⟩
  | 113 => ⟨S2x128x16x64x576, .f32⟩
  | 114 => ⟨S2x128x16x64x576, .f32⟩
  | 115 => ⟨S_, .i32⟩
  | 116 => ⟨S128x576, .i32⟩
  | 117 => ⟨S128x576, .i32⟩
  | 118 => ⟨S_, .i32⟩
  | 119 => ⟨S128x576, .i32⟩
  | 120 => ⟨S128x576, .i1⟩
  | 121 => ⟨S1x128x1x1x576, .i1⟩
  | 122 => ⟨S_, .f32⟩
  | 123 => ⟨S_, .f32⟩
  | 124 => ⟨S2x128x16x64x576, .i1⟩
  | 125 => ⟨S2x128x16x64x576, .f32⟩
  | 126 => ⟨S2x128x16x64x576, .f32⟩
  | 127 => ⟨S_, .f32⟩
  | _ => ⟨S2x8192x8192, .f32⟩

abbrev hbmTy0_1 (i : Nat) : BufTy := match i % 128 with
  | 0 => ⟨S2x128x16x64, .f32⟩
  | 1 => ⟨S_, .f32⟩
  | 2 => ⟨S2x128x16x64, .f32⟩
  | 3 => ⟨S2x128x16x64, .f32⟩
  | 4 => ⟨S2x128x16x64x1, .f32⟩
  | 5 => ⟨S2x128x16x64x576, .f32⟩
  | 6 => ⟨S2x128x16x64x576, .f32⟩
  | 7 => ⟨S2x128x16x64x576, .f32⟩
  | 8 => ⟨S_, .f32⟩
  | 9 => ⟨S2x128x16x64, .f32⟩
  | 10 => ⟨S2x128x16x64x1, .f32⟩
  | 11 => ⟨S2x128x16x64x576, .f32⟩
  | 12 => ⟨S2x128x16x64x576, .f32⟩
  | 13 => ⟨S2x128x16x128x64, .f32⟩
  | 14 => ⟨S2x128x64x16x128, .f32⟩
  | 15 => ⟨S2x8192x2048, .f32⟩
  | 16 => ⟨S2x8192x2048, .f32⟩
  | 17 => ⟨S2x8192x2048, .f32⟩
  | 18 => ⟨S_, .f32⟩
  | 19 => ⟨S2x8192x2048, .f32⟩
  | 20 => ⟨S2x8192x2048, .f32⟩
  | 21 => ⟨S_, .f32⟩
  | 22 => ⟨S2x8192x2048, .f32⟩
  | 23 => ⟨S2x8192x2048, .f32⟩
  | 24 => ⟨S2x8192x2048, .f32⟩
  | 25 => ⟨S2x8192x2048, .f32⟩
  | 26 => ⟨S16384x2048, .f32⟩
  | 27 => ⟨S16384x2048, .bf16⟩
  | _ => ⟨S2x8192x8192, .f32⟩

abbrev hbmTy (i : Nat) : BufTy := match i / 128 with
  | 0 => hbmTy0_0 i
  | 1 => hbmTy0_1 i
  | _ => ⟨S2x8192x8192, .f32⟩

abbrev bufTy : (tb : Table) → Fin (tcTables nBuf tb) → BufTy
  | .hbm, ⟨i, _⟩ => hbmTy i
  | _, _ => ⟨S2x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_c_5 : Ref sig .tc := ⟨.hbm, 46, rfl⟩
abbrev main_call1_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_c_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_c_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_20 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_cst_22 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_23 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_call4_v0 : Ref sig .tc := ⟨.hbm, 144, rfl⟩
abbrev main_call4_v1 : Ref sig .tc := ⟨.hbm, 145, rfl⟩
abbrev main_call4_cst : Ref sig .tc := ⟨.hbm, 146, rfl⟩
abbrev main_call4_v2 : Ref sig .tc := ⟨.hbm, 147, rfl⟩
abbrev main_call4_v3 : Ref sig .tc := ⟨.hbm, 148, rfl⟩
abbrev main_call4_cst_0 : Ref sig .tc := ⟨.hbm, 149, rfl⟩
abbrev main_call4_v4 : Ref sig .tc := ⟨.hbm, 150, rfl⟩
abbrev main_call4_v5 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048 : Shape := ⟨1, ![2048]⟩
abbrev S2048x8192 : Shape := ⟨2, ![2048, 8192]⟩
abbrev S16384x2048 : Shape := ⟨2, ![16384, 2048]⟩
abbrev S1x2048 : Shape := ⟨2, ![1, 2048]⟩
abbrev S16384x8192 : Shape := ⟨2, ![16384, 8192]⟩
abbrev S1024x2048 : Shape := ⟨2, ![1024, 2048]⟩
abbrev S2048x512 : Shape := ⟨2, ![2048, 512]⟩
abbrev S1024 : Shape := ⟨1, ![1024]⟩
abbrev S1024x1 : Shape := ⟨2, ![1024, 1]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x8192, .f32⟩
  | .hbm, ⟨3, _⟩ => ⟨S16384x2048, .f32⟩
  | .hbm, ⟨4, _⟩ => ⟨S2048x8192, .bf16⟩
  | .hbm, ⟨5, _⟩ => ⟨S1x2048, .f32⟩
  | .hbm, ⟨6, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x2048 : Shape := ⟨3, ![2, 8192, 2048]⟩
abbrev S2048 : Shape := ⟨1, ![2048]⟩
abbrev S2048x8192 : Shape := ⟨2, ![2048, 8192]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x8192 : Shape := ⟨3, ![2, 8192, 8192]⟩
abbrev S16384x4x4x512 : Shape := ⟨4, ![16384, 4, 4, 512]⟩
abbrev S16384x8192 : Shape := ⟨2, ![16384, 8192]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x8192, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S2x8192x8192, .f32⟩
  | .hbm, ⟨20, _⟩ => ⟨S16384x4x4x512, .f32⟩
  | .hbm, ⟨21, _⟩ => ⟨S16384x4x4x512, .f32⟩
  | .hbm, ⟨22, _⟩ => ⟨S16384x8192, .f32⟩
  | .hbm, ⟨23, _⟩ => ⟨S16384x8192, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S2x8192x2048 : Shape := ⟨3, ![2, 8192, 2048]⟩
abbrev S2048x2048 : Shape := ⟨2, ![2048, 2048]⟩
abbrev S16384x2048 : Shape := ⟨2, ![16384, 2048]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2x8192x2048, .bf16⟩
  | .hbm, ⟨4, _⟩ => ⟨S16384x2048, .bf16⟩
  | .hbm, ⟨5, _⟩ => ⟨S16384x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x8192x2048 : Shape := ⟨3, ![2, 8192, 2048]⟩
abbrev S2048x2048 : Shape := ⟨2, ![2048, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2x8192x2048, .f32⟩
  | .hbm, ⟨4, _⟩ => ⟨S2x8192x2048, .f32⟩
  | .hbm, ⟨5, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2x8192x2048 : Shape := ⟨3, ![2, 8192, 2048]⟩
abbrev S2048 : Shape := ⟨1, ![2048]⟩
abbrev S2048x8224 : Shape := ⟨2, ![2048, 8224]⟩
abbrev S8224x2048 : Shape := ⟨2, ![8224, 2048]⟩
abbrev S32x2048 : Shape := ⟨2, ![32, 2048]⟩
abbrev S_ : Shape := ⟨0, ![]⟩
abbrev S128x2048 : Shape := ⟨2, ![128, 2048]⟩
abbrev S16384x2048 : Shape := ⟨2, ![16384, 2048]⟩
abbrev S1x2048 : Shape := ⟨2, ![1, 2048]⟩
abbrev S16384x8192 : Shape := ⟨2, ![16384, 8192]⟩
abbrev S16384x128 : Shape := ⟨2, ![16384, 128]⟩
abbrev S1024x2048 : Shape := ⟨2, ![1024, 2048]⟩
abbrev S512x2048 : Shape := ⟨2, ![512, 2048]⟩
abbrev S1024x128 : Shape := ⟨2, ![1024, 128]⟩
abbrev S1024 : Shape := ⟨1, ![1024]⟩
abbrev S1024x1 : Shape := ⟨2, ![1024, 1]⟩
abbrev S1024x512 : Shape := ⟨2, ![1024, 512]⟩

abbrev nBuf : Space → Nat
  | .hbm => 14
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x8224, .f32⟩
  | .hbm, ⟨3, _⟩ => ⟨S8224x2048, .f32⟩
  | .hbm, ⟨4, _⟩ => ⟨S32x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S16384x2048, .f32⟩
  | .hbm, ⟨10, _⟩ => ⟨S8224x2048, .bf16⟩
  | .hbm, ⟨11, _⟩ => ⟨S1x2048, .f32⟩
  | .hbm, ⟨12, _⟩ => ⟨S16384x8192, .bf16⟩
  | .hbm, ⟨13, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S128x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S2x8192x2048 : Shape := ⟨3, ![2, 8192, 2048]⟩
abbrev S2048 : Shape := ⟨1, ![2048]⟩
abbrev S2048x8224 : Shape := ⟨2, ![2048, 8224]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x8224 : Shape := ⟨3, ![2, 8192, 8224]⟩
abbrev S16384x8224 : Shape := ⟨2, ![16384, 8224]⟩
abbrev S16384x8192 : Shape := ⟨2, ![16384, 8192]⟩
abbrev S16384x4x4x512 : Shape := ⟨4, ![16384, 4, 4, 512]⟩
abbrev S16384x32 : Shape := ⟨2, ![16384, 32]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x8224, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | .hbm, ⟨19, _⟩ => ⟨S2x8192x8224, .f32⟩
  | .hbm, ⟨20, _⟩ => ⟨S16384x8224, .f32⟩
  | .hbm, ⟨21, _⟩ => ⟨S16384x8192, .f32⟩
  | .hbm, ⟨22, _⟩ => ⟨S16384x4x4x512, .f32⟩
  | .hbm, ⟨23, _⟩ => ⟨S16384x32, .f32⟩
  | .hbm, ⟨24, _⟩ => ⟨S_, .i32⟩
  | .hbm, ⟨25, _⟩ => ⟨S_, .f32⟩
  | .hbm, ⟨26, _⟩ => ⟨S16384x128, .f32⟩
  | .hbm, ⟨27, _⟩ => ⟨S16384x4x4x512, .f32⟩
  | .hbm, ⟨28, _⟩ => ⟨S16384x8192, .f32⟩
  | .hbm, ⟨29, _⟩ => ⟨S16384x8192, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.RefTerm.lean ====
module

public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ReferenceIdeal.Att
open Cert.ReferenceIdeal Cert.ReferenceIdeal.Gen Cert.ReferenceIdeal.Value Idealize.ShloMosaic.StableHlo

/-! ## The reference's term, cut into its steps -/

/-- The position of entry `j` of chunk `n`'s band, in the padded sequence. -/
def posI : IVec S128x576 32 :=
  addi (broadcastInDim S128x576 ![0, 1] bcast_S128x1_S128x576_0_1 (muli (broadcastInDim S128x1 ![0] bcast_S128_S128x1_0 (iotaInDim S128 32 0)) (broadcastInDim S128x1 ![] bcast_S_S128x1 (constantI S_ 32 64#32)))) (broadcastInDim S128x576 ![0, 1] bcast_S1x576_S128x576_0_1 (broadcastInDim S1x576 ![1] bcast_S576_S1x576_1 (iotaInDim S576 32 0)))

/-- The rows that a gather of the bands reads. -/
def rowI : IVec S128x576x1 32 :=
  broadcastInDim S128x576x1 ![0, 1] bcast_S128x576_S128x576x1_0_1 (select (cmpi .slt posI (broadcastInDim S128x576 ![] bcast_S_S128x576 (constantI S_ 32 0#32))) (addi posI (broadcastInDim S128x576 ![] bcast_S_S128x576 (constantI S_ 32 8704#32))) posI)

/-- Whether a band's entry lies in the sequence. -/
def liveI : IVec S128x576 1 :=
  cmpi .sge (subi posI (broadcastInDim S128x576 ![] bcast_S_S128x576 (constantI S_ 32 512#32))) (broadcastInDim S128x576 ![] bcast_S_S128x576 (constantI S_ 32 0#32))

/-- The clipped distance, as a column of the bias. -/
def distI : IVec S64x576 32 :=
  addi (minsi (broadcastInDim S64x576 ![] bcast_S_S64x576 (id (constantI S_ 32 256#32))) (maxsi (broadcastInDim S64x576 ![] bcast_S_S64x576 (id (constantI S_ 32 4294967040#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 256#32))

/-- The columns that the gather of the bias reads. -/
def colI : IVec S64x576x1 32 :=
  broadcastInDim S64x576x1 ![0, 1] bcast_S64x576_S64x576x1_0_1 (select (cmpi .slt distI (broadcastInDim S64x576 ![] bcast_S_S64x576 (constantI S_ 32 0#32))) (addi distI (broadcastInDim S64x576 ![] bcast_S_S64x576 (constantI S_ 32 513#32))) distI)

/-- The root mean square norm of every head. -/
def normR (x : FVec Ideal S2x8192x16x128 .f32) (w : FVec Ideal S128 .f32) : FVec Ideal S2x8192x16x128 .f32 :=
  mulf (mulf x (broadcastInDim S2x8192x16x128 ![0, 1, 2, 3] bcast_S2x8192x16x1_S2x8192x16x128_0_1_2_3 (Host.rsqrt (addf (Host.divf (broadcastInDim S2x8192x16x1 ![0, 1, 2] bcast_S2x8192x16_S2x8192x16x1_0_1_2 (Host.reduceAdd (mulf x x) (constant (F := Ideal) S_ .f32 0x00000000#32) reducesTo_S2x8192x16x128_S2x8192x16_d3 h_S_)) (broadcastInDim S2x8192x16x1 ![] bcast_S_S2x8192x16x1 (constant (F := Ideal) S_ .f32 0x43000000#32))) (broadcastInDim S2x8192x16x1 ![] bcast_S_S2x8192x16x1 (constant (F := Ideal) S_ .f32 0x358637BD#32)))))) (broadcastInDim S2x8192x16x128 ![0, 1, 2, 3] bcast_S1x1x1x128_S2x8192x16x128_0_1_2_3 (broadcastInDim S1x1x1x128 ![3] bcast_S128_S1x1x1x128_3 w))

/-- The bands of the padded sequence, one for each chunk. -/
def bandR (x : FVec Ideal S2x8192x16x128 .f32) : FVec Ideal S2x128x576x16x128 .f32 :=
  Host.gather gather_S2x8704x16x128_S128x576x1_S2x128x576x16x128_034_1_n_n_1_2_2116128 (pad S2x8704x16x128 ![0, 512, 0, 0] ![0, 0, 0, 0] ![0, 0, 0, 0] x (sitofp (F := Ideal) .f32 (constantI S_ 32 0#32)) pads_S2x8192x16x128_S2x8704x16x128_000_51200_000_000 h_S_) rowI

/-- The bias of the distance between token and band entry. -/
def biasR (x : FVec Ideal S16x513 .f32) : FVec Ideal S16x64x576 .f32 :=
  Host.gather gather_S16x513_S64x576x1_S16x64x576_0_1_n_n_1_2_161 x colI

/-- The masked logits. -/
def logitR (q : FVec Ideal S2x8192x16x128 .f32) (k : FVec Ideal S2x128x576x16x128 .f32) (β : FVec Ideal S16x64x576 .f32) : FVec Ideal S2x128x16x64x576 .f32 :=
  select (broadcastInDim S2x128x16x64x576 ![0, 1, 2, 3, 4] bcast_S1x128x1x1x576_S2x128x16x64x576_0_1_2_3_4 (broadcastInDim S1x128x1x1x576 ![1, 4] bcast_S128x576_S1x128x1x1x576_1_4 liveI))
    (addf (Host.divf (Host.dotGeneral dot_S2x128x64x16x128_S2x128x576x16x128_S2x128x16x64x576_4_4_2_2_013_013 none (shapeCast S2x128x64x16x128 q shapeCasts_S2x8192x16x128_S2x128x64x16x128) k) (broadcastInDim S2x128x16x64x576 ![] bcast_S_S2x128x16x64x576 (Host.sqrt (constant (F := Ideal) S_ .f32 0x43000000#32)))) (broadcastInDim S2x128x16x64x576 ![0, 1, 2, 3, 4] bcast_S1x1x16x64x576_S2x128x16x64x576_0_1_2_3_4 (broadcastInDim S1x1x16x64x576 ![2, 3, 4] bcast_S16x64x576_S1x1x16x64x576_2_3_4 β)))
    (broadcastInDim S2x128x16x64x576 ![] bcast_S_S2x128x16x64x576 (id (constant (F := Ideal) S_ .f32 0xFF800000#32)))

/-- The exponentials of the logits less their maximum. -/
def expR (l : FVec Ideal S2x128x16x64x576 .f32) : FVec Ideal S2x128x16x64x576 .f32 :=
  Host.exp (subf l (broadcastInDim S2x128x16x64x576 ![0, 1, 2, 3, 4] bcast_S2x128x16x64x1_S2x128x16x64x576_0_1_2_3_4 (broadcastInDim S2x128x16x64x1 ![0, 1, 2, 3] bcast_S2x128x16x64_S2x128x16x64x1_0_1_2_3 (maximumf (broadcastInDim S2x128x16x64 ![] bcast_S_S2x128x16x64 (constant (F := Ideal) S_ .f32 0xFF800000#32)) (Host.reduce FloatOps.maximumf l (constant (F := Ideal) S_ .f32 0xFF800000#32) reducesTo_S2x128x16x64x576_S2x128x16x64_d4 h_S_)))))

/-- The softmax of the logits. -/
def softR (l : FVec Ideal S2x128x16x64x576 .f32) : FVec Ideal S2x128x16x64x576 .f32 :=
  Host.divf (expR l) (broadcastInDim S2x128x16x64x576 ![0, 1, 2, 3, 4] bcast_S2x128x16x64x1_S2x128x16x64x576_0_1_2_3_4 (broadcastInDim S2x128x16x64x1 ![0, 1, 2, 3] bcast_S2x128x16x64_S2x128x16x64x1_0_1_2_3 (Host.reduceAdd (expR l) (constant (F := Ideal) S_ .f32 0x00000000#32) reducesTo_S2x128x16x64x576_S2x128x16x64_d4 h_S_)))

/-- The heads of the part that starts at a column. -/
def partQ (a : FVec Ideal S2x8192x8192 .f32) : FVec Ideal S2x8192x16x128 .f32 :=
  shapeCast S2x8192x16x128 (extractStridedSlice S2x8192x2048 ![0, 0, 0] a slices_S2x8192x8192_S2x8192x2048_0_0_0) shapeCasts_S2x8192x2048_S2x8192x16x128

/-- The keys' heads. -/
def partK (a : FVec Ideal S2x8192x8192 .f32) : FVec Ideal S2x8192x16x128 .f32 :=
  shapeCast S2x8192x16x128 (extractStridedSlice S2x8192x2048 ![0, 0, 2048] a slices_S2x8192x8192_S2x8192x2048_0_0_2048) shapeCasts_S2x8192x2048_S2x8192x16x128

/-- The values' heads. -/
def partV (a : FVec Ideal S2x8192x8192 .f32) : FVec Ideal S2x8192x16x128 .f32 :=
  shapeCast S2x8192x16x128 (extractStridedSlice S2x8192x2048 ![0, 0, 4096] a slices_S2x8192x8192_S2x8192x2048_0_0_4096) shapeCasts_S2x8192x2048_S2x8192x16x128

/-- The gate. -/
def partZ (a : FVec Ideal S2x8192x8192 .f32) : FVec Ideal S2x8192x2048 .f32 :=
  extractStridedSlice S2x8192x2048 ![0, 0, 6144] a slices_S2x8192x8192_S2x8192x2048_0_0_6144

/-- The values weighted by the softmax, heads beside one another. -/
def mixR (v : FVec Ideal S2x128x576x16x128 .f32) (p : FVec Ideal S2x128x16x64x576 .f32) : FVec Ideal S2x8192x2048 .f32 :=
  shapeCast S2x8192x2048 (transpose S2x128x64x16x128 [0, 1, 4, 2, 3] (Host.dotGeneral dot_S2x128x576x16x128_S2x128x16x64x576_S2x128x16x128x64_2_4_4_3_013_012 none v p) transposes_S2x128x16x128x64_S2x128x64x16x128_0_1_4_2_3) shapeCasts_S2x128x64x16x128_S2x8192x2048

/-- The gate's function. -/
def siluR (z : FVec Ideal S2x8192x2048 .f32) : FVec Ideal S2x8192x2048 .f32 :=
  mulf z (Host.divf (broadcastInDim S2x8192x2048 ![] bcast_S_S2x8192x2048 (constant (F := Ideal) S_ .f32 0x3F800000#32)) (addf (broadcastInDim S2x8192x2048 ![] bcast_S_S2x8192x2048 (constant (F := Ideal) S_ .f32 0x3F800000#32)) (Host.exp (Host.negf z))))

/-- The gated output, a row for each token. -/
def gateR (o z : FVec Ideal S2x8192x2048 .f32) : FVec Ideal S16384x2048 .bf16 :=
  truncf (F := Ideal) .bf16 (shapeCast S16384x2048 (mulf o (siluR z)) shapeCasts_S2x8192x2048_S16384x2048) bitsLt_bf16_f32

variable (m : (ℓ : Loc nD τ sig) → Buf (Elt Ideal) ℓ) (c : Dev nD)

/-- The reference's result by its steps. -/
theorem res_eq (a0 : FVec Ideal S2x8192x8192 .f32) (a1 a2 : FVec Ideal S128 .f32) (a3 : FVec Ideal S16x513 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3) :
    res_main_v107 m c = gateR (mixR (bandR (partV a0)) (softR (logitR (normR (partQ a0) a1) (bandR (normR (partK a0) a2)) (biasR a3)))) (partZ a0) := by
  subst h0 h1 h2 h3
  rfl

end Cert.ReferenceIdeal.Att
-- ==== Proof.Entry.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.KernelIdeal.Att
open Cert.KernelIdeal Cert.KernelIdeal.Gen Cert.KernelIdeal.Value

/-! ## What the host hands to the grid region -/

variable (m : (ℓ : Loc nD τ sig) → Buf (Elt Ideal) ℓ) (c : Dev nD)

theorem V_v3 : V m c main_v3 = (shapeCast S16384x8192 (transpose S16384x4x4x512 [0, 2, 1, 3] (shapeCast S16384x4x4x512 (truncf (F := Ideal) .bf16 (m ((c : Thread nD τ).loc main_arg0) : FVec Ideal S2x8192x8192 .f32) bitsLt_bf16_f32) shapeCasts_S2x8192x8192_S16384x4x4x512) transposes_S16384x4x4x512_S16384x4x4x512_0_2_1_3) shapeCasts_S16384x4x4x512_S16384x8192 : FVec Ideal S16384x8192 .bf16) := by
  entry_read
  rfl

theorem V_v159 : V m c main_v159 = (shapeCast S1x128 (m ((c : Thread nD τ).loc main_arg1) : FVec Ideal S128 .f32) shapeCasts_S128_S1x128 : FVec Ideal S1x128 .f32) := by
  entry_read
  rfl

theorem slices_row (k : ℕ) (hk : k < 64) : S16x639.Slices ![0, 63 - k] S16x576 := by
  revert k
  decide

/-- Row `k` of the bias: the diagonals from `63 - k`. -/
def biasRow (x : FVec Ideal S16x639 .f32) (k : ℕ) (hk : k < 64) : FVec Ideal S16x1x576 .f32 :=
  broadcastInDim S16x1x576 ![0, 2] bcast_S16x576_S16x1x576_0_2 (extractStridedSlice S16x576 ![0, 63 - k] x (slices_row k hk))

theorem concatenates_rows : Shape.Concatenates ((List.replicate 16 S16x1x576)) S16x16x576 1 := by decide

/-- Sixteen rows from row `o`, one above the other. -/
def biasRows (x : FVec Ideal S16x639 .f32) (o : ℕ) (ho : o ≤ 48) : FVec Ideal S16x16x576 .f32 :=
  concatenate S16x16x576 1 (List.ofFn fun n : Fin 16 => (⟨S16x1x576, biasRow x (o + n.val) (by omega)⟩ : (s : Shape) × (s.Idx → Ideal .f32))) concatenates_rows

theorem V_v148 : V m c main_v148 = biasRows (V m c main_v19) 0 (by decide) := by
  unfold biasRows
  after_reads_simp
  refine StableHlo.concatenate_congr _ _ ?_ _ _
  simp only [List.ofFn_succ, List.ofFn_zero]
  repeat' refine congrArg₂ List.cons ?_ ?_
  rotate_right
  · rfl
  all_goals refine congrArg (Sigma.mk _) ?_
  all_goals dsimp only [Matrix.cons_val]
  all_goals after_reads_simp
  all_goals rfl

theorem V_v149 : V m c main_v149 = biasRows (V m c main_v19) 16 (by decide) := by
  unfold biasRows
  after_reads_simp
  refine StableHlo.concatenate_congr _ _ ?_ _ _
  simp only [List.ofFn_succ, List.ofFn_zero]
  repeat' refine congrArg₂ List.cons ?_ ?_
  rotate_right
  · rfl
  all_goals refine congrArg (Sigma.mk _) ?_
  all_goals dsimp only [Matrix.cons_val]
  all_goals after_reads_simp
  all_goals rfl

theorem V_v150 : V m c main_v150 = biasRows (V m c main_v19) 32 (by decide) := by
  unfold biasRows
  after_reads_simp
  refine StableHlo.concatenate_congr _ _ ?_ _ _
  simp only [List.ofFn_succ, List.ofFn_zero]
  repeat' refine congrArg₂ List.cons ?_ ?_
  rotate_right
  · rfl
  all_goals refine congrArg (Sigma.mk _) ?_
  all_goals dsimp only [Matrix.cons_val]
  all_goals after_reads_simp
  all_goals rfl

theorem V_v151 : V m c main_v151 = biasRows (V m c main_v19) 48 (by decide) := by
  unfold biasRows
  after_reads_simp
  refine StableHlo.concatenate_congr _ _ ?_ _ _
  simp only [List.ofFn_succ, List.ofFn_zero]
  repeat' refine congrArg₂ List.cons ?_ ?_
  rotate_right
  · rfl
  all_goals refine congrArg (Sigma.mk _) ?_
  all_goals dsimp only [Matrix.cons_val]
  all_goals after_reads_simp
  all_goals rfl

theorem V_v152 : V m c main_v152 = (concatenate S16x64x576 1 [⟨S16x16x576, (V m c main_v148 : FVec Ideal S16x16x576 .f32)⟩, ⟨S16x16x576, (V m c main_v149 : FVec Ideal S16x16x576 .f32)⟩, ⟨S16x16x576, (V m c main_v150 : FVec Ideal S16x16x576 .f32)⟩, ⟨S16x16x576, (V m c main_v151 : FVec Ideal S16x16x576 .f32)⟩] concatenates_S16x16x576_S16x16x576_S16x16x576_S16x16x576_S16x64x576_d1 : FVec Ideal S16x64x576 .f32) := by
  after_reads_simp
  refine StableHlo.concatenate_congr _ _ ?_ _ _
  repeat' refine congrArg₂ List.cons ?_ ?_
  rotate_right
  · rfl
  all_goals refine congrArg (Sigma.mk _) ?_
  all_goals dsimp only [Matrix.cons_val]
  all_goals after_reads_simp
  all_goals rfl

/-- The bias's padding. -/
def biasPad : FVec Ideal S16x64x64 .f32 := broadcastInDim S16x64x64 ![] bcast_S_S16x64x64 (constant S_ .f32 0xFF800000#32)

theorem V_v154 : V m c main_v154 = (concatenate S16x64x640 2 [⟨S16x64x576, (V m c main_v152 : FVec Ideal S16x64x576 .f32)⟩, ⟨S16x64x64, biasPad⟩] concatenates_S16x64x576_S16x64x64_S16x64x640_d2 : FVec Ideal S16x64x640 .f32) := by
  after_reads_simp
  rfl

theorem V_v155 : V m c main_v155 = (concatenate S16x64x640 2 [⟨S16x64x64, biasPad⟩, ⟨S16x64x576, (V m c main_v152 : FVec Ideal S16x64x576 .f32)⟩] concatenates_S16x64x64_S16x64x576_S16x64x640_d2 : FVec Ideal S16x64x640 .f32) := by
  after_reads_simp
  rfl

theorem V_v158 : V m c main_v158 = (concatenate S16x2x64x640 1 [⟨S16x1x64x640, (broadcastInDim S16x1x64x640 ![0, 2, 3] bcast_S16x64x640_S16x1x64x640_0_2_3 (V m c main_v154 : FVec Ideal S16x64x640 .f32) : FVec Ideal S16x1x64x640 .f32)⟩, ⟨S16x1x64x640, (broadcastInDim S16x1x64x640 ![0, 2, 3] bcast_S16x64x640_S16x1x64x640_0_2_3 (V m c main_v155 : FVec Ideal S16x64x640 .f32) : FVec Ideal S16x1x64x640 .f32)⟩] concatenates_S16x1x64x640_S16x1x64x640_S16x2x64x640_d1 : FVec Ideal S16x2x64x640 .f32) := by
  after_reads_simp
  rfl

theorem V_v160 : V m c main_v160 = (shapeCast S1x128 (m ((c : Thread nD τ).loc main_arg2) : FVec Ideal S128 .f32) shapeCasts_S128_S1x128 : FVec Ideal S1x128 .f32) := by
  entry_read
  rfl

/-- The column of the bias's diagonals. -/
def diagIdx : IVec S639 32 :=
  addi (minsi (broadcastInDim S639 ![] bcast_S_S639 (constantI S_ 32 256#32)) (maxsi (broadcastInDim S639 ![] bcast_S_S639 (constantI S_ 32 4294967040#32)) (subi (broadcastInDim S639 ![] bcast_S_S639 (constantI S_ 32 575#32)) (iotaInDim S639 32 0)))) (broadcastInDim S639 ![] bcast_S_S639 (constantI S_ 32 256#32))

/-- The same, wrapped. -/
def diagIdx' : IVec S639x1 32 :=
  broadcastInDim S639x1 ![0] bcast_S639_S639x1_0 (select (cmpi .slt diagIdx (broadcastInDim S639 ![] bcast_S_S639 (constantI S_ 32 0#32))) (addi diagIdx (broadcastInDim S639 ![] bcast_S_S639 (constantI S_ 32 513#32))) diagIdx)

theorem V_v19 : V m c main_v19 = (Host.divf (F := Ideal) (Host.gather gather_S16x513_S639x1_S16x639_0_1_n_n_1_1_161 (m ((c : Thread nD τ).loc main_arg3) : FVec Ideal S16x513 .f32) diagIdx') (broadcastInDim S16x639 ![] bcast_S_S16x639 (Host.log (F := Ideal) (constant (F := Ideal) S_ .f32 0x40000000#32))) : FVec Ideal S16x639 .f32) := by
  after_reads_simp
  simp only [StableHlo.TRef.toBuf, StableHlo.TRef.ofBuf, cast_eq, id_eq]
  unfold diagIdx' diagIdx
  rfl

end Cert.KernelIdeal.Att
-- ==== Proof.EntryRead.lean ====
module

public import proofs.«01_k».proof.Proof.Entry
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.KernelIdeal.Att
open Cert.KernelIdeal Cert.KernelIdeal.Gen Cert.KernelIdeal.Value

/-! ## What the host hands to the grid region, read at an index -/

variable (m : (ℓ : Loc nD τ sig) → Buf (Elt Ideal) ℓ) (c : Dev nD)

/-- The gather of columns, read at an index. -/
theorem gather_cols {α : Type} (x : S16x513.Idx → α) (idx : IVec S639x1 32) (H : Fin 16) (t : Fin 639) :
    Host.gather gather_S16x513_S639x1_S16x639_0_1_n_n_1_1_161 x idx (ix2 H t)
      = x (ix2 H ⟨min (idx (ix2 t (0 : Fin 1))).toInt.toNat 512, by omega⟩) := by
  unfold Host.gather
  congr 1
  funext a
  refine Fin.ext ?_
  show (gather_S16x513_S639x1_S16x639_0_1_n_n_1_1_161).start (ix2 H t) idx a + (gather_S16x513_S639x1_S16x639_0_1_n_n_1_1_161).batchCoord (ix2 H t) a
      + (gather_S16x513_S639x1_S16x639_0_1_n_n_1_1_161).offCoord (ix2 H t) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    rw [Nat.zero_add]
    rfl
  · rw [GatherDims.offCoord_eq_zero _ _ _ (by decide)]
    unfold GatherDims.start
    rw [dif_pos (by decide)]
    have hsi : (gather_S16x513_S639x1_S16x639_0_1_n_n_1_1_161).siIdx (ix2 H t) ⟨List.idxOf (1 : Fin 2) (gather_S16x513_S639x1_S16x639_0_1_n_n_1_1_161).startIndexMap,
        List.idxOf_lt_length_iff.2 (by decide)⟩ = ix2 t (0 : Fin 1) := by
      funext b; refine Fin.ext ?_
      match b with
      | ⟨0, _⟩ => rfl
      | ⟨1, _⟩ => rfl
    rw [hsi]
    rfl

/-- The column of the bias that diagonal `t` reads. -/
def diagCol (t : ℕ) : ℕ := (min 256 (max (-256) (575 - (t : ℤ))) + 256).toNat

theorem diagCol_lt (t : ℕ) : diagCol t < 513 := by unfold diagCol; omega

/-- The printed column. -/
theorem diagIdx_val : ∀ t : Fin 639, min (diagIdx' (ix2 t (0 : Fin 1))).toInt.toNat 512 = diagCol t.val := by
  decide +kernel

/-- The diagonals of the bias over `log 2`. -/
def diagAt (x : FVec Ideal S16x513 .f32) (H : Fin 16) (t : ℕ) : EReal :=
  Ideal.div (x (ix2 H ⟨diagCol t, diagCol_lt _⟩)) (Ideal.log (Ideal.ofBits .f32 0x40000000#32))

theorem diag_read (x : FVec Ideal S16x513 .f32) (H : Fin 16) (t : Fin 639) :
    (Host.divf (F := Ideal) (Host.gather gather_S16x513_S639x1_S16x639_0_1_n_n_1_1_161 x diagIdx') (broadcastInDim S16x639 ![] bcast_S_S16x639 (Host.log (F := Ideal) (constant (F := Ideal) S_ .f32 0x40000000#32))) : FVec Ideal S16x639 .f32) (ix2 H t)
      = diagAt x H t.val := by
  have e : (⟨min (diagIdx' (ix2 t (0 : Fin 1))).toInt.toNat 512, by omega⟩ : Fin 513) = ⟨diagCol t.val, diagCol_lt _⟩ := Fin.ext (diagIdx_val t)
  unfold diagAt
  pointwise
  rw [gather_cols, e]

theorem V_v19_at (H : Fin 16) (t : Fin 639) :
    (V m c main_v19 : FVec Ideal S16x639 .f32) (ix2 H t) = diagAt (m ((c : Thread nD τ).loc main_arg3)) H t.val :=
  (congrFun (V_v19 m c) _).trans (diag_read _ H t)

/-- Row `k` reads the diagonals from `63 - k`. -/
theorem biasRow_at (x : FVec Ideal S16x639 .f32) (k : ℕ) (hk : k < 64) (H : Fin 16) (j : Fin 576) :
    biasRow x k hk (ix3 H (0 : Fin 1) j) = x (ix2 H ⟨63 - k + j.val, by omega⟩) := by
  unfold biasRow
  pointwise

/-- Sixteen rows, read at an index. -/
theorem biasRows_at (x : FVec Ideal S16x639 .f32) (o : ℕ) (ho : o ≤ 48) (H : Fin 16) (a : Fin 16) (j : Fin 576) :
    biasRows x o ho (ix3 H a j) = x (ix2 H ⟨63 - (o + a.val) + j.val, by omega⟩) := by
  unfold biasRows
  refine (concatenate_ofFn_unit_apply' (t := S16x16x576) (s₁ := S16x1x576) 1 (fun n : Fin 16 => biasRow x (o + n.val) (by omega)) concatenates_rows rfl (ix3 H a j)).trans ?_
  refine Eq.trans ?_ (biasRow_at x (o + a.val) (by omega) H j)
  refine congrArg _ ?_
  blk_ext []
  all_goals rfl

/-- The band's bias over `log 2`. -/
theorem V_v152_at (H : Fin 16) (a : Fin 64) (j : Fin 576) :
    (V m c main_v152 : FVec Ideal S16x64x576 .f32) (ix3 H a j) = diagAt (m ((c : Thread nD τ).loc main_arg3)) H (63 - a.val + j.val) := by
  rw [V_v152, V_v148, V_v149, V_v150, V_v151]
  pointwise
  have h : ∀ (o : ℕ) (ho : o ≤ 48) (a' : Fin 16), o + a'.val = a.val →
      biasRows (V m c main_v19) o ho (ix3 H a' j) = diagAt (m ((c : Thread nD τ).loc main_arg3)) H (63 - a.val + j.val) := fun o ho a' e => by
    rw [biasRows_at, V_v19_at]
    congr 2
    show 63 - (o + a'.val) + j.val = 63 - a.val + j.val
    omega
  split
  · exact h 0 _ _ (Nat.zero_add _)
  split
  · exact h 16 _ _ (by show 16 + (a.val - 16) = a.val; omega)
  split
  · exact h 32 _ _ (by show 32 + (a.val - 16 - 16) = a.val; omega)
  · exact h 48 _ _ (by show 48 + (a.val - 16 - 16 - 16) = a.val; omega)

/-- The padded bias. -/
theorem V_v158_at (H : Fin 16) (u : Fin 2) (a : Fin 64) (j : Fin 640) :
    (V m c main_v158 : FVec Ideal S16x2x64x640 .f32) (ix4 H u a j)
      = if 64 * u.val ≤ j.val ∧ j.val < 64 * u.val + 576 then diagAt (m ((c : Thread nD τ).loc main_arg3)) H (63 - a.val + (j.val - 64 * u.val))
        else Ideal.ofBits .f32 0xFF800000#32 := by
  rw [V_v158, V_v154, V_v155]
  unfold biasPad
  pointwise
  rcases (by omega : u.val = 0 ∨ u.val = 1) with hu | hu
  · rw [dif_pos (by omega)]
    by_cases hj : j.val < 576
    · rw [dif_pos hj, if_pos (by omega)]
      exact (V_v152_at m c H a ⟨j.val, hj⟩).trans (congrArg (diagAt _ H) (by show 63 - a.val + j.val = 63 - a.val + (j.val - 64 * u.val); omega))
    · rw [dif_neg hj, if_neg (by omega)]
  · rw [dif_neg (by omega)]
    by_cases hj : j.val < 64
    · rw [dif_pos hj, if_neg (by omega)]
    · refine Eq.trans ?_ (if_pos (show 64 * u.val ≤ j.val ∧ j.val < 64 * u.val + 576 by omega)).symm
      rw [dif_neg hj]
      exact (V_v152_at m c H a ⟨j.val - 64, by omega⟩).trans (congrArg (diagAt _ H) (by show 63 - a.val + (j.val - 64) = 63 - a.val + (j.val - 64 * u.val); omega))

/-- A row of `8192` lanes cut into four by four groups of `512`, at an index. -/
theorem split_read (x : FVec Ideal S2x8192x8192 .bf16) (n : Fin 16384) (a b : Fin 4) (e : Fin 512) :
    (shapeCast S16384x4x4x512 x shapeCasts_S2x8192x8192_S16384x4x4x512) (ix4 n a b e)
      = x (ix3 (⟨n.val / 8192, by omega⟩ : Fin 2) (⟨n.val % 8192, by omega⟩ : Fin 8192) (⟨2048 * a.val + 512 * b.val + e.val, by omega⟩ : Fin 8192)) := by
  refine (Pointwise.shapeCast_apply _ _ _).trans (congrArg x ?_)
  refine Shape.reshapeEquiv_eq_of_vals _ _ _ _ _ (rowMajor_val3 _ (8192 * 8192) 8192 rfl rfl) (rowMajor_val4 _ (4 * 4 * 512) (4 * 512) 512 rfl rfl rfl) ?_
  show n.val / 8192 * (8192 * 8192) + n.val % 8192 * 8192 + (2048 * a.val + 512 * b.val + e.val) = n.val * (4 * 4 * 512) + a.val * (4 * 512) + b.val * 512 + e.val
  omega

/-- Four by four groups of `512` put back in one row, at an index. -/
theorem join_read (y : FVec Ideal S16384x4x4x512 .bf16) (n : Fin 16384) (l : Fin 8192) :
    (shapeCast S16384x8192 y shapeCasts_S16384x4x4x512_S16384x8192) (ix2 n l)
      = y (ix4 n (⟨l.val / 2048, by omega⟩ : Fin 4) (⟨l.val / 512 % 4, by omega⟩ : Fin 4) (⟨l.val % 512, by omega⟩ : Fin 512)) := by
  refine (Pointwise.shapeCast_apply _ _ _).trans (congrArg y ?_)
  refine Shape.reshapeEquiv_eq_of_vals _ _ _ _ _ (rowMajor_val4 _ (4 * 4 * 512) (4 * 512) 512 rfl rfl rfl) (rowMajor_val2 _ 8192 rfl) ?_
  show n.val * (4 * 4 * 512) + l.val / 2048 * (4 * 512) + l.val / 512 % 4 * 512 + l.val % 512 = n.val * 8192 + l.val
  omega

theorem swap_read (y : FVec Ideal S16384x4x4x512 .bf16) (n : Fin 16384) (a b : Fin 4) (e : Fin 512) :
    (transpose S16384x4x4x512 [0, 2, 1, 3] y transposes_S16384x4x4x512_S16384x4x4x512_0_2_1_3) (ix4 n a b e) = y (ix4 n b a e) := by
  pointwise

/-- The projections as the kernel is given them: the four parts of a group of heads beside one another. -/
theorem V_v3_at (n : Fin 16384) (l : Fin 8192) :
    (V m c main_v3 : FVec Ideal S16384x8192 .bf16) (ix2 n l)
      = (m ((c : Thread nD τ).loc main_arg0) : FVec Ideal S2x8192x8192 .f32)
          (ix3 (⟨n.val / 8192, by omega⟩ : Fin 2) (⟨n.val % 8192, by omega⟩ : Fin 8192) (⟨2048 * (l.val / 512 % 4) + 512 * (l.val / 2048) + l.val % 512, by omega⟩ : Fin 8192)) := by
  rw [V_v3]
  exact (join_read _ _ _).trans ((swap_read _ _ _ _ _).trans ((split_read _ _ _ _ _).trans rfl))

theorem V_v159_at (e : Fin 128) : (V m c main_v159 : FVec Ideal S1x128 .f32) (ix2 (0 : Fin 1) e) = (m ((c : Thread nD τ).loc main_arg1) : FVec Ideal S128 .f32) (ix1 e) := by
  rw [V_v159]
  pointwise

theorem V_v160_at (e : Fin 128) : (V m c main_v160 : FVec Ideal S1x128 .f32) (ix2 (0 : Fin 1) e) = (m ((c : Thread nD τ).loc main_arg2) : FVec Ideal S128 .f32) (ix1 e) := by
  rw [V_v160]
  pointwise

end Cert.KernelIdeal.Att
-- ==== Proof.Block.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Att
open Cert.KernelIdeal Cert.KernelIdeal.Gen

/-! ## The operations of one chunk, as the body applies them -/

/-- The scores of a chunk with its bias. -/
def chunkScore (sl : FVec Ideal S1x64x640 .f32) (bl : FVec Ideal S1x1x64x640 .f32) : FVec Ideal S64x640 .f32 :=
  addf (shapeCast S64x640 sl shapeCasts_S1x64x640_S64x640) (shapeCast S64x640 bl shapeCasts_S1x1x64x640_S64x640)

/-- The scores with the keys before the sequence's start masked: key `m` of the band stands at row `lo + m` of the buffer. -/
def chunkMask (lo : BitVec 32) (s : FVec Ideal S64x640 .f32) : FVec Ideal S64x640 .f32 :=
  addf s (broadcastTo S64x640 (select (cmpi .sge (addi (broadcast S1x640 lo) (iota .tc S1x640 32 [1] iota_S1x640_d1_w32))
    (broadcast S1x640 512#32)) (broadcast S1x640 (Scalar.ofBits .f32 0x00000000#32 : Ideal .f32))
    (broadcast S1x640 (Named.named κ "mask" 0xF149F2CA#32 : Ideal .f32))) broadcasts_S1x640_S64x640)

/-- The exponentials of the scores over their row's largest. -/
def chunkExp (s : FVec Ideal S64x640 .f32) : FVec Ideal S64x640 .f32 :=
  exp2 (subf s (broadcastTo S64x640 (shapeCast S64x1 (multiReduction .maximumf [1] S64 s 0xFF800000#32 reduces_S64x640_S64 (.inl rfl) rfl)
    shapeCasts_S64_S64x1) broadcasts_S64x1_S64x640))

/-- The gated output of a chunk from the exponentials, the values and the gate. -/
def chunkOut (p : FVec Ideal S64x640 .f32) (vl : FVec Ideal S640x128 .bf16) (zl : FVec Ideal S64x128 .bf16) : FVec Ideal S64x128 .bf16 :=
  truncf .bf16 (mulf
    (divf (matmul dot_S64x640_S640x128_S64x128_1_0_0_1_n_n none (truncf .bf16 p bitsLt_bf16_f32) vl (constant S64x128 .f32 0x00000000#32))
      (broadcastTo S64x128 (shapeCast S64x1 (multiReduction .add [1] S64 p 0x00000000#32 reduces_S64x640_S64 (.inl rfl) rfl)
        shapeCasts_S64_S64x1) broadcasts_S64x1_S64x128))
    (mulf (extf .f32 (shapeCast S64x128 zl shapeCasts_S64x128_S64x128) bitsLt_bf16_f32)
      (logistic (extf .f32 (shapeCast S64x128 zl shapeCasts_S64x128_S64x128) bitsLt_bf16_f32)))) bitsLt_bf16_f32

/-- The scaled queries of a head. -/
def headQ (xl : FVec Ideal S1024x128 .bf16) (w : FVec Ideal S1x128 .f32) : FVec Ideal S1024x128 .f32 :=
  k0_pay199 xl w

/-- The keys of a head. -/
def headK (xl : FVec Ideal S1024x128 .bf16) (w : FVec Ideal S1x128 .f32) : FVec Ideal S1024x128 .bf16 :=
  shapeCast S1024x128 (truncf .bf16 (mulf (k0_pay200 xl) (k0_pay201 w)) bitsLt_bf16_f32) shapeCasts_S1024x128_S1024x128

/-- The scores of 128 queries with their band of 640 keys. -/
def bandScore (off : Fin 2 → ℕ) (hs : S1024x128.Slices off S128x128) (q : FVec Ideal S1024x128 .f32) (kl : FVec Ideal S640x128 .bf16) :
    FVec Ideal S1x128x640 .f32 :=
  shapeCast S1x128x640 (matmul dot_S128x128_S640x128_S128x640_1_1_0_0_n_n none
    (truncf .bf16 (extractStridedSlice S128x128 off q hs) bitsLt_bf16_f32) kl (constant S128x640 .f32 0x00000000#32)) shapeCasts_S128x640_S1x128x640

/-! ## What one grid point computes, at coordinates -/

/-- Entry `d` of a root-mean-square normalised vector `u` with the weights `w`. -/
def rmsAt (u w : Fin 128 → EReal) (d : Fin 128) : EReal :=
  u d * Ideal.rsqrt (Ideal.div (∑ e, u e * u e) (Ideal.ofBits .f32 0x43000000#32) + Ideal.ofBits .f32 0x358637BD#32) * w d

/-- Lane `d` of head `h` in part `g` (queries, keys, values, gate) of row `r` of a block of projections. -/
def lane (x0 : FVec Ideal S1024x2048 .bf16) (g h : Fin 4) (r : Fin 1024) (d : Fin 128) : EReal :=
  x0 (ix2 r ⟨512 * g.val + 128 * h.val + d.val, by omega⟩)

/-- The key of head `h` at row `r` of the block. -/
def keyAt (x0 : FVec Ideal S1024x2048 .bf16) (x2 : FVec Ideal S1x128 .f32) (h : Fin 4) (r : Fin 1024) (d : Fin 128) : EReal :=
  rmsAt (lane x0 1 h r) (fun e => x2 (ix2 0 e)) d

/-- The scaled query of head `h` at row `r` of the block. -/
def queryAt (x0 : FVec Ideal S1024x2048 .bf16) (x1 : FVec Ideal S1x128 .f32) (h : Fin 4) (r : Fin 1024) (d : Fin 128) : EReal :=
  rmsAt (lane x0 0 h r) (fun e => x1 (ix2 0 e) * (Named.named κ "scale_log2e" 0x3E0293EE#32 : Ideal .f32)) d

/-- The key buffer of a grid point: what it held in its first 512 rows, then the block's keys. -/
def keyBuf (base : FVec Ideal S1536x512 .bf16) (x0 : FVec Ideal S1024x2048 .bf16) (x2 : FVec Ideal S1x128 .f32) : FVec Ideal S1536x512 .bf16 :=
  fun i => if h : (i 0).val < 512 then base i else
    keyAt x0 x2 ⟨(i 1).val / 128, by have : (i 1).val < 512 := (i 1).isLt; omega⟩ ⟨(i 0).val - 512, by have : (i 0).val < 1536 := (i 0).isLt; omega⟩
      ⟨(i 1).val % 128, by omega⟩

/-- The value buffer of a grid point: what it held in its first 512 rows, then the block's values. -/
def valBuf (base : FVec Ideal S1536x512 .bf16) (x0 : FVec Ideal S1024x2048 .bf16) : FVec Ideal S1536x512 .bf16 :=
  fun i => if h : (i 0).val < 512 then base i else
    x0 (ix2 ⟨(i 0).val - 512, by have : (i 0).val < 1536 := (i 0).isLt; omega⟩
      ⟨1024 + (i 1).val, by have : (i 1).val < 512 := (i 1).isLt; omega⟩)

/-- The score of row `r` of head `h` with entry `j` of its band. -/
def scoreAt (x0 : FVec Ideal S1024x2048 .bf16) (x1 : FVec Ideal S1x128 .f32) (K : FVec Ideal S1536x512 .bf16)
    (h : Fin 4) (r : Fin 1024) (j : Fin 640) : EReal :=
  ∑ d, queryAt x0 x1 h r d * K (ix2 ⟨r.val / 128 * 128 + j.val, by omega⟩ ⟨128 * h.val + d.val, by omega⟩)

/-- The buffer of the scores. -/
def scoreBuf (x0 : FVec Ideal S1024x2048 .bf16) (x1 : FVec Ideal S1x128 .f32) (K : FVec Ideal S1536x512 .bf16) : FVec Ideal S4x1024x640 .f32 :=
  fun i => scoreAt x0 x1 K (i 0) (i 1) (i 2)

/-- The logit of row `r` of head `h` with entry `j` of its band: score, bias and mask. -/
def logitAt (x3 : FVec Ideal S4x2x64x640 .f32) (S : FVec Ideal S4x1024x640 .f32) (μ : Fin 1024 → Fin 640 → EReal)
    (h : Fin 4) (r : Fin 1024) (j : Fin 640) : EReal :=
  S (ix3 h r j) + x3 (ix4 h ⟨r.val / 64 % 2, by omega⟩ ⟨r.val % 64, by omega⟩ j) + μ r j

/-- The exponential of the logit over the row's largest. -/
def expAt (l : Fin 640 → EReal) (j : Fin 640) : EReal :=
  FloatOps.exp2 (F := Ideal) (φ := .f32) (l j - Finset.fold max (Ideal.ofBits .f32 0xFF800000#32) l Finset.univ)

/-- The gated output of a row. -/
def outAt (l : Fin 640 → EReal) (v : Fin 640 → EReal) (z : EReal) : EReal :=
  Ideal.div (∑ j, expAt l j * v j) (∑ j, expAt l j) * (z * Ideal.logistic z)

/-- The output block of a grid point. -/
def outBlk (x0 : FVec Ideal S1024x2048 .bf16) (x3 : FVec Ideal S4x2x64x640 .f32) (S : FVec Ideal S4x1024x640 .f32)
    (V : FVec Ideal S1536x512 .bf16) (μ : Fin 1024 → Fin 640 → EReal) : FVec Ideal S1024x512 .bf16 :=
  fun i => outAt
    (logitAt x3 S μ ⟨(i 1).val / 128, by have : (i 1).val < 512 := (i 1).isLt; omega⟩ (i 0))
    (fun j => V (ix2 ⟨(i 0).val / 128 * 128 + j.val, by have : (i 0).val < 1024 := (i 0).isLt; omega⟩ (i 1)))
    (x0 (ix2 (i 0) ⟨1536 + (i 1).val, by have : (i 1).val < 512 := (i 1).isLt; omega⟩))

/-- The mask of the first step: keys before the sequence's start. -/
def maskAt (r : Fin 1024) (j : Fin 640) : EReal :=
  if r.val / 128 * 128 + j.val < 512 then (Named.named κ "mask" 0xF149F2CA#32 : Ideal .f32) else 0

/-! ## The operations read at coordinates -/

/-- The normalised entry from the lanes and weights read elementwise. -/
theorem rmsAt_congr {u u' w w' : Fin 128 → EReal} (hu : ∀ e, u e = u' e) (hw : ∀ e, w e = w' e) (d : Fin 128) :
    rmsAt u w d = rmsAt u' w' d := by
  rw [funext hu, funext hw]

theorem headK_apply (X : FVec Ideal S1024x128 .bf16) (w : FVec Ideal S1x128 .f32) (r : Fin 1024) (d : Fin 128) :
    headK X w (ix2 r d) = rmsAt (fun e => X (ix2 r e)) (fun e => w (ix2 0 e)) d := by
  pointwise [headK, k0_pay200, k0_pay201, rmsAt]

theorem headQ_apply (X : FVec Ideal S1024x128 .bf16) (w : FVec Ideal S1x128 .f32) (r : Fin 1024) (d : Fin 128) :
    headQ X w (ix2 r d) = rmsAt (fun e => X (ix2 r e)) (fun e => w (ix2 0 e) * (Named.named κ "scale_log2e" 0x3E0293EE#32 : Ideal .f32)) d := by
  pointwise [headQ, k0_pay199, rmsAt]

theorem bandScore_apply (o : ℕ) (hs) (q : FVec Ideal S1024x128 .f32) (kl : FVec Ideal S640x128 .bf16) (a : Fin 128) (j : Fin 640) (r : Fin 1024)
    (hr : r.val = o + a.val) : bandScore ![o, 0] hs q kl (ix3 0 a j) = ∑ d, q (ix2 r d) * kl (ix2 j d) := by
  have e : ∀ d : Fin 128, extractStridedSlice S128x128 ![o, 0] q hs (ix2 a d) = q (ix2 r d) := fun d =>
    extractStridedSlice_apply _ _ _ _ _ (fun x => match x with
      | ⟨0, _⟩ => hr
      | ⟨1, _⟩ => (Nat.zero_add _).symm)
  unfold bandScore
  generalize extractStridedSlice S128x128 ![o, 0] q hs = Q at e
  pointwise
  exact Finset.sum_congr rfl fun d _ => by rw [e]

theorem chunkOut_apply (s : FVec Ideal S64x640 .f32) (vl : FVec Ideal S640x128 .bf16) (zl : FVec Ideal S64x128 .bf16) (a : Fin 64) (d : Fin 128) :
    chunkOut (chunkExp s) vl zl (ix2 a d) = outAt (fun j => s (ix2 a j)) (fun j => vl (ix2 j d)) (zl (ix2 a d)) := by
  pointwise [chunkOut, chunkExp, outAt, expAt]

theorem chunkScore_apply (sl : FVec Ideal S1x64x640 .f32) (bl : FVec Ideal S1x1x64x640 .f32) (a : Fin 64) (j : Fin 640) :
    chunkScore sl bl (ix2 a j) = sl (ix3 0 a j) + bl (ix4 0 0 a j) := by
  pointwise [chunkScore]

theorem chunkMask_apply (lo : ℕ) (hlo : lo ≤ 512) (s : FVec Ideal S64x640 .f32) (a : Fin 64) (j : Fin 640) :
    chunkMask (BitVec.ofNat 32 lo) s (ix2 a j)
      = s (ix2 a j) + if lo + j.val < 512 then (Named.named κ "mask" 0xF149F2CA#32 : Ideal .f32) else 0 := by
  pointwise [chunkMask]
  congr 1
  have hb : IntOp.cmpi .sge (IntOp.addi (BitVec.ofNat 32 lo) (BitVec.ofNat 32 j.val)) 512#32 = BitVec.ofBool (decide (512 ≤ lo + j.val)) := by
    have hj := j.isLt
    have ht : (BitVec.ofNat 32 (lo + j.val)).toInt = ((lo + j.val : ℕ) : ℤ) := by
      rw [BitVec.toInt_eq_toNat_of_lt (by rw [BitVec.toNat_ofNat]; omega), BitVec.toNat_ofNat, Nat.mod_eq_of_lt (by omega)]
    show BitVec.ofBool ((512#32).sle (BitVec.ofNat 32 lo + BitVec.ofNat 32 j.val)) = _
    rw [← BitVec.ofNat_add, BitVec.sle_eq_decide, ht, show (512#32).toInt = 512 from rfl]
    congr 2
    exact propext ⟨fun h => by omega, fun h => by omega⟩
  rw [hb]
  by_cases h : lo + j.val < 512
  · rw [if_pos h, decide_eq_false (by omega)]; rfl
  · rw [if_neg h, decide_eq_true (by omega)]; rfl

/-! ## The loads of a grid point at coordinates -/

/-- Where an index of a rectangle stands in its array, for two axes. -/
theorem unit_idx2 {A B a b o0 o1 : ℕ} (inb) (r : Fin a) (d : Fin b) (p : Fin A) (q : Fin B) (hp : p.val = o0 + r.val) (hq : q.val = o1 + d.val) :
    (Rect.unit (s := ⟨2, ![A, B]⟩) ![o0, o1] ![a, b] inb).idx (ix2 r d) = ix2 p q := by
  funext x
  apply Fin.ext
  match x with
  | ⟨0, _⟩ => simpa using hp.symm
  | ⟨1, _⟩ => simpa using hq.symm

/-- Where an index of a rectangle stands in its array, for three axes of which the first is one index long. -/
theorem unit_idx3 {A B C b c o0 o1 o2 : ℕ} (inb) (r : Fin b) (d : Fin c) (p : Fin A) (q : Fin B) (t : Fin C)
    (hp : p.val = o0) (hq : q.val = o1 + r.val) (ht : t.val = o2 + d.val) :
    (Rect.unit (s := ⟨3, ![A, B, C]⟩) ![o0, o1, o2] ![1, b, c] inb).idx (ix3 0 r d) = ix3 p q t := by
  funext x
  apply Fin.ext
  match x with
  | ⟨0, _⟩ => simpa using hp.symm
  | ⟨1, _⟩ => simpa using hq.symm
  | ⟨2, _⟩ => simpa using ht.symm

/-- Where an index of a rectangle stands in its array, for four axes of which the first two are one index long. -/
theorem unit_idx4 {A B C D b c o0 o1 o2 o3 : ℕ} (inb) (r : Fin b) (d : Fin c) (p : Fin A) (q : Fin B) (t : Fin C) (u : Fin D)
    (hp : p.val = o0) (hq : q.val = o1) (ht : t.val = o2 + r.val) (hu : u.val = o3 + d.val) :
    (Rect.unit (s := ⟨4, ![A, B, C, D]⟩) ![o0, o1, o2, o3] ![1, 1, b, c] inb).idx (ix4 0 0 r d) = ix4 p q t u := by
  funext x
  apply Fin.ext
  match x with
  | ⟨0, _⟩ => simpa using hp.symm
  | ⟨1, _⟩ => simpa using hq.symm
  | ⟨2, _⟩ => simpa using ht.symm
  | ⟨3, _⟩ => simpa using hu.symm

end Cert.KernelIdeal.Att
-- ==== Proof.Band.lean ====
module

public import proofs.«01_k».proof.Proof.Block
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Att
open Cert.KernelIdeal Cert.KernelIdeal.Gen

/-! ## The band attention of a whole sequence

`p g H b s d` is lane `d` of head `H` in part `g` (queries, keys, values, gate) of token `s` of sequence `b`; keys and values stand at their
position plus 512, so that the positions below 512 lie before the sequence's start. -/

variable (p : Fin 4 → Fin 16 → Fin 2 → Fin 8192 → Fin 128 → EReal) (wq wk : Fin 128 → EReal) (B : Fin 16 → Fin 2 → Fin 64 → Fin 640 → EReal)

/-- The key at position `n - 512`; zero before the start. -/
def keyP (H : Fin 16) (b : Fin 2) (n : ℕ) (d : Fin 128) : EReal :=
  if h : n < 512 ∨ 8704 ≤ n then 0 else rmsAt (p 1 H b ⟨n - 512, by omega⟩) wk d

/-- The value at position `n - 512`; zero before the start. -/
def valP (H : Fin 16) (b : Fin 2) (n : ℕ) (d : Fin 128) : EReal :=
  if h : n < 512 ∨ 8704 ≤ n then 0 else p 2 H b ⟨n - 512, by omega⟩ d

/-- The mask of the positions before the start. -/
def maskP (n : ℕ) : EReal :=
  if n < 512 then (Named.named κ "mask" 0xF149F2CA#32 : Ideal .f32) else 0

/-- The logit of token `s` with entry `j` of the 640 positions from its block's. -/
def logitP (H : Fin 16) (b : Fin 2) (s : Fin 8192) (j : Fin 640) : EReal :=
  (∑ d, rmsAt (p 0 H b s) (fun e => wq e * (Named.named κ "scale_log2e" 0x3E0293EE#32 : Ideal .f32)) d * keyP p wk H b (s.val / 128 * 128 + j.val) d)
    + B H ⟨s.val / 64 % 2, by omega⟩ ⟨s.val % 64, by omega⟩ j + maskP (s.val / 128 * 128 + j.val)

/-- The gated output. -/
def outP (H : Fin 16) (b : Fin 2) (s : Fin 8192) (d : Fin 128) : EReal :=
  outAt (logitP p wq wk B H b s) (fun j => valP p H b (s.val / 128 * 128 + j.val) d) (p 3 H b s d)

/-! ## A grid point computes its block of it -/

/-- Head `h'` of the four of part `h`. -/
abbrev headIn (h h' : Fin 4) : Fin 16 := ⟨4 * h.val + h'.val, by omega⟩

/-- The head of column `l` in part `h`. -/
abbrev headOf (h : Fin 4) (l : Fin 512) : Fin 16 := ⟨4 * h.val + l.val / 128, by omega⟩

/-- The lane of column `l`. -/
abbrev laneOf (l : Fin 512) : Fin 128 := ⟨l.val % 128, by omega⟩

/-- Row `r` of block `s0`. -/
abbrev rowIn (s0 : Fin 8) (r : Fin 1024) : Fin 8192 := ⟨1024 * s0.val + r.val, by omega⟩

/-- Row `r` of a buffer's first third. -/
abbrev lowRow (r : Fin 512) : Fin 1536 := ⟨r.val, by omega⟩

/-- Row `r` of a buffer's last third. -/
abbrev highRow (r : Fin 512) : Fin 1536 := ⟨1024 + r.val, by omega⟩

section

variable {p wq wk B} {x0 : FVec Ideal S1024x2048 .bf16} {x1 x2 : FVec Ideal S1x128 .f32} {x3 : FVec Ideal S4x2x64x640 .f32}
  {base : FVec Ideal S1536x512 .bf16} {b : Fin 2} {h : Fin 4} {s0 : Fin 8}
  (hx : ∀ (g h' : Fin 4) (r : Fin 1024) (d : Fin 128), lane x0 g h' r d = p g (headIn h h') b (rowIn s0 r) d)

include hx

/-- The key buffer holds the keys from the block's first position. -/
theorem keyBuf_eq (h2 : ∀ e, x2 (ix2 0 e) = wk e)
    (hb : ∀ r l : Fin 512, base (ix2 (lowRow r) l) = keyP p wk (headOf h l) b (1024 * s0.val + r.val) (laneOf l))
    (n : Fin 1536) (l : Fin 512) :
    keyBuf base x0 x2 (ix2 n l) = keyP p wk (headOf h l) b (1024 * s0.val + n.val) (laneOf l) := by
  by_cases hn : n.val < 512
  · exact (dif_pos hn).trans (hb ⟨n.val, hn⟩ l)
  · refine (dif_neg hn).trans ?_
    rw [keyP, dif_neg (by omega), keyAt]
    refine rmsAt_congr (fun e => ?_) h2 _
    rw [hx]
    congr 1
    exact Fin.ext (by show 1024 * s0.val + (n.val - 512) = 1024 * s0.val + n.val - 512; omega)

/-- The value buffer holds the values from the block's first position. -/
theorem valBuf_eq
    (hb : ∀ r l : Fin 512, base (ix2 (lowRow r) l) = valP p (headOf h l) b (1024 * s0.val + r.val) (laneOf l))
    (n : Fin 1536) (l : Fin 512) :
    valBuf base x0 (ix2 n l) = valP p (headOf h l) b (1024 * s0.val + n.val) (laneOf l) := by
  by_cases hn : n.val < 512
  · exact (dif_pos hn).trans (hb ⟨n.val, hn⟩ l)
  · refine (dif_neg hn).trans ?_
    rw [valP, dif_neg (by omega)]
    refine Eq.trans (b := lane x0 2 ⟨l.val / 128, by omega⟩ ⟨n.val - 512, by omega⟩ (laneOf l)) ?_ ?_
    · unfold lane
      congr 2
      exact Fin.ext (by show 1024 + l.val = 512 * 2 + 128 * (l.val / 128) + l.val % 128; omega)
    · rw [hx]
      congr 1
      exact Fin.ext (by show 1024 * s0.val + (n.val - 512) = 1024 * s0.val + n.val - 512; omega)

/-- The output block of a grid point is its block of the band attention. -/
theorem outBlk_eq (h1 : ∀ e, x1 (ix2 0 e) = wq e)
    (h3 : ∀ (h' : Fin 4) u a j, x3 (ix4 h' u a j) = B (headIn h h') u a j) {K V : FVec Ideal S1536x512 .bf16}
    (hK : ∀ (n : Fin 1536) (l : Fin 512), K (ix2 n l) = keyP p wk (headOf h l) b (1024 * s0.val + n.val) (laneOf l))
    (hV : ∀ (n : Fin 1536) (l : Fin 512), V (ix2 n l) = valP p (headOf h l) b (1024 * s0.val + n.val) (laneOf l))
    {μ : Fin 1024 → Fin 640 → EReal} (hμ : ∀ (r : Fin 1024) (j : Fin 640), μ r j = maskP ((1024 * s0.val + r.val) / 128 * 128 + j.val))
    (r : Fin 1024) (l : Fin 512) :
    outBlk x0 x3 (scoreBuf x0 x1 K) V μ (ix2 r l)
      = outP p wq wk B (headOf h l) b (rowIn s0 r) (laneOf l) := by
  have hrow : ∀ j : Fin 640, 1024 * s0.val + (r.val / 128 * 128 + j.val) = (1024 * s0.val + r.val) / 128 * 128 + j.val := fun j => by omega
  show outAt (logitAt x3 (scoreBuf x0 x1 K) μ ⟨l.val / 128, _⟩ r) (fun j => V (ix2 ⟨r.val / 128 * 128 + j.val, _⟩ l)) (x0 (ix2 r ⟨1536 + l.val, _⟩)) = _
  unfold outP
  congr 1
  · funext j
    unfold logitAt logitP
    rw [h3, hμ]
    congr 2
    · show (∑ d, queryAt x0 x1 ⟨l.val / 128, _⟩ r d * K (ix2 ⟨r.val / 128 * 128 + j.val, _⟩ ⟨128 * (l.val / 128) + d.val, _⟩)) = _
      refine Finset.sum_congr rfl fun d _ => ?_
      rw [hK]
      congr 1
      · refine rmsAt_congr (fun e => hx _ _ _ _) (fun e => ?_) d
        rw [h1]
      · have e1 : (⟨4 * h.val + (128 * (l.val / 128) + d.val) / 128, by omega⟩ : Fin 16) = headOf h l := Fin.ext (by show 4 * h.val + (128 * (l.val / 128) + d.val) / 128 = 4 * h.val + l.val / 128; omega)
        have e2 : (⟨(128 * (l.val / 128) + d.val) % 128, by omega⟩ : Fin 128) = d := Fin.ext (by show (128 * (l.val / 128) + d.val) % 128 = d.val; omega)
        show keyP p wk ⟨4 * h.val + (128 * (l.val / 128) + d.val) / 128, _⟩ b (1024 * s0.val + (r.val / 128 * 128 + j.val)) ⟨(128 * (l.val / 128) + d.val) % 128, _⟩ = _
        rw [e1, e2, hrow]
    · have e1 : (⟨r.val / 64 % 2, by omega⟩ : Fin 2) = ⟨(1024 * s0.val + r.val) / 64 % 2, by omega⟩ := Fin.ext (by show r.val / 64 % 2 = (1024 * s0.val + r.val) / 64 % 2; omega)
      have e2 : (⟨r.val % 64, by omega⟩ : Fin 64) = ⟨(1024 * s0.val + r.val) % 64, by omega⟩ := Fin.ext (by show r.val % 64 = (1024 * s0.val + r.val) % 64; omega)
      rw [e1, e2]
  · funext j
    rw [hV]
    show valP p _ b (1024 * s0.val + (r.val / 128 * 128 + j.val)) _ = _
    rw [hrow]
  · refine Eq.trans (b := lane x0 3 ⟨l.val / 128, by omega⟩ r (laneOf l)) ?_ (hx _ _ _ _)
    unfold lane
    congr 2
    exact Fin.ext (by show 1536 + l.val = 512 * 3 + 128 * (l.val / 128) + l.val % 128; omega)

end

end Cert.KernelIdeal.Att
-- ==== Proof.RefIndex.lean ====
module

public import proofs.«01_k».proof.Proof.RefTerm
public import proofs.«01_k».proof.Proof.EntryRead
public import proofs.«01_k».proof.Proof.Band

@[expose] public section

set_option maxRecDepth 16384

noncomputable section

open Idealize.ShloMosaic Idealize.ShloMosaic.TcCoe Idealize.SL.Sem

namespace Cert.ReferenceIdeal.Att
open Cert.ReferenceIdeal Cert.ReferenceIdeal.Gen Idealize.ShloMosaic.StableHlo
open Cert.KernelIdeal.Att (rmsAt diagCol diagCol_lt)

/-! ## The reference's positions and its gathers -/

/-- The gather of bands, read at an index. -/
theorem gather_rows {α : Type} (x : S2x8704x16x128.Idx → α) (idx : IVec S128x576x1 32) (b : Fin 2) (n : Fin 128) (j : Fin 576) (H : Fin 16) (d : Fin 128) :
    Host.gather gather_S2x8704x16x128_S128x576x1_S2x128x576x16x128_034_1_n_n_1_2_2116128 x idx (ix5 b n j H d)
      = x (ix4 b ⟨min (idx (ix3 n j (0 : Fin 1))).toInt.toNat 8703, by omega⟩ H d) := by
  unfold Host.gather
  congr 1
  funext a
  refine Fin.ext ?_
  show (gather_S2x8704x16x128_S128x576x1_S2x128x576x16x128_034_1_n_n_1_2_2116128).start (ix5 b n j H d) idx a
      + (gather_S2x8704x16x128_S128x576x1_S2x128x576x16x128_034_1_n_n_1_2_2116128).batchCoord (ix5 b n j H d) a
      + (gather_S2x8704x16x128_S128x576x1_S2x128x576x16x128_034_1_n_n_1_2_2116128).offCoord (ix5 b n j H d) a = _
  rw [GatherDims.batchCoord_eq_zero _ _ _ List.not_mem_nil]
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · unfold GatherDims.start
    rw [dif_neg (by decide)]
    rw [Nat.zero_add]
    rfl
  · rw [GatherDims.offCoord_eq_zero _ _ _ (by decide)]
    unfold GatherDims.start
    rw [dif_pos (by decide)]
    have hsi : (gather_S2x8704x16x128_S128x576x1_S2x128x576x16x128_034_1_n_n_1_2_2116128).siIdx (ix5 b n j H d) ⟨List.idxOf (1 : Fin 4) (gather_S2x8704x16x128_S128x576x1_S2x128x576x16x128_034_1_n_n_1_2_2116128).startIndexMap,
        List.idxOf_lt_length_iff.2 (by decide)⟩ = ix3 n j (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (by decide)]
    rw [Nat.zero_add]
    rfl
  · unfold GatherDims.start
    rw [dif_neg (by decide)]
    rw [Nat.zero_add]
    rfl

/-- The gather of the bias, read at an index. -/
theorem gather_bias {α : Type} (x : S16x513.Idx → α) (idx : IVec S64x576x1 32) (H : Fin 16) (a : Fin 64) (j : Fin 576) :
    Host.gather gather_S16x513_S64x576x1_S16x64x576_0_1_n_n_1_2_161 x idx (ix3 H a j)
      = x (ix2 H ⟨min (idx (ix3 a j (0 : Fin 1))).toInt.toNat 512, by omega⟩) := by
  unfold Host.gather
  congr 1
  funext i
  refine Fin.ext ?_
  show (gather_S16x513_S64x576x1_S16x64x576_0_1_n_n_1_2_161).start (ix3 H a j) idx i
      + (gather_S16x513_S64x576x1_S16x64x576_0_1_n_n_1_2_161).batchCoord (ix3 H a j) i
      + (gather_S16x513_S64x576x1_S16x64x576_0_1_n_n_1_2_161).offCoord (ix3 H a j) i = _
  rw [GatherDims.batchCoord_eq_zero _ _ _ List.not_mem_nil]
  have h01 : i = 0 ∨ i = 1 := by
    match i with
    | ⟨0, _⟩ => exact Or.inl rfl
    | ⟨1, _⟩ => exact Or.inr rfl
  rcases h01 with rfl | rfl
  · unfold GatherDims.start
    rw [dif_neg (by decide)]
    rw [Nat.zero_add]
    rfl
  · rw [GatherDims.offCoord_eq_zero _ _ _ (by decide)]
    unfold GatherDims.start
    rw [dif_pos (by decide)]
    have hsi : (gather_S16x513_S64x576x1_S16x64x576_0_1_n_n_1_2_161).siIdx (ix3 H a j) ⟨List.idxOf (1 : Fin 2) (gather_S16x513_S64x576x1_S16x64x576_0_1_n_n_1_2_161).startIndexMap,
        List.idxOf_lt_length_iff.2 (by decide)⟩ = ix3 a j (0 : Fin 1) := by
      funext b; refine Fin.ext ?_
      match b with
      | ⟨0, _⟩ => rfl
      | ⟨1, _⟩ => rfl
      | ⟨2, _⟩ => rfl
    rw [hsi]
    rfl

/-- Small naturals keep their value as 32-bit integers. -/
theorem toInt_ofNat32 (x : ℕ) (h : x < 2 ^ 31) : (BitVec.ofNat 32 x).toInt = (x : ℤ) := by
  rw [BitVec.toInt_eq_toNat_cond, BitVec.toNat_ofNat, Nat.mod_eq_of_lt (by omega), if_pos (by omega)]

/-- A position of the padded sequence. -/
theorem posI_at (n : Fin 128) (j : Fin 576) : posI (ix2 n j) = BitVec.ofNat 32 (64 * n.val + j.val) := by
  unfold posI
  pointwise
  show BitVec.ofNat 32 n.val * 64#32 + BitVec.ofNat 32 j.val = _
  apply BitVec.eq_of_toNat_eq
  simp only [BitVec.toNat_add, BitVec.toNat_mul, BitVec.toNat_ofNat]
  omega

/-- No position is negative, so none is shifted. -/
theorem rowI_at (n : Fin 128) (j : Fin 576) : rowI (ix3 n j (0 : Fin 1)) = BitVec.ofNat 32 (64 * n.val + j.val) := by
  unfold rowI
  pointwise
  rw [posI_at]
  have h : IntOp.cmpi .slt (BitVec.ofNat 32 (64 * n.val + j.val)) 0#32 = 0#1 := by
    show BitVec.ofBool (decide (_ < _)) = _
    rw [toInt_ofNat32 _ (by omega), decide_eq_false (by simp; omega)]
    rfl
  rw [h]
  rfl

/-- The row a gather of bands reads. -/
theorem rowI_nat (n : Fin 128) (j : Fin 576) : min (rowI (ix3 n j (0 : Fin 1))).toInt.toNat 8703 = 64 * n.val + j.val := by
  rw [rowI_at, toInt_ofNat32 _ (by omega)]
  omega

/-- Entries before the sequence are masked. -/
theorem liveI_at (n : Fin 128) (j : Fin 576) : liveI (ix2 n j) = if 512 ≤ 64 * n.val + j.val then 1#1 else 0#1 := by
  unfold liveI
  pointwise
  rw [posI_at]
  have e : IntOp.subi (BitVec.ofNat 32 (64 * n.val + j.val)) 512#32 = BitVec.ofInt 32 ((64 * n.val + j.val : ℕ) - 512 : ℤ) := by
    show _ - _ = _
    apply BitVec.eq_of_toInt_eq
    rw [BitVec.toInt_sub, toInt_ofNat32 _ (by omega), BitVec.toInt_ofInt]
    rfl
  rw [e]
  show BitVec.ofBool (decide (_ ≤ _)) = _
  rw [BitVec.toInt_ofInt, Int.bmod_eq_of_le (by omega) (by omega)]
  by_cases h : 512 ≤ 64 * n.val + j.val
  · rw [if_pos h, decide_eq_true (by simp; omega)]; rfl
  · rw [if_neg h, decide_eq_false (by simp; omega)]; rfl

/-- The clipped and shifted distance, at every distance that occurs. -/
theorem col_val : ∀ t : Fin 639, (Scalar.select (IntOp.cmpi .slt (IntOp.addi (IntOp.minsi 256#32 (IntOp.maxsi 4294967040#32 (BitVec.ofInt 32 (575 - t.val : ℤ)))) 256#32) 0#32)
      (IntOp.addi (IntOp.addi (IntOp.minsi 256#32 (IntOp.maxsi 4294967040#32 (BitVec.ofInt 32 (575 - t.val : ℤ)))) 256#32) 513#32)
      (IntOp.addi (IntOp.minsi 256#32 (IntOp.maxsi 4294967040#32 (BitVec.ofInt 32 (575 - t.val : ℤ)))) 256#32)).toInt.toNat = diagCol t.val := by
  decide +kernel

/-- The column of the bias for entry `j` of token `a`'s band. -/
theorem colI_at (a : Fin 64) (j : Fin 576) : (colI (ix3 a j (0 : Fin 1))).toInt.toNat = diagCol (63 - a.val + j.val) := by
  unfold colI
  pointwise
  unfold distI
  pointwise
  have e : IntOp.subi (IntOp.addi 512#32 (BitVec.ofNat 32 a.val)) (BitVec.ofNat 32 j.val) = BitVec.ofInt 32 (575 - (63 - a.val + j.val : ℕ) : ℤ) := by
    show _ + _ - _ = _
    apply BitVec.eq_of_toInt_eq
    have h5 : (512#32).toInt = 512 := rfl
    rw [BitVec.toInt_sub, BitVec.toInt_add, toInt_ofNat32 a.val (by omega), toInt_ofNat32 j.val (by omega), BitVec.toInt_ofInt, h5]
    rw [Int.bmod_eq_of_le (by omega) (by omega) (n := 512 + (a.val : ℤ))]
    congr 1
    omega
  rw [e]
  exact col_val ⟨63 - a.val + j.val, by omega⟩

/-- The gather of the bands reads the padded sequence. -/
theorem band_rows {α : Type} (x : S2x8704x16x128.Idx → α) (b : Fin 2) (n : Fin 128) (j : Fin 576) (H : Fin 16) (d : Fin 128) :
    Host.gather gather_S2x8704x16x128_S128x576x1_S2x128x576x16x128_034_1_n_n_1_2_2116128 x rowI (ix5 b n j H d)
      = x (ix4 b ⟨64 * n.val + j.val, by omega⟩ H d) :=
  (gather_rows x rowI b n j H d).trans (congrArg (fun r => x (ix4 b r H d)) (Fin.ext (rowI_nat n j)))

/-- The bias, read at an index. -/
theorem biasR_at (x : FVec Ideal S16x513 .f32) (H : Fin 16) (a : Fin 64) (j : Fin 576) :
    biasR x (ix3 H a j) = x (ix2 H ⟨diagCol (63 - a.val + j.val), diagCol_lt _⟩) :=
  (gather_bias x colI H a j).trans (congrArg (fun r => x (ix2 H r)) (Fin.ext ((congrArg (min · 512) (colI_at a j)).trans
    (Nat.min_eq_left (Nat.lt_succ_iff.1 (diagCol_lt _))))))

end Cert.ReferenceIdeal.Att
-- ==== Proof.RefRead.lean ====
module

public import proofs.«01_k».proof.Proof.RefTerm
public import proofs.«01_k».proof.Proof.RefIndex
public import proofs.«01_k».proof.Proof.Band

@[expose] public section

set_option maxRecDepth 16384

noncomputable section

open Idealize.ShloMosaic Idealize.ShloMosaic.TcCoe Idealize.SL.Sem

namespace Cert.ReferenceIdeal.Att
open Cert.ReferenceIdeal Cert.ReferenceIdeal.Gen Idealize.ShloMosaic.StableHlo
open Cert.KernelIdeal.Att (rmsAt diagCol diagCol_lt)

/-! ## The reference's steps, read at an index -/

/-- The norm of a head. -/
theorem normR_at (x : FVec Ideal S2x8192x16x128 .f32) (w : FVec Ideal S128 .f32) (b : Fin 2) (s : Fin 8192) (H : Fin 16) (d : Fin 128) :
    normR x w (ix4 b s H d) = rmsAt (fun e => x (ix4 b s H e)) (fun e => w (ix1 e)) d := by
  unfold normR
  pointwise
  rfl

/-- A band of the padded sequence: zero before the start. -/
theorem bandR_at (x : FVec Ideal S2x8192x16x128 .f32) (b : Fin 2) (n : Fin 128) (j : Fin 576) (H : Fin 16) (d : Fin 128) :
    bandR x (ix5 b n j H d) = if h : 64 * n.val + j.val < 512 ∨ 8704 ≤ 64 * n.val + j.val then 0 else x (ix4 b ⟨64 * n.val + j.val - 512, by omega⟩ H d) := by
  unfold bandR
  rw [band_rows]
  pointwise
  by_cases h : 64 * n.val + j.val < 512
  · rw [dif_neg (by omega), dif_pos (Or.inl h)]
    show (((0#32).toInt : ℝ) : EReal) = 0
    simp
  · rw [dif_pos (by omega), dif_neg (by omega)]

/-- A masked logit. -/
theorem logitR_at (q : FVec Ideal S2x8192x16x128 .f32) (k : FVec Ideal S2x128x576x16x128 .f32) (β : FVec Ideal S16x64x576 .f32)
    (b : Fin 2) (n : Fin 128) (H : Fin 16) (a : Fin 64) (j : Fin 576) :
    logitR q k β (ix5 b n H a j) = if 512 ≤ 64 * n.val + j.val then
      Ideal.div (∑ x, q (ix4 b ⟨n.val * 64 + a.val, by omega⟩ H x) * k (ix5 b n j H x)) (Ideal.sqrt (Ideal.ofBits .f32 0x43000000#32)) + β (ix3 H a j)
      else Ideal.ofBits .f32 0xFF800000#32 := by
  unfold logitR
  pointwise
  rw [liveI_at]
  by_cases h : 512 ≤ 64 * n.val + j.val
  · rw [if_pos h, if_pos h]; rfl
  · rw [if_neg h, if_neg h]; rfl

/-- The maximum of a row of logits. -/
theorem max_at (l : FVec Ideal S2x128x16x64x576 .f32) (i : FVec Ideal S_ .f32) (b : Fin 2) (n : Fin 128) (H : Fin 16) (a : Fin 64) :
    (Host.reduce FloatOps.maximumf l i reducesTo_S2x128x16x64x576_S2x128x16x64_d4 h_S_ : FVec Ideal S2x128x16x64 .f32) (ix4 b n H a)
      = Finset.fold max (i (Shape.Idx.first h_S_)) (fun x => l (ix5 b n H a x)) Finset.univ :=
  (Host.reduce_eq_fold (FloatOps.maximumf (F := Ideal) (φ := .f32)) l i reducesTo_S2x128x16x64x576_S2x128x16x64_d4 h_S_ (ix4 b n H a)).trans
    (Shape.ReducesTo.fold_fiber_r5_a4 reducesTo_S2x128x16x64x576_S2x128x16x64_d4 (ix4 b n H a) (FloatOps.maximumf (F := Ideal) (φ := .f32)) (i (Shape.Idx.first h_S_)) l)

/-- The exponentials of the logits less a given row of maxima. -/
def topR (l : FVec Ideal S2x128x16x64x576 .f32) (t : FVec Ideal S2x128x16x64 .f32) : FVec Ideal S2x128x16x64x576 .f32 :=
  Host.exp (subf l (broadcastInDim S2x128x16x64x576 ![0, 1, 2, 3, 4] bcast_S2x128x16x64x1_S2x128x16x64x576_0_1_2_3_4 (broadcastInDim S2x128x16x64x1 ![0, 1, 2, 3] bcast_S2x128x16x64_S2x128x16x64x1_0_1_2_3 (maximumf (broadcastInDim S2x128x16x64 ![] bcast_S_S2x128x16x64 (constant (F := Ideal) S_ .f32 0xFF800000#32)) t))))

/-- It, read at an index. -/
theorem topR_at (l : FVec Ideal S2x128x16x64x576 .f32) (t : FVec Ideal S2x128x16x64 .f32) (b : Fin 2) (n : Fin 128) (H : Fin 16) (a : Fin 64) (j : Fin 576) :
    topR l t (ix5 b n H a j) = Ideal.exp (l (ix5 b n H a j) - max (Ideal.ofBits .f32 0xFF800000#32) (t (ix4 b n H a))) := by
  unfold topR
  pointwise

/-- An exponential of the softmax. -/
theorem expR_at (l : FVec Ideal S2x128x16x64x576 .f32) (b : Fin 2) (n : Fin 128) (H : Fin 16) (a : Fin 64) (j : Fin 576) :
    expR l (ix5 b n H a j) = Ideal.exp (l (ix5 b n H a j) - max (Ideal.ofBits .f32 0xFF800000#32)
      (Finset.fold max (Ideal.ofBits .f32 0xFF800000#32) (fun x => l (ix5 b n H a x)) Finset.univ)) := by
  have h := topR_at l (Host.reduce FloatOps.maximumf l (constant (F := Ideal) S_ .f32 0xFF800000#32) reducesTo_S2x128x16x64x576_S2x128x16x64_d4 h_S_) b n H a j
  rw [max_at] at h
  exact h

/-- The softmax over explicit exponentials. -/
def overR (e : FVec Ideal S2x128x16x64x576 .f32) : FVec Ideal S2x128x16x64x576 .f32 :=
  Host.divf e (broadcastInDim S2x128x16x64x576 ![0, 1, 2, 3, 4] bcast_S2x128x16x64x1_S2x128x16x64x576_0_1_2_3_4 (broadcastInDim S2x128x16x64x1 ![0, 1, 2, 3] bcast_S2x128x16x64_S2x128x16x64x1_0_1_2_3 (Host.reduceAdd e (constant (F := Ideal) S_ .f32 0x00000000#32) reducesTo_S2x128x16x64x576_S2x128x16x64_d4 h_S_)))

/-- It, read at an index. -/
theorem overR_at (e : FVec Ideal S2x128x16x64x576 .f32) (b : Fin 2) (n : Fin 128) (H : Fin 16) (a : Fin 64) (j : Fin 576) :
    overR e (ix5 b n H a j) = Ideal.div (e (ix5 b n H a j)) (∑ x, e (ix5 b n H a x)) := by
  unfold overR
  pointwise

/-- A weight of the softmax. -/
theorem softR_at (l : FVec Ideal S2x128x16x64x576 .f32) (b : Fin 2) (n : Fin 128) (H : Fin 16) (a : Fin 64) (j : Fin 576) :
    softR l (ix5 b n H a j) = Ideal.div (expR l (ix5 b n H a j)) (∑ x, expR l (ix5 b n H a x)) :=
  overR_at (expR l) b n H a j

/-- The weighted values. -/
theorem mixR_at (v : FVec Ideal S2x128x576x16x128 .f32) (p : FVec Ideal S2x128x16x64x576 .f32) (b : Fin 2) (s : Fin 8192) (l : Fin 2048) :
    mixR v p (ix3 b s l) = ∑ x, v (ix5 b ⟨s.val / 64, by omega⟩ x ⟨l.val / 128, by omega⟩ ⟨l.val % 128, by omega⟩)
      * p (ix5 b ⟨s.val / 64, by omega⟩ ⟨l.val / 128, by omega⟩ ⟨s.val % 64, by omega⟩ x) := by
  unfold mixR
  pointwise

/-- The gated output. -/
theorem gateR_at (o z : FVec Ideal S2x8192x2048 .f32) (i : Fin 16384) (l : Fin 2048) :
    gateR o z (ix2 i l) = o (ix3 ⟨i.val / 8192, by omega⟩ ⟨i.val % 8192, by omega⟩ l)
      * (z (ix3 ⟨i.val / 8192, by omega⟩ ⟨i.val % 8192, by omega⟩ l) * Ideal.logistic (z (ix3 ⟨i.val / 8192, by omega⟩ ⟨i.val % 8192, by omega⟩ l))) := by
  unfold gateR siluR
  pointwise
  rfl

/-- A query head's entry. -/
theorem partQ_at (a : FVec Ideal S2x8192x8192 .f32) (b : Fin 2) (s : Fin 8192) (H : Fin 16) (d : Fin 128) :
    partQ a (ix4 b s H d) = a (ix3 b s ⟨H.val * 128 + d.val, by omega⟩) := by
  unfold partQ
  pointwise

/-- A key head's entry. -/
theorem partK_at (a : FVec Ideal S2x8192x8192 .f32) (b : Fin 2) (s : Fin 8192) (H : Fin 16) (d : Fin 128) :
    partK a (ix4 b s H d) = a (ix3 b s ⟨2048 + (H.val * 128 + d.val), by omega⟩) := by
  unfold partK
  pointwise

/-- A value head's entry. -/
theorem partV_at (a : FVec Ideal S2x8192x8192 .f32) (b : Fin 2) (s : Fin 8192) (H : Fin 16) (d : Fin 128) :
    partV a (ix4 b s H d) = a (ix3 b s ⟨4096 + (H.val * 128 + d.val), by omega⟩) := by
  unfold partV
  pointwise

/-- The gate's entry. -/
theorem partZ_at (a : FVec Ideal S2x8192x8192 .f32) (b : Fin 2) (s : Fin 8192) (l : Fin 2048) :
    partZ a (ix3 b s l) = a (ix3 b s ⟨6144 + l.val, by omega⟩) := by
  unfold partZ
  pointwise

end Cert.ReferenceIdeal.Att
-- ==== Proof.Softmax.lean ====
module

public import Idealize.ShloMosaic.PureOps.Ideal
public import Idealize.ShloMosaic.PureOps.Ideal.Laws
public import Mathlib.Data.EReal.Inv
public import Mathlib.Data.EReal.Operations
public import Mathlib.Analysis.SpecialFunctions.Pow.Real

@[expose] public section

noncomputable section

open Idealize.ShloMosaic

namespace Cert.BandSoftmax

/-! ## The softmax of a band, by powers of two over a longer row and by exponentials over the band

The longer row holds the band's logits, divided by `log 2`, in a window of it, and minus infinity beside the window. -/

/-- A finite nonnegative factor goes into a sum. -/
theorem mul_sum' {ι : Type} (s : Finset ι) (f : ι → EReal) {x : EReal} (h0 : 0 ≤ x) (ht : x ≠ ⊤) : x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

/-- The reciprocal of the logarithm of two. -/
abbrev lam : EReal := (((Real.log 2)⁻¹ : ℝ) : EReal)

theorem log_two_pos : 0 < Real.log 2 := Real.log_pos (by norm_num)

theorem lam_nonneg : 0 ≤ lam := EReal.coe_nonneg.2 (inv_nonneg.2 log_two_pos.le)

theorem lam_pos : 0 < lam := EReal.coe_pos.2 (inv_pos.2 log_two_pos)

theorem lam_ne_top : lam ≠ ⊤ := EReal.coe_ne_top _

theorem lam_mul_bot : lam * ⊥ = ⊥ := EReal.coe_mul_bot_of_pos (inv_pos.2 log_two_pos)

theorem lam_mul_top : lam * ⊤ = ⊤ := EReal.coe_mul_top_of_pos (inv_pos.2 log_two_pos)

/-- A power of two of an exponent divided by `log 2` is the exponential. -/
theorem exp2_lam (x : EReal) : Ideal.exp2 (lam * x) = Ideal.exp x := by
  induction x using EReal.rec with
  | bot => rw [lam_mul_bot]; rfl
  | top => rw [lam_mul_top]; rfl
  | coe r =>
    rw [← EReal.coe_mul]
    show (((2 : ℝ) ^ ((Real.log 2)⁻¹ * r) : ℝ) : EReal) = ((Real.exp r : ℝ) : EReal)
    congr 1
    rw [Real.rpow_def_of_pos (by norm_num), ← mul_assoc, mul_inv_cancel₀ log_two_pos.ne', one_mul]

theorem lam_mul_sub (x y : EReal) : lam * x - lam * y = lam * (x - y) := by
  rw [sub_eq_add_neg, sub_eq_add_neg, EReal.left_distrib_of_nonneg_of_ne_top lam_nonneg lam_ne_top, mul_neg]

theorem exp_nonneg (x : EReal) : 0 ≤ Ideal.exp x := by
  induction x using EReal.rec with
  | bot => exact le_refl _
  | top => exact le_top
  | coe r => exact EReal.coe_nonneg.2 (Real.exp_pos r).le

/-- The window's entry `k`. -/
def win (o : ℕ) (ho : o ≤ 64) (k : Fin 576) : Fin 640 := ⟨o + k.val, by omega⟩

theorem win_injective (o : ℕ) (ho : o ≤ 64) : Function.Injective (win o ho) := fun a b h => Fin.ext (by
  have := congrArg Fin.val h
  simp only [win] at this
  omega)

theorem not_win (o : ℕ) (ho : o ≤ 64) (j : Fin 640) (h : j ∉ Set.range (win o ho)) : ¬ (o ≤ j.val ∧ j.val < o + 576) := fun hj =>
  h ⟨⟨j.val - o, by omega⟩, Fin.ext (by show o + (j.val - o) = j.val; omega)⟩

section

variable (o : ℕ) (ho : o ≤ 64) {L : Fin 640 → EReal} {l : Fin 576 → EReal} (hin : ∀ k, L (win o ho k) = lam * l k)
  (hout : ∀ j : Fin 640, ¬ (o ≤ j.val ∧ j.val < o + 576) → L j = ⊥)

include hin hout

/-- The largest logits correspond. -/
theorem sup_eq : Finset.univ.sup L = lam * Finset.univ.sup l := by
  apply le_antisymm
  · refine Finset.sup_le fun j _ => ?_
    by_cases hj : j ∈ Set.range (win o ho)
    · obtain ⟨k, rfl⟩ := hj
      rw [hin]
      exact mul_le_mul_of_nonneg_left (Finset.le_sup (Finset.mem_univ k)) lam_nonneg
    · rw [hout j (not_win o ho j hj)]
      exact bot_le
  · obtain ⟨k, _, hk⟩ := Finset.exists_mem_eq_sup Finset.univ ⟨(0 : Fin 576), Finset.mem_univ _⟩ l
    rw [hk, ← hin]
    exact Finset.le_sup (Finset.mem_univ _)

/-- The powers of two in the window are the exponentials. -/
theorem exp_in (k : Fin 576) : Ideal.exp2 (L (win o ho k) - Finset.univ.sup L) = Ideal.exp (l k - Finset.univ.sup l) := by
  rw [sup_eq o ho hin hout, hin, lam_mul_sub, exp2_lam]

omit hin in
/-- The powers of two beside the window are zero. -/
theorem exp_out (j : Fin 640) (h : j ∉ Set.range (win o ho)) : Ideal.exp2 (L j - Finset.univ.sup L) = 0 := by
  rw [hout j (not_win o ho j h), sub_eq_add_neg, EReal.bot_add]
  rfl

/-- The two quotients agree where the band has a finite largest logit. -/
theorem quotient_eq {V : Fin 640 → EReal} {v : Fin 576 → EReal} (hv : ∀ k, V (win o ho k) = v k) {r : ℝ} (hr : Finset.univ.sup l = (r : EReal)) :
    Ideal.div (∑ j, Ideal.exp2 (L j - Finset.univ.sup L) * V j) (∑ j, Ideal.exp2 (L j - Finset.univ.sup L))
      = ∑ k, v k * Ideal.div (Ideal.exp (l k - Finset.univ.sup l)) (∑ k, Ideal.exp (l k - Finset.univ.sup l)) := by
  have h1 : ∑ j, Ideal.exp2 (L j - Finset.univ.sup L) = ∑ k, Ideal.exp (l k - Finset.univ.sup l) :=
    (Fintype.sum_of_injective (win o ho) (win_injective o ho) _ _ (exp_out o ho hout) (fun k => (exp_in o ho hin hout k).symm)).symm
  have h2 : ∑ j, Ideal.exp2 (L j - Finset.univ.sup L) * V j = ∑ k, Ideal.exp (l k - Finset.univ.sup l) * v k :=
    (Fintype.sum_of_injective (win o ho) (win_injective o ho) _ _ (fun j h => by rw [exp_out o ho hout j h, zero_mul])
      (fun k => by rw [exp_in o ho hin hout k, hv])).symm
  rw [h1, h2]
  set e : Fin 576 → EReal := fun k => Ideal.exp (l k - Finset.univ.sup l) with he
  have hpos : (0 : EReal) < ∑ k, e k := by
    obtain ⟨k, _, hk⟩ := Finset.exists_mem_eq_sup Finset.univ ⟨(0 : Fin 576), Finset.mem_univ _⟩ l
    have hek : e k = 1 := by
      show Ideal.exp (l k - Finset.univ.sup l) = 1
      rw [← hk, hr, ← EReal.coe_sub, sub_self]
      show ((Real.exp 0 : ℝ) : EReal) = 1
      rw [Real.exp_zero]; rfl
    refine lt_of_lt_of_le ?_ (Finset.single_le_sum (fun i _ => exp_nonneg _) (Finset.mem_univ k))
    exact lt_of_lt_of_eq zero_lt_one hek.symm
  have hinv : (0 : EReal) ≤ (∑ k, e k)⁻¹ := EReal.inv_nonneg_of_nonneg hpos.le
  have hinvt : (∑ k, e k)⁻¹ ≠ ⊤ := by
    intro h
    generalize ∑ k, e k = d at hpos h
    induction d using EReal.rec with
    | bot => exact absurd hpos (by simp)
    | top => simp at h
    | coe x => rw [← EReal.coe_inv] at h; exact EReal.coe_ne_top _ h
  have hdiv : ∀ x, Ideal.div x (∑ k, e k) = x * (∑ k, e k)⁻¹ := fun x => if_neg hpos.ne'
  show Ideal.div (∑ k, e k * v k) (∑ k, e k) = ∑ k, v k * Ideal.div (e k) (∑ k, e k)
  rw [hdiv, mul_comm, mul_sum' _ _ hinv hinvt]
  refine Finset.sum_congr rfl fun k _ => ?_
  rw [hdiv, mul_comm, mul_comm (e k) (v k), mul_assoc]

end

end Cert.BandSoftmax
-- ==== Proof.Finite.lean ====
module

public import proofs.«01_k».proof.Proof.Block
public import proofs.«01_k».proof.Proof.Softmax

@[expose] public section

noncomputable section

open Idealize.ShloMosaic

namespace Cert.BandSoftmax
open Cert.KernelIdeal.Att (rmsAt)

/-! ## The literals' values, and that norms and logits are real -/

theorem lit_128 : Ideal.ofBits .f32 0x43000000#32 = ((128 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_inf : Ideal.ofBits .f32 0xFF800000#32 = (⊥ : EReal) := by
  simp [Ideal.ofBits, Ideal.ieee]

theorem lit_inf : Ideal.ofBits .f32 0x7F800000#32 = (⊤ : EReal) := by
  simp [Ideal.ofBits, Ideal.ieee]

theorem lit_eps : ∃ r : ℝ, 0 < r ∧ Ideal.ofBits .f32 0x358637BD#32 = (r : EReal) := by
  refine ⟨(8796093 : ℝ) * 2 ^ (-43 : ℤ), by positivity, ?_⟩
  simp [Ideal.ofBits, Ideal.ieee, -EReal.coe_mul]

/-- A value that is neither infinity. -/
def IsReal (x : EReal) : Prop := ∃ r : ℝ, x = (r : EReal)

theorem isReal_zero : IsReal 0 := ⟨0, rfl⟩

theorem isReal_of_ne {x : EReal} (hb : x ≠ ⊥) (ht : x ≠ ⊤) : IsReal x := ⟨x.toReal, (EReal.coe_toReal ht hb).symm⟩

theorem IsReal.add {x y : EReal} (hx : IsReal x) (hy : IsReal y) : IsReal (x + y) := by
  obtain ⟨r, rfl⟩ := hx
  obtain ⟨q, rfl⟩ := hy
  exact ⟨r + q, (EReal.coe_add r q).symm⟩

theorem IsReal.mul {x y : EReal} (hx : IsReal x) (hy : IsReal y) : IsReal (x * y) := by
  obtain ⟨r, rfl⟩ := hx
  obtain ⟨q, rfl⟩ := hy
  exact ⟨r * q, (EReal.coe_mul r q).symm⟩

theorem IsReal.sum {ι : Type} (s : Finset ι) {f : ι → EReal} (h : ∀ i, IsReal (f i)) : IsReal (∑ i ∈ s, f i) := by
  classical
  induction s using Finset.induction_on with
  | empty => exact isReal_zero
  | insert a s ha ih => rw [Finset.sum_insert ha]; exact (h a).add ih

/-- Division by a real other than zero. -/
theorem div_coe (x : EReal) {r : ℝ} (hr : r ≠ 0) : Ideal.div x (r : EReal) = x * ((r⁻¹ : ℝ) : EReal) := by
  unfold Ideal.div
  rw [if_neg (by exact_mod_cast hr), EReal.coe_inv]

theorem sq_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

/-- The reciprocal root of a positive real. -/
theorem rsqrt_real {q : ℝ} (hq : 0 < q) : IsReal (Ideal.rsqrt (q : EReal)) := by
  refine ⟨(Real.sqrt q)⁻¹, ?_⟩
  show (if q < 0 then (⊥ : EReal) else if q = 0 then ⊤ else ((Real.sqrt q)⁻¹ : ℝ)) = _
  rw [if_neg hq.le.not_gt, if_neg hq.ne']

/-- The norm of any vector is real when the weights are: a vector with an infinite entry has norm zero. -/
theorem rms_real (u : Fin 128 → EReal) {w : Fin 128 → EReal} (hw : ∀ d, IsReal (w d)) (d : Fin 128) : IsReal (rmsAt u w d) := by
  obtain ⟨ε, hε, e⟩ := lit_eps
  unfold rmsAt
  rw [lit_128, e, div_coe _ (by norm_num)]
  have hle : u d * u d ≤ ∑ e, u e * u e := Finset.single_le_sum (f := fun e => u e * u e) (fun i _ => sq_nonneg' _) (Finset.mem_univ d)
  have h0 : 0 ≤ ∑ e, u e * u e := Finset.sum_nonneg fun i _ => sq_nonneg' _
  generalize (∑ e, u e * u e) = S at hle h0
  refine IsReal.mul ?_ (hw d)
  induction S using EReal.rec with
  | bot => exact absurd h0 (by simp)
  | top =>
    rw [EReal.top_mul_coe_of_pos (by norm_num), EReal.top_add_coe]
    show IsReal (u d * 0)
    rw [mul_zero]
    exact isReal_zero
  | coe r =>
    have hr : 0 ≤ r := EReal.coe_nonneg.1 h0
    refine IsReal.mul ?_ ?_
    · refine isReal_of_ne ?_ ?_
      · intro h; rw [h, EReal.bot_mul_bot] at hle; exact absurd hle (by simp)
      · intro h; rw [h, EReal.top_mul_top] at hle; exact absurd hle (by simp)
    · rw [← EReal.coe_mul, ← EReal.coe_add]
      exact rsqrt_real (by positivity)

/-- A constant factor of the weights is a factor of the norm. -/
theorem rms_scale (u w : Fin 128 → EReal) (c : EReal) (d : Fin 128) : rmsAt u (fun e => w e * c) d = rmsAt u w d * c := by
  unfold rmsAt
  exact (mul_assoc _ _ _).symm

/-- The larger of finitely many values, each real or `⊥` and one of them real, is real. -/
theorem sup_real {n : ℕ} (l : Fin n → EReal) (h : ∀ k, l k = ⊥ ∨ IsReal (l k)) (k0 : Fin n) (h0 : IsReal (l k0)) :
    ∃ r : ℝ, Finset.univ.sup l = (r : EReal) := by
  obtain ⟨j, _, hj⟩ := Finset.exists_mem_eq_sup Finset.univ ⟨k0, Finset.mem_univ k0⟩ l
  rcases h j with hb | hr
  · exfalso
    obtain ⟨r, hr⟩ := h0
    have hle : l k0 ≤ Finset.univ.sup l := Finset.le_sup (Finset.mem_univ k0)
    rw [hj, hb, hr] at hle
    exact absurd hle (by simp)
  · obtain ⟨r, hr⟩ := hr
    exact ⟨r, hj.trans hr⟩

/-- The square root of the head's width. -/
theorem sqrt_128 : Ideal.sqrt (Ideal.ofBits .f32 0x43000000#32) = ((Real.sqrt 128 : ℝ) : EReal) := by
  rw [lit_128]
  show (if (128 : ℝ) < 0 then (⊥ : EReal) else ((Real.sqrt 128 : ℝ) : EReal)) = _
  rw [if_neg (by norm_num)]

/-- The logarithm of two. -/
theorem log_lit_two : Ideal.log (Ideal.ofBits .f32 0x40000000#32) = ((Real.log 2 : ℝ) : EReal) := by
  rw [lit_two]
  show (if (2 : ℝ) ≤ 0 then (⊥ : EReal) else ((Real.log 2 : ℝ) : EReal)) = _
  rw [if_neg (by norm_num)]

/-- A logit whose query carries the scale over `log 2`, and whose bias is divided by `log 2`, is the plain logit over `log 2`. -/
theorem logit_scale (R K : Fin 128 → EReal) (D : EReal) :
    (∑ d, R d * (((Real.sqrt 128)⁻¹ * (Real.log 2)⁻¹ : ℝ) : EReal) * K d) + Ideal.div D (Ideal.log (Ideal.ofBits .f32 0x40000000#32))
      = lam * (Ideal.div (∑ d, R d * K d) (Ideal.sqrt (Ideal.ofBits .f32 0x43000000#32)) + D) := by
  have hs : 0 < Real.sqrt 128 := Real.sqrt_pos.2 (by norm_num)
  rw [sqrt_128, log_lit_two, div_coe _ hs.ne', div_coe _ log_two_pos.ne',
    EReal.left_distrib_of_nonneg_of_ne_top lam_nonneg lam_ne_top]
  have h1 : ∀ d, R d * (((Real.sqrt 128)⁻¹ * (Real.log 2)⁻¹ : ℝ) : EReal) * K d
      = (((Real.sqrt 128)⁻¹ * (Real.log 2)⁻¹ : ℝ) : EReal) * (R d * K d) := fun d => by
    rw [mul_comm (R d), mul_assoc]
  rw [Finset.sum_congr rfl fun d _ => h1 d,
    ← mul_sum' _ _ (EReal.coe_nonneg.2 (mul_nonneg (inv_nonneg.2 hs.le) (inv_nonneg.2 log_two_pos.le))) (EReal.coe_ne_top _)]
  congr 1
  · rw [EReal.coe_mul, mul_comm ((((Real.sqrt 128)⁻¹ : ℝ) : EReal)), mul_assoc, mul_comm ((((Real.sqrt 128)⁻¹ : ℝ) : EReal))]
  · exact mul_comm _ _

/-- The plain logit is real. -/
theorem logit_real {R K : Fin 128 → EReal} {D : EReal} (hR : ∀ d, IsReal (R d)) (hK : ∀ d, IsReal (K d)) (hD : IsReal D) :
    IsReal (Ideal.div (∑ d, R d * K d) (Ideal.sqrt (Ideal.ofBits .f32 0x43000000#32)) + D) := by
  rw [sqrt_128, div_coe _ (Real.sqrt_pos.2 (by norm_num)).ne']
  exact ((IsReal.sum _ fun d => (hR d).mul (hK d)).mul ⟨_, rfl⟩).add hD

end Cert.BandSoftmax
-- ==== Proof.Equation.lean ====
module

public import proofs.«01_k».proof.Proof.Finite
public import proofs.«01_k».proof.Proof.Band

@[expose] public section

noncomputable section

open Idealize.ShloMosaic

namespace Cert.BandSoftmax
open Cert.KernelIdeal Cert.KernelIdeal.Att

/-! ## The kernel's band attention is the plain one -/

variable (p : Fin 4 → Fin 16 → Fin 2 → Fin 8192 → Fin 128 → EReal) (wq wk : Fin 128 → EReal) (D : Fin 16 → ℕ → EReal)

/-- The plain logit of token `s` with entry `j` of its chunk's 576 positions. -/
def plainLogit (H : Fin 16) (b : Fin 2) (s : Fin 8192) (j : Fin 576) : EReal :=
  if 512 ≤ 64 * (s.val / 64) + j.val then
    Ideal.div (∑ x, rmsAt (p 0 H b s) wq x * keyP p wk H b (64 * (s.val / 64) + j.val) x) (Ideal.sqrt (Ideal.ofBits .f32 0x43000000#32))
      + D H (63 - s.val % 64 + j.val)
  else Ideal.ofBits .f32 0xFF800000#32

/-- The plain weight before the division. -/
def plainExp (l : Fin 576 → EReal) (j : Fin 576) : EReal :=
  Ideal.exp (l j - max (Ideal.ofBits .f32 0xFF800000#32) (Finset.fold max (Ideal.ofBits .f32 0xFF800000#32) l Finset.univ))

/-- The plain gated output. -/
def plainOut (H : Fin 16) (b : Fin 2) (s : Fin 8192) (d : Fin 128) : EReal :=
  (∑ j, valP p H b (64 * (s.val / 64) + j.val) d * Ideal.div (plainExp (plainLogit p wq wk D H b s) j) (∑ k, plainExp (plainLogit p wq wk D H b s) k))
    * (p 3 H b s d * Ideal.logistic (p 3 H b s d))

theorem fold_max_eq_sup {n : ℕ} (l : Fin n → EReal) : Finset.fold max (Ideal.ofBits .f32 0xFF800000#32) l Finset.univ = Finset.univ.sup l := by
  rw [lit_neg_inf]
  rfl

theorem plainExp_eq (l : Fin 576 → EReal) (j : Fin 576) : plainExp l j = Ideal.exp (l j - Finset.univ.sup l) := by
  unfold plainExp
  rw [fold_max_eq_sup, lit_neg_inf, max_eq_right bot_le]

theorem expAt_eq (l : Fin 640 → EReal) (j : Fin 640) : expAt l j = Ideal.exp2 (l j - Finset.univ.sup l) := by
  unfold expAt
  rw [fold_max_eq_sup]
  rfl

theorem key_real (hwk : ∀ d, IsReal (wk d)) (H : Fin 16) (b : Fin 2) (n : ℕ) (d : Fin 128) : IsReal (keyP p wk H b n d) := by
  unfold keyP
  split
  · exact isReal_zero
  · exact rms_real _ hwk d

variable {p wq wk D} {B : Fin 16 → Fin 2 → Fin 64 → Fin 640 → EReal}
  (hwq : ∀ d, IsReal (wq d)) (hwk : ∀ d, IsReal (wk d)) (hD : ∀ H t, IsReal (D H t))
  (hB : ∀ H (u : Fin 2) (a : Fin 64) (j : Fin 640), B H u a j = if 64 * u.val ≤ j.val ∧ j.val < 64 * u.val + 576 then
    Ideal.div (D H (63 - a.val + (j.val - 64 * u.val))) (Ideal.log (Ideal.ofBits .f32 0x40000000#32)) else Ideal.ofBits .f32 0xFF800000#32)

include hwq hwk hD in
/-- A plain logit is real, or `⊥` before the sequence's start. -/
theorem plain_real (H : Fin 16) (b : Fin 2) (s : Fin 8192) (j : Fin 576) :
    plainLogit p wq wk D H b s j = ⊥ ∨ IsReal (plainLogit p wq wk D H b s j) := by
  unfold plainLogit
  split
  · exact Or.inr (logit_real (fun d => rms_real _ hwq d) (fun d => key_real _ _ hwk _ _ _ d) (hD _ _))
  · exact Or.inl lit_neg_inf

include hwq hwk hD in
/-- The largest plain logit is real: the token's own chunk lies in the sequence. -/
theorem plain_sup (H : Fin 16) (b : Fin 2) (s : Fin 8192) : ∃ r : ℝ, Finset.univ.sup (plainLogit p wq wk D H b s) = (r : EReal) := by
  refine sup_real _ (plain_real hwq hwk hD H b s) ⟨575, by omega⟩ ?_
  unfold plainLogit
  rw [if_pos (by show 512 ≤ 64 * (s.val / 64) + 575; omega)]
  exact logit_real (fun d => rms_real _ hwq d) (fun d => key_real _ _ hwk _ _ _ d) (hD _ _)

/-- The kernel's named constants. -/
theorem named_scale : (Named.named κ "scale_log2e" 0x3E0293EE#32 : Ideal .f32) = (((Real.sqrt 128)⁻¹ * (Real.log 2)⁻¹ : ℝ) : EReal) := rfl

theorem named_mask : (Named.named κ "mask" 0xF149F2CA#32 : Ideal .f32) = (⊥ : EReal) := rfl

include hB in
/-- Inside a chunk's window the kernel's logit is the plain one over `log 2`. -/
theorem logit_in (H : Fin 16) (b : Fin 2) (s : Fin 8192) (k : Fin 576) (ho : 64 * (s.val / 64 % 2) ≤ 64) :
    logitP p wq wk B H b s (win (64 * (s.val / 64 % 2)) ho k) = lam * plainLogit p wq wk D H b s k := by
  have hpos : s.val / 128 * 128 + (win (64 * (s.val / 64 % 2)) ho k).val = 64 * (s.val / 64) + k.val := by
    show s.val / 128 * 128 + (64 * (s.val / 64 % 2) + k.val) = _
    omega
  unfold logitP plainLogit
  rw [hpos, hB, if_pos (by constructor <;> simp only [win] <;> omega)]
  have hd : 63 - s.val % 64 + ((win (64 * (s.val / 64 % 2)) ho k).val - 64 * (s.val / 64 % 2)) = 63 - s.val % 64 + k.val := by
    show 63 - s.val % 64 + (64 * (s.val / 64 % 2) + k.val - 64 * (s.val / 64 % 2)) = _
    omega
  simp only [hd, rms_scale, named_scale]
  unfold maskP
  by_cases h : 512 ≤ 64 * (s.val / 64) + k.val
  · rw [if_neg (by omega), if_pos h, add_zero]
    exact logit_scale _ _ _
  · rw [if_pos (by omega), if_neg h, named_mask, lit_neg_inf, lam_mul_bot, EReal.add_bot]

include hB in
/-- Outside it the kernel's logit is `⊥`. -/
theorem logit_out (H : Fin 16) (b : Fin 2) (s : Fin 8192) (j : Fin 640)
    (h : ¬ (64 * (s.val / 64 % 2) ≤ j.val ∧ j.val < 64 * (s.val / 64 % 2) + 576)) : logitP p wq wk B H b s j = ⊥ := by
  unfold logitP
  rw [hB, if_neg h, lit_neg_inf, EReal.add_bot, EReal.bot_add]

include hwq hwk hD hB in
/-- The kernel's output is the plain one. -/
theorem out_eq (H : Fin 16) (b : Fin 2) (s : Fin 8192) (d : Fin 128) :
    outP p wq wk B H b s d = plainOut p wq wk D H b s d := by
  have ho : 64 * (s.val / 64 % 2) ≤ 64 := by omega
  obtain ⟨r, hr⟩ := plain_sup (p := p) hwq hwk hD H b s
  unfold outP outAt plainOut
  simp only [plainExp_eq, expAt_eq]
  congr 1
  refine quotient_eq (64 * (s.val / 64 % 2)) ho (fun k => logit_in hB H b s k ho) (fun j hj => logit_out hB H b s j hj) (fun k => ?_) hr
  congr 1
  show s.val / 128 * 128 + (64 * (s.val / 64 % 2) + k.val) = _
  omega

end Cert.BandSoftmax
-- ==== Proof.RefValue.lean ====
module

public import proofs.«01_k».proof.Proof.RefRead
public import proofs.«01_k».proof.Proof.Equation

@[expose] public section

set_option maxRecDepth 16384

noncomputable section

open Idealize.ShloMosaic Idealize.ShloMosaic.TcCoe Idealize.SL.Sem

namespace Cert.ReferenceIdeal.Att
open Cert.ReferenceIdeal Cert.ReferenceIdeal.Gen
open Cert.KernelIdeal.Att (rmsAt keyP valP diagCol diagCol_lt)
open Cert.BandSoftmax

/-! ## The reference's result is the plain attention -/

/-- The column of lane `d` of head `H` in part `g`. -/
abbrev partCol (g : Fin 4) (H : Fin 16) (d : Fin 128) : Fin 8192 := ⟨2048 * g.val + (H.val * 128 + d.val), by omega⟩

/-- The projection, by part, head, sequence, token and lane. -/
def projR (a : FVec Ideal S2x8192x8192 .f32) (g : Fin 4) (H : Fin 16) (b : Fin 2) (s : Fin 8192) (d : Fin 128) : EReal :=
  a (ix3 b s (partCol g H d))

/-- The bias of a head on a diagonal of the band. -/
def diagR (a : FVec Ideal S16x513 .f32) (H : Fin 16) (t : ℕ) : EReal := a (ix2 H ⟨diagCol t, diagCol_lt t⟩)

/-- The weights as a function of the lane. -/
def laneR (a : FVec Ideal S128 .f32) (e : Fin 128) : EReal := a (ix1 e)

variable (a0 : FVec Ideal S2x8192x8192 .f32) (a1 a2 : FVec Ideal S128 .f32) (a3 : FVec Ideal S16x513 .f32)

theorem query_read (b : Fin 2) (s : Fin 8192) (H : Fin 16) (d : Fin 128) :
    normR (partQ a0) a1 (ix4 b s H d) = rmsAt (projR a0 0 H b s) (laneR a1) d := by
  rw [normR_at]
  congr 1
  funext e
  rw [partQ_at]
  exact congrArg (fun c => a0 (ix3 b s c)) (Fin.ext (by show H.val * 128 + e.val = 2048 * 0 + (H.val * 128 + e.val); omega))

theorem key_read (b : Fin 2) (n : Fin 128) (j : Fin 576) (H : Fin 16) (d : Fin 128) :
    bandR (normR (partK a0) a2) (ix5 b n j H d) = keyP (projR a0) (laneR a2) H b (64 * n.val + j.val) d := by
  rw [bandR_at]
  unfold keyP
  split
  · rfl
  · rw [normR_at]
    congr 1
    funext e
    rw [partK_at]
    rfl

theorem val_read (b : Fin 2) (n : Fin 128) (j : Fin 576) (H : Fin 16) (d : Fin 128) :
    bandR (partV a0) (ix5 b n j H d) = valP (projR a0) H b (64 * n.val + j.val) d := by
  rw [bandR_at]
  unfold valP
  split
  · rfl
  · rw [partV_at]
    rfl

/-- The chunk of a token. -/
abbrev chunkOf (s : Fin 8192) : Fin 128 := ⟨s.val / 64, by omega⟩

/-- The place of a token in its chunk. -/
abbrev placeOf (s : Fin 8192) : Fin 64 := ⟨s.val % 64, by omega⟩

theorem logit_read (b : Fin 2) (s : Fin 8192) (H : Fin 16) (j : Fin 576) :
    logitR (normR (partQ a0) a1) (bandR (normR (partK a0) a2)) (biasR a3) (ix5 b (chunkOf s) H (placeOf s) j)
      = plainLogit (projR a0) (laneR a1) (laneR a2) (diagR a3) H b s j := by
  have hs : (⟨(chunkOf s).val * 64 + (placeOf s).val, by omega⟩ : Fin 8192) = s := Fin.ext (by show s.val / 64 * 64 + s.val % 64 = s.val; omega)
  rw [logitR_at]
  unfold plainLogit
  simp only [hs, query_read, key_read, biasR_at]
  rfl

theorem exp_read (l : FVec Ideal S2x128x16x64x576 .f32) (b : Fin 2) (n : Fin 128) (H : Fin 16) (a : Fin 64) (j : Fin 576) :
    expR l (ix5 b n H a j) = plainExp (fun x => l (ix5 b n H a x)) j := expR_at l b n H a j

/-- The reference's result at an index. -/
theorem ref_out (i : Fin 16384) (l : Fin 2048) :
    gateR (mixR (bandR (partV a0)) (softR (logitR (normR (partQ a0) a1) (bandR (normR (partK a0) a2)) (biasR a3)))) (partZ a0) (ix2 i l)
      = plainOut (projR a0) (laneR a1) (laneR a2) (diagR a3) ⟨l.val / 128, by omega⟩ ⟨i.val / 8192, by omega⟩ ⟨i.val % 8192, by omega⟩ ⟨l.val % 128, by omega⟩ := by
  rw [gateR_at, mixR_at, partZ_at]
  unfold plainOut
  have hz : (⟨6144 + l.val, by omega⟩ : Fin 8192) = partCol 3 ⟨l.val / 128, by omega⟩ ⟨l.val % 128, by omega⟩ :=
    Fin.ext (by show 6144 + l.val = 2048 * 3 + (l.val / 128 * 128 + l.val % 128); omega)
  rw [hz]
  congr 1
  refine Finset.sum_congr rfl fun j _ => ?_
  rw [val_read, softR_at]
  simp only [exp_read]
  have hl : (fun x => logitR (normR (partQ a0) a1) (bandR (normR (partK a0) a2)) (biasR a3)
      (ix5 (⟨i.val / 8192, by omega⟩ : Fin 2) (chunkOf ⟨i.val % 8192, by omega⟩) (⟨l.val / 128, by omega⟩ : Fin 16) (placeOf ⟨i.val % 8192, by omega⟩) x))
      = plainLogit (projR a0) (laneR a1) (laneR a2) (diagR a3) ⟨l.val / 128, by omega⟩ ⟨i.val / 8192, by omega⟩ ⟨i.val % 8192, by omega⟩ :=
    funext fun x => logit_read a0 a1 a2 a3 _ _ _ x
  rw [← hl]

end Cert.ReferenceIdeal.Att
-- ==== Proof.Store.lean ====
module

public import proofs.«01_k».proof.Proof.Block
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Att
open Cert.KernelIdeal Cert.KernelIdeal.Gen

/-! ## Loads after stores -/

section Views

variable {sig : RefSig} {κ : Kind} {sp : Space} {s : Shape} {e : EltTy} {Val : EltTy → Type}

/-- Does one of the stored pieces hold the whole box of `size` indices from `off`? -/
def holdsBox (off size : Fin s.rank → ℕ) (L : List (View.Piece Val s e)) : Bool :=
  L.any fun p => decide (∀ a, p.1.off a ≤ off a ∧ off a + size a ≤ p.1.off a + p.1.size a ∧ p.1.stride a = 1)

/-- An index of such a box lies in a stored piece. -/
theorem exists_of_holdsBox {off size : Fin s.rank → ℕ} {L : List (View.Piece Val s e)} (h : holdsBox off size L = true) (i : s.Idx)
    (hi : ∀ a, off a ≤ (i a).val ∧ (i a).val < off a + size a) : ∃ p ∈ L, i ∈ p.1.set := by
  obtain ⟨p, hp, hb⟩ := List.any_eq_true.mp h
  have hb := of_decide_eq_true hb
  refine ⟨p, hp, p.1.mem_set.mpr fun a => ⟨(i a).val - p.1.off a, ?_, ?_⟩⟩
  · have h1 := hb a; have h2 := hi a; omega
  · have h1 := hb a; have h2 := hi a; rw [h1.2.2]; omega

/-- A load after stores that are blocks of one array reads that array, where a stored piece holds the element or the earlier contents agree with the array. -/
theorem readAt_of_pieces (v : View sig κ sp s e) (f : v.ty.Contents Val) {G : s.Idx → Val e} {L : List (View.Piece Val s e)} (hL : View.PiecesOf G L)
    (B : LoadRect s) (j : B.shape.Idx) (h : (∃ p ∈ L, B.idx j ∈ p.1.set) ∨ v.read Val f (B.idx j) = G (B.idx j)) :
    v.readAt Val B (v.writes Val f L) j = G (B.idx j) := by
  show v.read Val (v.writes Val f L) (B.idx j) = _
  by_cases hc : ∃ p ∈ L, B.idx j ∈ p.1.set
  · exact View.read_writes_apply_of_pieces v f G L hL.mem _ hc
  · rw [View.read_writes_apply_of_forall_not_mem v f _ L fun p hp hm => hc ⟨p, hp, hm⟩]
    exact h.resolve_left hc

end Views

/-! ## The pieces a grid point stores are blocks of the arrays of Block.lean -/

section Pieces

variable (a3 : Memref sig .tc .vmem S1024x2048 .bf16) (ha3 : a3.IsWhole) (a4 : Memref sig .tc .vmem S1x128 .f32) (ha4 : a4.IsWhole)
  (a5 : Memref sig .tc .vmem S1x128 .f32) (ha5 : a5.IsWhole) (a6 : Memref sig .tc .vmem S4x2x64x640 .f32) (ha6 : a6.IsWhole)
  (a8 : Memref sig .tc .vmem S1536x512 .bf16) (ha8 : a8.IsWhole) (a10 : Memref sig .tc .vmem S4x1024x640 .f32)
  (x0 : FVec Ideal S1024x2048 .bf16) (x1 x2 : FVec Ideal S1x128 .f32) (x3 : FVec Ideal S4x2x64x640 .f32)
  (base : FVec Ideal S1536x512 .bf16) (K V : FVec Ideal S1536x512 .bf16) (S : FVec Ideal S4x1024x640 .f32)

/-- The load of the weights reads them. -/
theorem load_w (inb) (e : Fin 128) :
    View.readAt (Elt Ideal) a4.view (Rect.unit (s := S1x128) ![0, 0] S1x128.size inb).toLoadRect (ha4.unread x1) (ix2 0 e) = x1 (ix2 0 e) := by
  rw [View.readAt_eq_ld, ha4.read_unread, View.ld_apply, unit_idx2 inb 0 e 0 e rfl (by omega)]

/-- A load of 128 lanes of the block reads one part of one head. -/
theorem load_x (g h : Fin 4) {o : ℕ} (ho : o = 512 * g.val + 128 * h.val) (inb) (r : Fin 1024) (e : Fin 128) :
    View.readAt (Elt Ideal) a3.view (Rect.unit (s := S1024x2048) ![0, o] S1024x128.size inb).toLoadRect (ha3.unread x0) (ix2 r e) = lane x0 g h r e := by
  rw [View.readAt_eq_ld, ha3.read_unread, View.ld_apply, unit_idx2 inb r e r ⟨512 * g.val + 128 * h.val + e.val, by omega⟩ (by omega) (by subst ho; rfl)]
  rfl

/-- The keys of head `h` are a block of the key buffer. -/
theorem piece_key (h : Fin 4) {o o' : ℕ} (ho : o = 128 * h.val) (ho' : o' = 512 * (1 : Fin 4).val + 128 * h.val) (inb inb' inb'')
    (x : (Rect.unit (s := S1536x512) ![512, o] S1024x128.size inb).shape.Idx) :
    headK (View.readAt (Elt Ideal) a3.view (Rect.unit (s := S1024x2048) ![0, o'] S1024x128.size inb').toLoadRect (ha3.unread x0))
      (View.readAt (Elt Ideal) a5.view (Rect.unit (s := S1x128) ![0, 0] S1x128.size inb'').toLoadRect (ha5.unread x2)) x
      = keyBuf base x0 x2 ((Rect.unit (s := S1536x512) ![512, o] S1024x128.size inb).emb x) := by
  obtain ⟨r, d, rfl⟩ : ∃ (r : Fin 1024) (d : Fin 128), x = ix2 r d := ⟨x 0, x 1, eq_ix2 x⟩
  have e : (Rect.unit (s := S1536x512) ![512, o] S1024x128.size inb).emb (ix2 r d) = ix2 ⟨512 + r.val, by omega⟩ ⟨128 * h.val + d.val, by omega⟩ :=
    unit_idx2 inb r d _ _ rfl (by subst ho; rfl)
  rw [e, headK_apply, keyBuf, dif_neg (by show ¬ 512 + r.val < 512; omega), keyAt]
  have e1 : (⟨(128 * h.val + d.val) / 128, by omega⟩ : Fin 4) = h := Fin.ext (by show (128 * h.val + d.val) / 128 = h.val; omega)
  have e2 : (⟨512 + r.val - 512, by omega⟩ : Fin 1024) = r := Fin.ext (by show 512 + r.val - 512 = r.val; omega)
  have e3 : (⟨(128 * h.val + d.val) % 128, by omega⟩ : Fin 128) = d := Fin.ext (by show (128 * h.val + d.val) % 128 = d.val; omega)
  show _ = rmsAt (lane x0 1 ⟨(128 * h.val + d.val) / 128, _⟩ ⟨512 + r.val - 512, _⟩) (fun e => x2 (ix2 0 e)) ⟨(128 * h.val + d.val) % 128, _⟩
  rw [e1, e2, e3]
  exact rmsAt_congr (fun e => load_x a3 ha3 x0 1 h ho' inb' r e) (fun e => load_w a5 ha5 x2 inb'' e) d

/-- The values of the block are a block of the value buffer. -/
theorem piece_val (inb inb')
    (x : (Rect.unit (s := S1536x512) ![512, 0] S1024x512.size inb).shape.Idx) :
    shapeCast S1024x512 (shapeCast S1024x512 (View.readAt (Elt Ideal) a3.view (Rect.unit (s := S1024x2048) ![0, 1024] S1024x512.size inb').toLoadRect (ha3.unread x0))
      shapeCasts_S1024x512_S1024x512) shapeCasts_S1024x512_S1024x512 x
      = valBuf base x0 ((Rect.unit (s := S1536x512) ![512, 0] S1024x512.size inb).emb x) := by
  obtain ⟨r, d, rfl⟩ : ∃ (r : Fin 1024) (d : Fin 512), x = ix2 r d := ⟨x 0, x 1, eq_ix2 x⟩
  have e : (Rect.unit (s := S1536x512) ![512, 0] S1024x512.size inb).emb (ix2 r d) = ix2 ⟨512 + r.val, by omega⟩ d :=
    unit_idx2 inb r d _ _ rfl (Nat.zero_add _).symm
  rw [e, valBuf, dif_neg (by show ¬ 512 + r.val < 512; omega)]
  rw [View.readAt_eq_ld, ha3.read_unread]
  have e' := unit_idx2 inb' r d r ⟨1024 + d.val, by omega⟩ (by omega) rfl
  pointwise

/-- The zeros stored in the first 512 rows of the key buffer at the start of a sequence. -/
theorem piece_zero_key (inb) (x : (Rect.unit (s := S1536x512) ![0, 0] S512x512.size inb).shape.Idx) :
    (k0_pay7 (F := Ideal)) x = keyBuf (fun _ => 0) x0 x2 ((Rect.unit (s := S1536x512) ![0, 0] S512x512.size inb).emb x) := by
  obtain ⟨r, d, rfl⟩ : ∃ (r : Fin 512) (d : Fin 512), x = ix2 r d := ⟨x 0, x 1, eq_ix2 x⟩
  have e : (Rect.unit (s := S1536x512) ![0, 0] S512x512.size inb).emb (ix2 r d) = ix2 ⟨r.val, by omega⟩ d :=
    unit_idx2 inb r d _ _ (Nat.zero_add _).symm (Nat.zero_add _).symm
  rw [e, keyBuf, dif_pos (by show r.val < 512; omega)]
  exact Ideal.ofBits_zero_bf16

/-- And in the value buffer. -/
theorem piece_zero_val (inb) (x : (Rect.unit (s := S1536x512) ![0, 0] S512x512.size inb).shape.Idx) :
    (k0_pay8 (F := Ideal)) x = valBuf (fun _ => 0) x0 ((Rect.unit (s := S1536x512) ![0, 0] S512x512.size inb).emb x) := by
  obtain ⟨r, d, rfl⟩ : ∃ (r : Fin 512) (d : Fin 512), x = ix2 r d := ⟨x 0, x 1, eq_ix2 x⟩
  have e : (Rect.unit (s := S1536x512) ![0, 0] S512x512.size inb).emb (ix2 r d) = ix2 ⟨r.val, by omega⟩ d :=
    unit_idx2 inb r d _ _ (Nat.zero_add _).symm (Nat.zero_add _).symm
  rw [e, valBuf, dif_pos (by show r.val < 512; omega)]
  exact Ideal.ofBits_zero_bf16

/-- The scores of 128 rows of head `h` are a block of the score buffer. -/
theorem piece_score (h : Fin 4) (i : Fin 8) {o o' : ℕ} (ho : o = 128 * i.val) (ho' : o' = 512 * (0 : Fin 4).val + 128 * h.val) (inb inb' inb'' hs)
    (kl : FVec Ideal S640x128 .bf16)
    (hk : ∀ (j : Fin 640) (d : Fin 128), kl (ix2 j d) = K (ix2 ⟨o + j.val, by omega⟩ ⟨128 * h.val + d.val, by omega⟩))
    (x : (Rect.unit (s := S4x1024x640) ![h.val, o, 0] S1x128x640.size inb).shape.Idx) :
    bandScore ![o, 0] hs (headQ (View.readAt (Elt Ideal) a3.view (Rect.unit (s := S1024x2048) ![0, o'] S1024x128.size inb').toLoadRect (ha3.unread x0))
      (View.readAt (Elt Ideal) a4.view (Rect.unit (s := S1x128) ![0, 0] S1x128.size inb'').toLoadRect (ha4.unread x1))) kl x
      = scoreBuf x0 x1 K ((Rect.unit (s := S4x1024x640) ![h.val, o, 0] S1x128x640.size inb).emb x) := by
  obtain ⟨u, a, j, rfl⟩ : ∃ (u : Fin 1) (a : Fin 128) (j : Fin 640), x = ix3 u a j := ⟨x 0, x 1, x 2, eq_ix3 x⟩
  obtain rfl : u = 0 := Subsingleton.elim _ _
  have e : (Rect.unit (s := S4x1024x640) ![h.val, o, 0] S1x128x640.size inb).emb (ix3 0 a j) = ix3 h ⟨o + a.val, by omega⟩ j :=
    unit_idx3 inb a j _ _ _ rfl rfl (Nat.zero_add _).symm
  rw [e, bandScore_apply o hs _ kl a j ⟨o + a.val, by omega⟩ rfl]
  show _ = scoreAt x0 x1 K h ⟨o + a.val, _⟩ j
  refine Finset.sum_congr rfl fun d _ => ?_
  rw [hk, headQ_apply]
  congr 1
  · exact rmsAt_congr (fun e => load_x a3 ha3 x0 0 h ho' inb' _ e) (fun e => by rw [load_w a4 ha4 x1 inb'' e]) d
  · congr 2
    exact Fin.ext (by show o + j.val = (o + a.val) / 128 * 128 + j.val; omega)

/-- The output of chunk `c` of head `h` is a block of the output block; `s` are the chunk's logits. -/
theorem piece_out (μ : Fin 1024 → Fin 640 → EReal) (h : Fin 4) (c : Fin 16) {o o' o'' : ℕ} (ho : o = 64 * c.val) (ho' : o' = 128 * h.val)
    (ho'' : o'' = 1536 + 128 * h.val) (inb inb')
    (s : FVec Ideal S64x640 .f32) (hs : ∀ (a : Fin 64) (j : Fin 640), s (ix2 a j) = logitAt x3 S μ h ⟨o + a.val, by omega⟩ j)
    (vl : FVec Ideal S640x128 .bf16)
    (hv : ∀ (j : Fin 640) (d : Fin 128), vl (ix2 j d) = V (ix2 ⟨c.val / 2 * 128 + j.val, by omega⟩ ⟨128 * h.val + d.val, by omega⟩))
    (x : (Rect.unit (s := S1024x512) ![o, o'] S64x128.size inb).shape.Idx) :
    chunkOut (chunkExp s) vl (View.readAt (Elt Ideal) a3.view (Rect.unit (s := S1024x2048) ![o, o''] S64x128.size inb').toLoadRect (ha3.unread x0)) x
      = outBlk x0 x3 S V μ ((Rect.unit (s := S1024x512) ![o, o'] S64x128.size inb).emb x) := by
  obtain ⟨a, d, rfl⟩ : ∃ (a : Fin 64) (d : Fin 128), x = ix2 a d := ⟨x 0, x 1, eq_ix2 x⟩
  have e : (Rect.unit (s := S1024x512) ![o, o'] S64x128.size inb).emb (ix2 a d) = ix2 ⟨o + a.val, by omega⟩ ⟨128 * h.val + d.val, by omega⟩ :=
    unit_idx2 inb a d _ _ rfl (by subst ho'; rfl)
  have ez : View.readAt (Elt Ideal) a3.view (Rect.unit (s := S1024x2048) ![o, o''] S64x128.size inb').toLoadRect (ha3.unread x0) (ix2 a d)
      = x0 (ix2 ⟨o + a.val, by omega⟩ ⟨1536 + (128 * h.val + d.val), by omega⟩) := by
    rw [View.readAt_eq_ld, ha3.read_unread, View.ld_apply, unit_idx2 inb' a d ⟨o + a.val, by omega⟩ ⟨1536 + (128 * h.val + d.val), by omega⟩ rfl (by subst ho''; exact (Nat.add_assoc ..).symm)]
  have e1 : (⟨(128 * h.val + d.val) / 128, by omega⟩ : Fin 4) = h := Fin.ext (by show (128 * h.val + d.val) / 128 = h.val; omega)
  rw [e, chunkOut_apply, ez]
  show _ = outAt (logitAt x3 S μ ⟨(128 * h.val + d.val) / 128, _⟩ ⟨o + a.val, _⟩) _ _
  rw [e1]
  congr 1
  · exact funext fun j => hs a j
  · funext j
    rw [hv]
    congr 2
    exact Fin.ext (by show c.val / 2 * 128 + j.val = (o + a.val) / 128 * 128 + j.val; omega)

/-- The logits of a chunk without mask. -/
theorem logit_plain (h : Fin 4) (c : Fin 16) {o b : ℕ} (ho : o = 64 * c.val) (hb : b = c.val % 2) (inb)
    (sl : FVec Ideal S1x64x640 .f32) (hsl : ∀ (a : Fin 64) (j : Fin 640), sl (ix3 0 a j) = S (ix3 h ⟨o + a.val, by omega⟩ j))
    (μ : Fin 1024 → Fin 640 → EReal) (hμ : ∀ (a : Fin 64) (j : Fin 640), μ ⟨o + a.val, by omega⟩ j = 0) (a : Fin 64) (j : Fin 640) :
    chunkScore sl (View.readAt (Elt Ideal) a6.view (Rect.unit (s := S4x2x64x640) ![h.val, b, 0, 0] S1x1x64x640.size inb).toLoadRect (ha6.unread x3)) (ix2 a j)
      = logitAt x3 S μ h ⟨o + a.val, by omega⟩ j := by
  rw [chunkScore_apply, logitAt, hsl, hμ, add_zero, View.readAt_eq_ld, ha6.read_unread, View.ld_apply,
    unit_idx4 inb a j h ⟨(o + a.val) / 64 % 2, by omega⟩ ⟨(o + a.val) % 64, by omega⟩ j rfl (by show (o + a.val) / 64 % 2 = b; omega)
      (by show (o + a.val) % 64 = 0 + a.val; omega) (Nat.zero_add _).symm]

/-- The logits of a chunk with the mask of the first step. -/
theorem logit_masked (h : Fin 4) (c : Fin 16) {o b lo : ℕ} (ho : o = 64 * c.val) (hb : b = c.val % 2) (hlo : lo = c.val / 2 * 128) (hlo' : lo ≤ 512) (inb)
    (sl : FVec Ideal S1x64x640 .f32) (hsl : ∀ (a : Fin 64) (j : Fin 640), sl (ix3 0 a j) = S (ix3 h ⟨o + a.val, by omega⟩ j))
    (a : Fin 64) (j : Fin 640) :
    chunkMask (BitVec.ofNat 32 lo) (chunkScore sl (View.readAt (Elt Ideal) a6.view
      (Rect.unit (s := S4x2x64x640) ![h.val, b, 0, 0] S1x1x64x640.size inb).toLoadRect (ha6.unread x3))) (ix2 a j)
      = logitAt x3 S maskAt h ⟨o + a.val, by omega⟩ j := by
  rw [chunkMask_apply lo hlo', logit_plain a6 ha6 x3 S h c ho hb inb sl hsl (fun _ _ => 0) (fun _ _ => rfl), logitAt, logitAt, add_zero, maskAt]
  congr 2
  exact congrArg (fun n => n + j.val < 512) (by show lo = (o + a.val) / 128 * 128; omega)

/-! ## The loads of the buffers -/

/-- A load of a band of head `h` from the key or value buffer, over earlier contents `f`. -/
theorem load_band (f : a8.view.ty.Contents (Elt Ideal)) {L : List (View.Piece (Elt Ideal) S1536x512 .bf16)} (hL : View.PiecesOf K L) (h : Fin 4)
    (hk : holdsBox ![512, 128 * h.val] ![1024, 128] L = true) {lo o : ℕ} (hlo : lo ≤ 896) (ho : o = 128 * h.val) (inb)
    (hf : lo < 512 → holdsBox ![0, 0] ![512, 512] L = true ∨ ∀ i : S1536x512.Idx, (i 0).val < 512 → a8.view.read (Elt Ideal) f i = K i)
    (j : Fin 640) (d : Fin 128) :
    View.readAt (Elt Ideal) a8.view (Rect.unit (s := S1536x512) ![lo, o] S640x128.size inb).toLoadRect (a8.view.writes (Elt Ideal) f L) (ix2 j d)
      = K (ix2 ⟨lo + j.val, by omega⟩ ⟨128 * h.val + d.val, by omega⟩) := by
  have e : (Rect.unit (s := S1536x512) ![lo, o] S640x128.size inb).idx (ix2 j d) = ix2 ⟨lo + j.val, by omega⟩ ⟨128 * h.val + d.val, by omega⟩ :=
    unit_idx2 inb j d _ _ rfl (by subst ho; rfl)
  refine (readAt_of_pieces a8.view f hL _ _ ?_).trans (congrArg K e)
  rw [e]
  by_cases hlt : lo + j.val < 512
  · rcases hf (by omega) with hz | hz
    · exact .inl (exists_of_holdsBox hz _ fun x => match x with
        | ⟨0, _⟩ => by show 0 ≤ lo + j.val ∧ lo + j.val < 0 + 512; omega
        | ⟨1, _⟩ => by show 0 ≤ 128 * h.val + d.val ∧ 128 * h.val + d.val < 0 + 512; omega)
    · exact .inr (hz _ hlt)
  · exact .inl (exists_of_holdsBox hk _ fun x => match x with
      | ⟨0, _⟩ => by show 512 ≤ lo + j.val ∧ lo + j.val < 512 + 1024; omega
      | ⟨1, _⟩ => by show 128 * h.val ≤ 128 * h.val + d.val ∧ 128 * h.val + d.val < 128 * h.val + 128; omega)

/-- A load of 64 rows of head `h` from the score buffer. -/
theorem load_score {L : List (View.Piece (Elt Ideal) S4x1024x640 .f32)} (hL : View.PiecesOf S L) (h : Fin 4) (c : Fin 16) {o : ℕ} (ho : o = 64 * c.val) (inb)
    (hb : holdsBox ![h.val, o, 0] ![1, 64, 640] L = true) (a : Fin 64) (j : Fin 640) :
    a10.view.readCov L (Rect.unit (s := S4x1024x640) ![h.val, o, 0] S1x64x640.size inb).toLoadRect (ix3 0 a j) = S (ix3 h ⟨o + a.val, by omega⟩ j) := by
  have e : (Rect.unit (s := S4x1024x640) ![h.val, o, 0] S1x64x640.size inb).idx (ix3 0 a j) = ix3 h ⟨o + a.val, by omega⟩ j :=
    unit_idx3 inb a j _ _ _ rfl rfl (Nat.zero_add _).symm
  refine (readAt_of_pieces a10.view _ hL _ _ (.inl ?_)).trans (congrArg S e)
  rw [e]
  exact exists_of_holdsBox hb _ fun x => match x with
    | ⟨0, _⟩ => by show h.val ≤ h.val ∧ h.val < h.val + 1; omega
    | ⟨1, _⟩ => by show o ≤ o + a.val ∧ o + a.val < o + 64; omega
    | ⟨2, _⟩ => by show 0 ≤ j.val ∧ j.val < 0 + 640; omega

/-- What the step of a block stores in the first 512 rows of a buffer are its last 512 rows. -/
theorem shifted (L : List (View.Piece (Elt Ideal) S1536x512 .bf16)) (hL : View.PiecesOf K L)
    (hc : ∀ h : Fin 4, holdsBox ![512, 128 * h.val] ![1024, 128] L = true) (inb inb' hc1) (r : Fin 512) (l : Fin 512) :
    View.canon ((⟨Rect.unit (s := S1536x512) ![0, 0] S512x512.size inb, shapeCast S512x512
      (a8.view.readCov L (Rect.unit (s := S1536x512) ![1024, 0] S512x512.size inb').toLoadRect) hc1⟩ : View.Piece (Elt Ideal) S1536x512 .bf16) :: L)
      (ix2 ⟨r.val, by omega⟩ l) = K (ix2 ⟨1024 + r.val, by omega⟩ l) := by
  have e : (Rect.unit (s := S1536x512) ![0, 0] S512x512.size inb).emb (ix2 r l) = ix2 ⟨r.val, by omega⟩ l :=
    unit_idx2 inb r l _ _ (Nat.zero_add _).symm (Nat.zero_add _).symm
  have e' : (Rect.unit (s := S1536x512) ![1024, 0] S512x512.size inb').idx (ix2 r l) = ix2 ⟨1024 + r.val, by omega⟩ l :=
    unit_idx2 inb' r l _ _ rfl (Nat.zero_add _).symm
  rw [← e, View.canon_cons_emb]
  refine Eq.trans ?_ ((readAt_of_pieces a8.view a8.view.junk hL (Rect.unit (s := S1536x512) ![1024, 0] S512x512.size inb').toLoadRect (ix2 r l) (.inl ?_)).trans
    (congrArg K e'))
  · pointwise
    rfl
  · refine Eq.mpr (congrArg (fun z => ∃ p ∈ L, z ∈ p.1.set) e') ?_
    exact exists_of_holdsBox (hc ⟨l.val / 128, by omega⟩) _ fun x => match x with
      | ⟨0, _⟩ => by show 512 ≤ 1024 + r.val ∧ 1024 + r.val < 512 + 1024; omega
      | ⟨1, _⟩ => by show 128 * (l.val / 128) ≤ l.val ∧ l.val < 128 * (l.val / 128) + 128; omega

end Pieces

end Cert.KernelIdeal.Att
-- ==== Proof.CaseA.lean ====
module

public import proofs.«01_k».proof.Proof.Store
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Att
open Cert.KernelIdeal Cert.KernelIdeal.Gen

/-! ## A grid point that is the first of its sequence -/

section

variable (c : Dev nD) (i : grid0.Coords) (a3 : Memref sig .tc .vmem S1024x2048 .bf16) (ha3 : a3.IsWhole) (a4 : Memref sig .tc .vmem S1x128 .f32) (ha4 : a4.IsWhole) (a5 : Memref sig .tc .vmem S1x128 .f32) (ha5 : a5.IsWhole)
  (a6 : Memref sig .tc .vmem S4x2x64x640 .f32) (ha6 : a6.IsWhole) (a7 : Memref sig .tc .vmem S1024x512 .bf16) (ha7 : a7.IsWhole) (a8 : Memref sig .tc .vmem S1536x512 .bf16) (ha8 : a8.IsWhole)
  (a9 : Memref sig .tc .vmem S1536x512 .bf16) (ha9 : a9.IsWhole) (a10 : Memref sig .tc .vmem S4x1024x640 .f32) (ha10 : a10.IsWhole)
  (x0 : FVec Ideal S1024x2048 .bf16) (x1 x2 : FVec Ideal S1x128 .f32) (x3 : FVec Ideal S4x2x64x640 .f32)

open kernelRun0_A

/-- The zeros and the key stores of the first 1 heads. -/
theorem piecesK1_A : View.PiecesOf (keyBuf (fun _ => 0) x0 x2) (sl.HS0_2 (F := Ideal) c a3 ha3 a5 ha5 x0 x2) := by
  unfold sl.HS0_2
  exact ⟨fun x => piece_key a3 ha3 a5 ha5 x0 x2 (fun _ => 0) 0 (o := 0) (o' := 512) rfl rfl (by decide) _ _ x, fun x => piece_zero_key x0 x2 (by decide) x, trivial⟩

/-- The zeros and the key stores of the first 2 heads. -/
theorem piecesK2_A : View.PiecesOf (keyBuf (fun _ => 0) x0 x2) (sl.HS0_3 (F := Ideal) c a3 ha3 a5 ha5 x0 x2) := by
  unfold sl.HS0_3
  exact ⟨fun x => piece_key a3 ha3 a5 ha5 x0 x2 (fun _ => 0) 1 (o := 128) (o' := 640) rfl rfl (by decide) _ _ x, piecesK1_A c a3 ha3 a5 ha5 x0 x2⟩

/-- The zeros and the key stores of the first 3 heads. -/
theorem piecesK3_A : View.PiecesOf (keyBuf (fun _ => 0) x0 x2) (sl.HS0_4 (F := Ideal) c a3 ha3 a5 ha5 x0 x2) := by
  unfold sl.HS0_4
  exact ⟨fun x => piece_key a3 ha3 a5 ha5 x0 x2 (fun _ => 0) 2 (o := 256) (o' := 768) rfl rfl (by decide) _ _ x, piecesK2_A c a3 ha3 a5 ha5 x0 x2⟩

/-- The zeros and the key stores of the first 4 heads. -/
theorem piecesK4_A : View.PiecesOf (keyBuf (fun _ => 0) x0 x2) (sl.HS0_5 (F := Ideal) c a3 ha3 a5 ha5 x0 x2) := by
  unfold sl.HS0_5
  exact ⟨fun x => piece_key a3 ha3 a5 ha5 x0 x2 (fun _ => 0) 3 (o := 384) (o' := 896) rfl rfl (by decide) _ _ x, piecesK3_A c a3 ha3 a5 ha5 x0 x2⟩

/-- The zeros and the value store. -/
theorem piecesV_A : View.PiecesOf (valBuf (fun _ => 0) x0) (sl.HS1_2 (F := Ideal) c a3 ha3 x0) := by
  unfold sl.HS1_2
  exact ⟨fun x => piece_val a3 ha3 x0 (fun _ => 0) (by decide) _ x, fun x => piece_zero_val x0 (by decide) x, trivial⟩

/-- The score stores of the first 1 heads. -/
theorem piecesS1_A : View.PiecesOf (scoreBuf x0 x1 (keyBuf (fun _ => 0) x0 x2)) (sl.HS2_8 (F := Ideal) c a3 ha3 a4 ha4 a5 ha5 a8 x0 x1 x2) := by
  unfold sl.HS2_8
  exact ⟨fun x => piece_score a3 ha3 a4 ha4 x0 x1 (keyBuf (fun _ => 0) x0 x2) 0 7 (o := 896) (o' := 0) rfl rfl (by decide) (by decide) (by decide) (by decide) _
      (load_band a8 (keyBuf (fun _ => 0) x0 x2) a8.view.junk (piecesK1_A c a3 ha3 a5 ha5 x0 x2) 0 (by sl_kernel_rfl) (lo := 896) (o := 0) (by decide) rfl (by decide) (fun h => absurd h (by decide))) x,
    fun x => piece_score a3 ha3 a4 ha4 x0 x1 (keyBuf (fun _ => 0) x0 x2) 0 6 (o := 768) (o' := 0) rfl rfl (by decide) (by decide) (by decide) (by decide) _
      (load_band a8 (keyBuf (fun _ => 0) x0 x2) a8.view.junk (piecesK1_A c a3 ha3 a5 ha5 x0 x2) 0 (by sl_kernel_rfl) (lo := 768) (o := 0) (by decide) rfl (by decide) (fun h => absurd h (by decide))) x,
    fun x => piece_score a3 ha3 a4 ha4 x0 x1 (keyBuf (fun _ => 0) x0 x2) 0 5 (o := 640) (o' := 0) rfl rfl (by decide) (by decide) (by decide) (by decide) _
      (load_band a8 (keyBuf (fun _ => 0) x0 x2) a8.view.junk (piecesK1_A c a3 ha3 a5 ha5 x0 x2) 0 (by sl_kernel_rfl) (lo := 640) (o := 0) (by decide) rfl (by decide) (fun h => absurd h (by decide))) x,
    fun x => piece_score a3 ha3 a4 ha4 x0 x1 (keyBuf (fun _ => 0) x0 x2) 0 4 (o := 512) (o' := 0) rfl rfl (by decide) (by decide) (by decide) (by decide) _
      (load_band a8 (keyBuf (fun _ => 0) x0 x2) a8.view.junk (piecesK1_A c a3 ha3 a5 ha5 x0 x2) 0 (by sl_kernel_rfl) (lo := 512) (o := 0) (by decide) rfl (by decide) (fun h => absurd h (by decide))) x,
    fun x => piece_score a3 ha3 a4 ha4 x0 x1 (keyBuf (fun _ => 0) x0 x2) 0 3 (o := 384) (o' := 0) rfl rfl (by decide) (by decide) (by decide) (by decide) _
      (load_band a8 (keyBuf (fun _ => 0) x0 x2) a8.view.junk (piecesK1_A c a3 ha3 a5 ha5 x0 x2) 0 (by sl_kernel_rfl) (lo := 384) (o := 0) (by decide) rfl (by decide) (fun _ => .inl (by sl_kernel_rfl))) x,
    fun x => piece_score a3 ha3 a4 ha4 x0 x1 (keyBuf (fun _ => 0) x0 x2) 0 2 (o := 256) (o' := 0) rfl rfl (by decide) (by decide) (by decide) (by decide) _
      (load_band a8 (keyBuf (fun _ => 0) x0 x2) a8.view.junk (piecesK1_A c a3 ha3 a5 ha5 x0 x2) 0 (by sl_kernel_rfl) (lo := 256) (o := 0) (by decide) rfl (by decide) (fun _ => .inl (by sl_kernel_rfl))) x,
    fun x => piece_score a3 ha3 a4 ha4 x0 x1 (keyBuf (fun _ => 0) x0 x2) 0 1 (o := 128) (o' := 0) rfl rfl (by decide) (by decide) (by decide) (by decide) _
      (load_band a8 (keyBuf (fun _ => 0) x0 x2) a8.view.junk (piecesK1_A c a3 ha3 a5 ha5 x0 x2) 0 (by sl_kernel_rfl) (lo := 128) (o := 0) (by decide) rfl (by decide) (fun _ => .inl (by sl_kernel_rfl))) x,
    fun x => piece_score a3 ha3 a4 ha4 x0 x1 (keyBuf (fun _ => 0) x0 x2) 0 0 (o := 0) (o' := 0) rfl rfl (by decide) (by decide) (by decide) (by decide) _
      (load_band a8 (keyBuf (fun _ => 0) x0 x2) a8.view.junk (piecesK1_A c a3 ha3 a5 ha5 x0 x2) 0 (by sl_kernel_rfl) (lo := 0) (o := 0) (by decide) rfl (by decide) (fun _ => .inl (by sl_kernel_rfl))) x, trivial⟩

/-- The score stores of the first 2 heads. -/
theorem piecesS2_A : View.PiecesOf (scoreBuf x0 x1 (keyBuf (fun _ => 0) x0 x2)) (sl.HS2_16 (F := Ideal) c a3 ha3 a4 ha4 a5 ha5 a8 x0 x1 x2) := by
  unfold sl.HS2_16
  exact ⟨fun x => piece_score a3 ha3 a4 ha4 x0 x1 (keyBuf (fun _ => 0) x0 x2) 1 7 (o := 896) (o' := 128) rfl rfl (by decide) (by decide) (by decide) (by decide) _
      (load_band a8 (keyBuf (fun _ => 0) x0 x2) a8.view.junk (piecesK2_A c a3 ha3 a5 ha5 x0 x2) 1 (by sl_kernel_rfl) (lo := 896) (o := 128) (by decide) rfl (by decide) (fun h => absurd h (by decide))) x,
    fun x => piece_score a3 ha3 a4 ha4 x0 x1 (keyBuf (fun _ => 0) x0 x2) 1 6 (o := 768) (o' := 128) rfl rfl (by decide) (by decide) (by decide) (by decide) _
      (load_band a8 (keyBuf (fun _ => 0) x0 x2) a8.view.junk (piecesK2_A c a3 ha3 a5 ha5 x0 x2) 1 (by sl_kernel_rfl) (lo := 768) (o := 128) (by decide) rfl (by decide) (fun h => absurd h (by decide))) x,
    fun x => piece_score a3 ha3 a4 ha4 x0 x1 (keyBuf (fun _ => 0) x0 x2) 1 5 (o := 640) (o' := 128) rfl rfl (by decide) (by decide) (by decide) (by decide) _
      (load_band a8 (keyBuf (fun _ => 0) x0 x2) a8.view.junk (piecesK2_A c a3 ha3 a5 ha5 x0 x2) 1 (by sl_kernel_rfl) (lo := 640) (o := 128) (by decide) rfl (by decide) (fun h => absurd h (by decide))) x,
    fun x => piece_score a3 ha3 a4 ha4 x0 x1 (keyBuf (fun _ => 0) x0 x2) 1 4 (o := 512) (o' := 128) rfl rfl (by decide) (by decide) (by decide) (by decide) _
      (load_band a8 (keyBuf (fun _ => 0) x0 x2) a8.view.junk (piecesK2_A c a3 ha3 a5 ha5 x0 x2) 1 (by sl_kernel_rfl) (lo := 512) (o := 128) (by decide) rfl (by decide) (fun h => absurd h (by decide))) x,
    fun x => piece_score a3 ha3 a4 ha4 x0 x1 (keyBuf (fun _ => 0) x0 x2) 1 3 (o := 384) (o' := 128) rfl rfl (by decide) (by decide) (by decide) (by decide) _
      (load_band a8 (keyBuf (fun _ => 0) x0 x2) a8.view.junk (piecesK2_A c a3 ha3 a5 ha5 x0 x2) 1 (by sl_kernel_rfl) (lo := 384) (o := 128) (by decide) rfl (by decide) (fun _ => .inl (by sl_kernel_rfl))) x,
    fun x => piece_score a3 ha3 a4 ha4 x0 x1 (keyBuf (fun _ => 0) x0 x2) 1 2 (o := 256) (o' := 128) rfl rfl (by decide) (by decide) (by decide) (by decide) _
      (load_band a8 (keyBuf (fun _ => 0) x0 x2) a8.view.junk (piecesK2_A c a3 ha3 a5 ha5 x0 x2) 1 (by sl_kernel_rfl) (lo := 256) (o := 128) (by decide) rfl (by decide) (fun _ => .inl (by sl_kernel_rfl))) x,
    fun x => piece_score a3 ha3 a4 ha4 x0 x1 (keyBuf (fun _ => 0) x0 x2) 1 1 (o := 128) (o' := 128) rfl rfl (by decide) (by decide) (by decide) (by decide) _
      (load_band a8 (keyBuf (fun _ => 0) x0 x2) a8.view.junk (piecesK2_A c a3 ha3 a5 ha5 x0 x2) 1 (by sl_kernel_rfl) (lo := 128) (o := 128) (by decide) rfl (by decide) (fun _ => .inl (by sl_kernel_rfl))) x,
    fun x => piece_score a3 ha3 a4 ha4 x0 x1 (keyBuf (fun _ => 0) x0 x2) 1 0 (o := 0) (o' := 128) rfl rfl (by decide) (by decide) (by decide) (by decide) _
      (load_band a8 (keyBuf (fun _ => 0) x0 x2) a8.view.junk (piecesK2_A c a3 ha3 a5 ha5 x0 x2) 1 (by sl_kernel_rfl) (lo := 0) (o := 128) (by decide) rfl (by decide) (fun _ => .inl (by sl_kernel_rfl))) x, piecesS1_A c a3 ha3 a4 ha4 a5 ha5 a8 x0 x1 x2⟩

/-- The score stores of the first 3 heads. -/
theorem piecesS3_A : View.PiecesOf (scoreBuf x0 x1 (keyBuf (fun _ => 0) x0 x2)) (sl.HS2_24 (F := Ideal) c a3 ha3 a4 ha4 a5 ha5 a8 x0 x1 x2) := by
  unfold sl.HS2_24
  exact ⟨fun x => piece_score a3 ha3 a4 ha4 x0 x1 (keyBuf (fun _ => 0) x0 x2) 2 7 (o := 896) (o' := 256) rfl rfl (by decide) (by decide) (by decide) (by decide) _
      (load_band a8 (keyBuf (fun _ => 0) x0 x2) a8.view.junk (piecesK3_A c a3 ha3 a5 ha5 x0 x2) 2 (by sl_kernel_rfl) (lo := 896) (o := 256) (by decide) rfl (by decide) (fun h => absurd h (by decide))) x,
    fun x => piece_score a3 ha3 a4 ha4 x0 x1 (keyBuf (fun _ => 0) x0 x2) 2 6 (o := 768) (o' := 256) rfl rfl (by decide) (by decide) (by decide) (by decide) _
      (load_band a8 (keyBuf (fun _ => 0) x0 x2) a8.view.junk (piecesK3_A c a3 ha3 a5 ha5 x0 x2) 2 (by sl_kernel_rfl) (lo := 768) (o := 256) (by decide) rfl (by decide) (fun h => absurd h (by decide))) x,
    fun x => piece_score a3 ha3 a4 ha4 x0 x1 (keyBuf (fun _ => 0) x0 x2) 2 5 (o := 640) (o' := 256) rfl rfl (by decide) (by decide) (by decide) (by decide) _
      (load_band a8 (keyBuf (fun _ => 0) x0 x2) a8.view.junk (piecesK3_A c a3 ha3 a5 ha5 x0 x2) 2 (by sl_kernel_rfl) (lo := 640) (o := 256) (by decide) rfl (by decide) (fun h => absurd h (by decide))) x,
    fun x => piece_score a3 ha3 a4 ha4 x0 x1 (keyBuf (fun _ => 0) x0 x2) 2 4 (o := 512) (o' := 256) rfl rfl (by decide) (by decide) (by decide) (by decide) _
      (load_band a8 (keyBuf (fun _ => 0) x0 x2) a8.view.junk (piecesK3_A c a3 ha3 a5 ha5 x0 x2) 2 (by sl_kernel_rfl) (lo := 512) (o := 256) (by decide) rfl (by decide) (fun h => absurd h (by decide))) x,
    fun x => piece_score a3 ha3 a4 ha4 x0 x1 (keyBuf (fun _ => 0) x0 x2) 2 3 (o := 384) (o' := 256) rfl rfl (by decide) (by decide) (by decide) (by decide) _
      (load_band a8 (keyBuf (fun _ => 0) x0 x2) a8.view.junk (piecesK3_A c a3 ha3 a5 ha5 x0 x2) 2 (by sl_kernel_rfl) (lo := 384) (o := 256) (by decide) rfl (by decide) (fun _ => .inl (by sl_kernel_rfl))) x,
    fun x => piece_score a3 ha3 a4 ha4 x0 x1 (keyBuf (fun _ => 0) x0 x2) 2 2 (o := 256) (o' := 256) rfl rfl (by decide) (by decide) (by decide) (by decide) _
      (load_band a8 (keyBuf (fun _ => 0) x0 x2) a8.view.junk (piecesK3_A c a3 ha3 a5 ha5 x0 x2) 2 (by sl_kernel_rfl) (lo := 256) (o := 256) (by decide) rfl (by decide) (fun _ => .inl (by sl_kernel_rfl))) x,
    fun x => piece_score a3 ha3 a4 ha4 x0 x1 (keyBuf (fun _ => 0) x0 x2) 2 1 (o := 128) (o' := 256) rfl rfl (by decide) (by decide) (by decide) (by decide) _
      (load_band a8 (keyBuf (fun _ => 0) x0 x2) a8.view.junk (piecesK3_A c a3 ha3 a5 ha5 x0 x2) 2 (by sl_kernel_rfl) (lo := 128) (o := 256) (by decide) rfl (by decide) (fun _ => .inl (by sl_kernel_rfl))) x,
    fun x => piece_score a3 ha3 a4 ha4 x0 x1 (keyBuf (fun _ => 0) x0 x2) 2 0 (o := 0) (o' := 256) rfl rfl (by decide) (by decide) (by decide) (by decide) _
      (load_band a8 (keyBuf (fun _ => 0) x0 x2) a8.view.junk (piecesK3_A c a3 ha3 a5 ha5 x0 x2) 2 (by sl_kernel_rfl) (lo := 0) (o := 256) (by decide) rfl (by decide) (fun _ => .inl (by sl_kernel_rfl))) x, piecesS2_A c a3 ha3 a4 ha4 a5 ha5 a8 x0 x1 x2⟩

/-- The score stores of the first 4 heads. -/
theorem piecesS4_A : View.PiecesOf (scoreBuf x0 x1 (keyBuf (fun _ => 0) x0 x2)) (sl.HS2_32 (F := Ideal) c a3 ha3 a4 ha4 a5 ha5 a8 x0 x1 x2) := by
  unfold sl.HS2_32
  exact ⟨fun x => piece_score a3 ha3 a4 ha4 x0 x1 (keyBuf (fun _ => 0) x0 x2) 3 7 (o := 896) (o' := 384) rfl rfl (by decide) (by decide) (by decide) (by decide) _
      (load_band a8 (keyBuf (fun _ => 0) x0 x2) a8.view.junk (piecesK4_A c a3 ha3 a5 ha5 x0 x2) 3 (by sl_kernel_rfl) (lo := 896) (o := 384) (by decide) rfl (by decide) (fun h => absurd h (by decide))) x,
    fun x => piece_score a3 ha3 a4 ha4 x0 x1 (keyBuf (fun _ => 0) x0 x2) 3 6 (o := 768) (o' := 384) rfl rfl (by decide) (by decide) (by decide) (by decide) _
      (load_band a8 (keyBuf (fun _ => 0) x0 x2) a8.view.junk (piecesK4_A c a3 ha3 a5 ha5 x0 x2) 3 (by sl_kernel_rfl) (lo := 768) (o := 384) (by decide) rfl (by decide) (fun h => absurd h (by decide))) x,
    fun x => piece_score a3 ha3 a4 ha4 x0 x1 (keyBuf (fun _ => 0) x0 x2) 3 5 (o := 640) (o' := 384) rfl rfl (by decide) (by decide) (by decide) (by decide) _
      (load_band a8 (keyBuf (fun _ => 0) x0 x2) a8.view.junk (piecesK4_A c a3 ha3 a5 ha5 x0 x2) 3 (by sl_kernel_rfl) (lo := 640) (o := 384) (by decide) rfl (by decide) (fun h => absurd h (by decide))) x,
    fun x => piece_score a3 ha3 a4 ha4 x0 x1 (keyBuf (fun _ => 0) x0 x2) 3 4 (o := 512) (o' := 384) rfl rfl (by decide) (by decide) (by decide) (by decide) _
      (load_band a8 (keyBuf (fun _ => 0) x0 x2) a8.view.junk (piecesK4_A c a3 ha3 a5 ha5 x0 x2) 3 (by sl_kernel_rfl) (lo := 512) (o := 384) (by decide) rfl (by decide) (fun h => absurd h (by decide))) x,
    fun x => piece_score a3 ha3 a4 ha4 x0 x1 (keyBuf (fun _ => 0) x0 x2) 3 3 (o := 384) (o' := 384) rfl rfl (by decide) (by decide) (by decide) (by decide) _
      (load_band a8 (keyBuf (fun _ => 0) x0 x2) a8.view.junk (piecesK4_A c a3 ha3 a5 ha5 x0 x2) 3 (by sl_kernel_rfl) (lo := 384) (o := 384) (by decide) rfl (by decide) (fun _ => .inl (by sl_kernel_rfl))) x,
    fun x => piece_score a3 ha3 a4 ha4 x0 x1 (keyBuf (fun _ => 0) x0 x2) 3 2 (o := 256) (o' := 384) rfl rfl (by decide) (by decide) (by decide) (by decide) _
      (load_band a8 (keyBuf (fun _ => 0) x0 x2) a8.view.junk (piecesK4_A c a3 ha3 a5 ha5 x0 x2) 3 (by sl_kernel_rfl) (lo := 256) (o := 384) (by decide) rfl (by decide) (fun _ => .inl (by sl_kernel_rfl))) x,
    fun x => piece_score a3 ha3 a4 ha4 x0 x1 (keyBuf (fun _ => 0) x0 x2) 3 1 (o := 128) (o' := 384) rfl rfl (by decide) (by decide) (by decide) (by decide) _
      (load_band a8 (keyBuf (fun _ => 0) x0 x2) a8.view.junk (piecesK4_A c a3 ha3 a5 ha5 x0 x2) 3 (by sl_kernel_rfl) (lo := 128) (o := 384) (by decide) rfl (by decide) (fun _ => .inl (by sl_kernel_rfl))) x,
    fun x => piece_score a3 ha3 a4 ha4 x0 x1 (keyBuf (fun _ => 0) x0 x2) 3 0 (o := 0) (o' := 384) rfl rfl (by decide) (by decide) (by decide) (by decide) _
      (load_band a8 (keyBuf (fun _ => 0) x0 x2) a8.view.junk (piecesK4_A c a3 ha3 a5 ha5 x0 x2) 3 (by sl_kernel_rfl) (lo := 0) (o := 384) (by decide) rfl (by decide) (fun _ => .inl (by sl_kernel_rfl))) x, piecesS3_A c a3 ha3 a4 ha4 a5 ha5 a8 x0 x1 x2⟩

set_option maxRecDepth 100000 in
set_option maxHeartbeats 4000000 in
/-- **The first grid point of a sequence** leaves the band attention of its block, the keys before the sequence's start masked. -/
theorem out_A (hc0 : cond0_0 i) (hc1 : ¬cond0_1 i) :
    out0_A_4 (F := Ideal) c i a3 ha3 a4 ha4 a5 ha5 a6 ha6 a7 ha7 a8 ha8 a9 ha9 a10 ha10 hc0 hc1 x0 x1 x2 x3
      = outBlk x0 x3 (scoreBuf x0 x1 (keyBuf (fun _ => 0) x0 x2)) (valBuf (fun _ => 0) x0) maskAt := by
  funext y
  unfold out0_A_4
  rw [View.read_writes_junk_eq_canon]
  have hc := cover0_A_4 (F := Ideal) c i a3 ha3 a4 ha4 a5 ha5 a6 ha6 a7 ha7 a8 ha8 a9 ha9 a10 ha10 hc0 hc1 x0 x1 x2 x3 y
  refine View.canon_apply_of_pieces _ _ (View.PiecesOf.mem ?_) y hc
  clear hc
  have hL := piecesV_A c a3 ha3 x0
  have hS1 := piecesS1_A c a3 ha3 a4 ha4 a5 ha5 a8 x0 x1 x2
  have hS2 := piecesS2_A c a3 ha3 a4 ha4 a5 ha5 a8 x0 x1 x2
  have hS3 := piecesS3_A c a3 ha3 a4 ha4 a5 ha5 a8 x0 x1 x2
  have hS4 := piecesS4_A c a3 ha3 a4 ha4 a5 ha5 a8 x0 x1 x2
  set V : FVec Ideal S1536x512 .bf16 := valBuf (fun _ => 0) x0
  set S : FVec Ideal S4x1024x640 .f32 := scoreBuf x0 x1 (keyBuf (fun _ => 0) x0 x2)
  have hV : ∀ {lo : ℕ}, lo < 512 → holdsBox ![0, 0] ![512, 512] (sl.HS1_2 (F := Ideal) c a3 ha3 x0) = true ∨
      ∀ i : S1536x512.Idx, (i 0).val < 512 → a9.view.read (Elt Ideal) a9.view.junk i = V i :=
    fun _ => .inl (by sl_kernel_rfl)
  unfold kernelRun0_A
  dsimp only
  exact ⟨fun x => piece_out a3 ha3 x0 x3 V S maskAt 3 15 (o := 960) (o' := 384) (o'' := 1920) rfl rfl rfl (by decide) (by decide) _
      (logit_plain a6 ha6 x3 S 3 15 (o := 960) (b := 1) rfl rfl (by decide) _ (load_score a10 S hS4 3 15 (o := 960) rfl (by decide) (by sl_kernel_rfl)) maskAt fun a j => if_neg (by show ¬ (960 + a.val) / 128 * 128 + j.val < 512; omega)) _
      (load_band a9 V a9.view.junk hL 3 (by sl_kernel_rfl) (lo := 896) (o := 384) (by decide) rfl (by decide) (fun h => absurd h (by decide))) x,
    fun x => piece_out a3 ha3 x0 x3 V S maskAt 3 14 (o := 896) (o' := 384) (o'' := 1920) rfl rfl rfl (by decide) (by decide) _
      (logit_plain a6 ha6 x3 S 3 14 (o := 896) (b := 0) rfl rfl (by decide) _ (load_score a10 S hS4 3 14 (o := 896) rfl (by decide) (by sl_kernel_rfl)) maskAt fun a j => if_neg (by show ¬ (896 + a.val) / 128 * 128 + j.val < 512; omega)) _
      (load_band a9 V a9.view.junk hL 3 (by sl_kernel_rfl) (lo := 896) (o := 384) (by decide) rfl (by decide) (fun h => absurd h (by decide))) x,
    fun x => piece_out a3 ha3 x0 x3 V S maskAt 3 13 (o := 832) (o' := 384) (o'' := 1920) rfl rfl rfl (by decide) (by decide) _
      (logit_plain a6 ha6 x3 S 3 13 (o := 832) (b := 1) rfl rfl (by decide) _ (load_score a10 S hS4 3 13 (o := 832) rfl (by decide) (by sl_kernel_rfl)) maskAt fun a j => if_neg (by show ¬ (832 + a.val) / 128 * 128 + j.val < 512; omega)) _
      (load_band a9 V a9.view.junk hL 3 (by sl_kernel_rfl) (lo := 768) (o := 384) (by decide) rfl (by decide) (fun h => absurd h (by decide))) x,
    fun x => piece_out a3 ha3 x0 x3 V S maskAt 3 12 (o := 768) (o' := 384) (o'' := 1920) rfl rfl rfl (by decide) (by decide) _
      (logit_plain a6 ha6 x3 S 3 12 (o := 768) (b := 0) rfl rfl (by decide) _ (load_score a10 S hS4 3 12 (o := 768) rfl (by decide) (by sl_kernel_rfl)) maskAt fun a j => if_neg (by show ¬ (768 + a.val) / 128 * 128 + j.val < 512; omega)) _
      (load_band a9 V a9.view.junk hL 3 (by sl_kernel_rfl) (lo := 768) (o := 384) (by decide) rfl (by decide) (fun h => absurd h (by decide))) x,
    fun x => piece_out a3 ha3 x0 x3 V S maskAt 3 11 (o := 704) (o' := 384) (o'' := 1920) rfl rfl rfl (by decide) (by decide) _
      (logit_plain a6 ha6 x3 S 3 11 (o := 704) (b := 1) rfl rfl (by decide) _ (load_score a10 S hS4 3 11 (o := 704) rfl (by decide) (by sl_kernel_rfl)) maskAt fun a j => if_neg (by show ¬ (704 + a.val) / 128 * 128 + j.val < 512; omega)) _
      (load_band a9 V a9.view.junk hL 3 (by sl_kernel_rfl) (lo := 640) (o := 384) (by decide) rfl (by decide) (fun h => absurd h (by decide))) x,
    fun x => piece_out a3 ha3 x0 x3 V S maskAt 3 10 (o := 640) (o' := 384) (o'' := 1920) rfl rfl rfl (by decide) (by decide) _
      (logit_plain a6 ha6 x3 S 3 10 (o := 640) (b := 0) rfl rfl (by decide) _ (load_score a10 S hS4 3 10 (o := 640) rfl (by decide) (by sl_kernel_rfl)) maskAt fun a j => if_neg (by show ¬ (640 + a.val) / 128 * 128 + j.val < 512; omega)) _
      (load_band a9 V a9.view.junk hL 3 (by sl_kernel_rfl) (lo := 640) (o := 384) (by decide) rfl (by decide) (fun h => absurd h (by decide))) x,
    fun x => piece_out a3 ha3 x0 x3 V S maskAt 3 9 (o := 576) (o' := 384) (o'' := 1920) rfl rfl rfl (by decide) (by decide) _
      (logit_plain a6 ha6 x3 S 3 9 (o := 576) (b := 1) rfl rfl (by decide) _ (load_score a10 S hS4 3 9 (o := 576) rfl (by decide) (by sl_kernel_rfl)) maskAt fun a j => if_neg (by show ¬ (576 + a.val) / 128 * 128 + j.val < 512; omega)) _
      (load_band a9 V a9.view.junk hL 3 (by sl_kernel_rfl) (lo := 512) (o := 384) (by decide) rfl (by decide) (fun h => absurd h (by decide))) x,
    fun x => piece_out a3 ha3 x0 x3 V S maskAt 3 8 (o := 512) (o' := 384) (o'' := 1920) rfl rfl rfl (by decide) (by decide) _
      (logit_plain a6 ha6 x3 S 3 8 (o := 512) (b := 0) rfl rfl (by decide) _ (load_score a10 S hS4 3 8 (o := 512) rfl (by decide) (by sl_kernel_rfl)) maskAt fun a j => if_neg (by show ¬ (512 + a.val) / 128 * 128 + j.val < 512; omega)) _
      (load_band a9 V a9.view.junk hL 3 (by sl_kernel_rfl) (lo := 512) (o := 384) (by decide) rfl (by decide) (fun h => absurd h (by decide))) x,
    fun x => piece_out a3 ha3 x0 x3 V S maskAt 3 7 (o := 448) (o' := 384) (o'' := 1920) rfl rfl rfl (by decide) (by decide) _
      (logit_masked a6 ha6 x3 S 3 7 (o := 448) (b := 1) (lo := 384) rfl rfl rfl (by decide) (by decide) _ (load_score a10 S hS4 3 7 (o := 448) rfl (by decide) (by sl_kernel_rfl))) _
      (load_band a9 V a9.view.junk hL 3 (by sl_kernel_rfl) (lo := 384) (o := 384) (by decide) rfl (by decide) (hV)) x,
    fun x => piece_out a3 ha3 x0 x3 V S maskAt 3 6 (o := 384) (o' := 384) (o'' := 1920) rfl rfl rfl (by decide) (by decide) _
      (logit_masked a6 ha6 x3 S 3 6 (o := 384) (b := 0) (lo := 384) rfl rfl rfl (by decide) (by decide) _ (load_score a10 S hS4 3 6 (o := 384) rfl (by decide) (by sl_kernel_rfl))) _
      (load_band a9 V a9.view.junk hL 3 (by sl_kernel_rfl) (lo := 384) (o := 384) (by decide) rfl (by decide) (hV)) x,
    fun x => piece_out a3 ha3 x0 x3 V S maskAt 3 5 (o := 320) (o' := 384) (o'' := 1920) rfl rfl rfl (by decide) (by decide) _
      (logit_masked a6 ha6 x3 S 3 5 (o := 320) (b := 1) (lo := 256) rfl rfl rfl (by decide) (by decide) _ (load_score a10 S hS4 3 5 (o := 320) rfl (by decide) (by sl_kernel_rfl))) _
      (load_band a9 V a9.view.junk hL 3 (by sl_kernel_rfl) (lo := 256) (o := 384) (by decide) rfl (by decide) (hV)) x,
    fun x => piece_out a3 ha3 x0 x3 V S maskAt 3 4 (o := 256) (o' := 384) (o'' := 1920) rfl rfl rfl (by decide) (by decide) _
      (logit_masked a6 ha6 x3 S 3 4 (o := 256) (b := 0) (lo := 256) rfl rfl rfl (by decide) (by decide) _ (load_score a10 S hS4 3 4 (o := 256) rfl (by decide) (by sl_kernel_rfl))) _
      (load_band a9 V a9.view.junk hL 3 (by sl_kernel_rfl) (lo := 256) (o := 384) (by decide) rfl (by decide) (hV)) x,
    fun x => piece_out a3 ha3 x0 x3 V S maskAt 3 3 (o := 192) (o' := 384) (o'' := 1920) rfl rfl rfl (by decide) (by decide) _
      (logit_masked a6 ha6 x3 S 3 3 (o := 192) (b := 1) (lo := 128) rfl rfl rfl (by decide) (by decide) _ (load_score a10 S hS4 3 3 (o := 192) rfl (by decide) (by sl_kernel_rfl))) _
      (load_band a9 V a9.view.junk hL 3 (by sl_kernel_rfl) (lo := 128) (o := 384) (by decide) rfl (by decide) (hV)) x,
    fun x => piece_out a3 ha3 x0 x3 V S maskAt 3 2 (o := 128) (o' := 384) (o'' := 1920) rfl rfl rfl (by decide) (by decide) _
      (logit_masked a6 ha6 x3 S 3 2 (o := 128) (b := 0) (lo := 128) rfl rfl rfl (by decide) (by decide) _ (load_score a10 S hS4 3 2 (o := 128) rfl (by decide) (by sl_kernel_rfl))) _
      (load_band a9 V a9.view.junk hL 3 (by sl_kernel_rfl) (lo := 128) (o := 384) (by decide) rfl (by decide) (hV)) x,
    fun x => piece_out a3 ha3 x0 x3 V S maskAt 3 1 (o := 64) (o' := 384) (o'' := 1920) rfl rfl rfl (by decide) (by decide) _
      (logit_masked a6 ha6 x3 S 3 1 (o := 64) (b := 1) (lo := 0) rfl rfl rfl (by decide) (by decide) _ (load_score a10 S hS4 3 1 (o := 64) rfl (by decide) (by sl_kernel_rfl))) _
      (load_band a9 V a9.view.junk hL 3 (by sl_kernel_rfl) (lo := 0) (o := 384) (by decide) rfl (by decide) (hV)) x,
    fun x => piece_out a3 ha3 x0 x3 V S maskAt 3 0 (o := 0) (o' := 384) (o'' := 1920) rfl rfl rfl (by decide) (by decide) _
      (logit_masked a6 ha6 x3 S 3 0 (o := 0) (b := 0) (lo := 0) rfl rfl rfl (by decide) (by decide) _ (load_score a10 S hS4 3 0 (o := 0) rfl (by decide) (by sl_kernel_rfl))) _
      (load_band a9 V a9.view.junk hL 3 (by sl_kernel_rfl) (lo := 0) (o := 384) (by decide) rfl (by decide) (hV)) x,
    fun x => piece_out a3 ha3 x0 x3 V S maskAt 2 15 (o := 960) (o' := 256) (o'' := 1792) rfl rfl rfl (by decide) (by decide) _
      (logit_plain a6 ha6 x3 S 2 15 (o := 960) (b := 1) rfl rfl (by decide) _ (load_score a10 S hS3 2 15 (o := 960) rfl (by decide) (by sl_kernel_rfl)) maskAt fun a j => if_neg (by show ¬ (960 + a.val) / 128 * 128 + j.val < 512; omega)) _
      (load_band a9 V a9.view.junk hL 2 (by sl_kernel_rfl) (lo := 896) (o := 256) (by decide) rfl (by decide) (fun h => absurd h (by decide))) x,
    fun x => piece_out a3 ha3 x0 x3 V S maskAt 2 14 (o := 896) (o' := 256) (o'' := 1792) rfl rfl rfl (by decide) (by decide) _
      (logit_plain a6 ha6 x3 S 2 14 (o := 896) (b := 0) rfl rfl (by decide) _ (load_score a10 S hS3 2 14 (o := 896) rfl (by decide) (by sl_kernel_rfl)) maskAt fun a j => if_neg (by show ¬ (896 + a.val) / 128 * 128 + j.val < 512; omega)) _
      (load_band a9 V a9.view.junk hL 2 (by sl_kernel_rfl) (lo := 896) (o := 256) (by decide) rfl (by decide) (fun h => absurd h (by decide))) x,
    fun x => piece_out a3 ha3 x0 x3 V S maskAt 2 13 (o := 832) (o' := 256) (o'' := 1792) rfl rfl rfl (by decide) (by decide) _
      (logit_plain a6 ha6 x3 S 2 13 (o := 832) (b := 1) rfl rfl (by decide) _ (load_score a10 S hS3 2 13 (o := 832) rfl (by decide) (by sl_kernel_rfl)) maskAt fun a j => if_neg (by show ¬ (832 + a.val) / 128 * 128 + j.val < 512; omega)) _
      (load_band a9 V a9.view.junk hL 2 (by sl_kernel_rfl) (lo := 768) (o := 256) (by decide) rfl (by decide) (fun h => absurd h (by decide))) x,
    fun x => piece_out a3 ha3 x0 x3 V S maskAt 2 12 (o := 768) (o' := 256) (o'' := 1792) rfl rfl rfl (by decide) (by decide) _
      (logit_plain a6 ha6 x3 S 2 12 (o := 768) (b := 0) rfl rfl (by decide) _ (load_score a10 S hS3 2 12 (o := 768) rfl (by decide) (by sl_kernel_rfl)) maskAt fun a j => if_neg (by show ¬ (768 + a.val) / 128 * 128 + j.val < 512; omega)) _
      (load_band a9 V a9.view.junk hL 2 (by sl_kernel_rfl) (lo := 768) (o := 256) (by decide) rfl (by decide) (fun h => absurd h (by decide))) x,
    fun x => piece_out a3 ha3 x0 x3 V S maskAt 2 11 (o := 704) (o' := 256) (o'' := 1792) rfl rfl rfl (by decide) (by decide) _
      (logit_plain a6 ha6 x3 S 2 11 (o := 704) (b := 1) rfl rfl (by decide) _ (load_score a10 S hS3 2 11 (o := 704) rfl (by decide) (by sl_kernel_rfl)) maskAt fun a j => if_neg (by show ¬ (704 + a.val) / 128 * 128 + j.val < 512; omega)) _
      (load_band a9 V a9.view.junk hL 2 (by sl_kernel_rfl) (lo := 640) (o := 256) (by decide) rfl (by decide) (fun h => absurd h (by decide))) x,
    fun x => piece_out a3 ha3 x0 x3 V S maskAt 2 10 (o := 640) (o' := 256) (o'' := 1792) rfl rfl rfl (by decide) (by decide) _
      (logit_plain a6 ha6 x3 S 2 10 (o := 640) (b := 0) rfl rfl (by decide) _ (load_score a10 S hS3 2 10 (o := 640) rfl (by decide) (by sl_kernel_rfl)) maskAt fun a j => if_neg (by show ¬ (640 + a.val) / 128 * 128 + j.val < 512; omega)) _
      (load_band a9 V a9.view.junk hL 2 (by sl_kernel_rfl) (lo := 640) (o := 256) (by decide) rfl (by decide) (fun h => absurd h (by decide))) x,
    fun x => piece_out a3 ha3 x0 x3 V S maskAt 2 9 (o := 576) (o' := 256) (o'' := 1792) rfl rfl rfl (by decide) (by decide) _
      (logit_plain a6 ha6 x3 S 2 9 (o := 576) (b := 1) rfl rfl (by decide) _ (load_score a10 S hS3 2 9 (o := 576) rfl (by decide) (by sl_kernel_rfl)) maskAt fun a j => if_neg (by show ¬ (576 + a.val) / 128 * 128 + j.val < 512; omega)) _
      (load_band a9 V a9.view.junk hL 2 (by sl_kernel_rfl) (lo := 512) (o := 256) (by decide) rfl (by decide) (fun h => absurd h (by decide))) x,
    fun x => piece_out a3 ha3 x0 x3 V S maskAt 2 8 (o := 512) (o' := 256) (o'' := 1792) rfl rfl rfl (by decide) (by decide) _
      (logit_plain a6 ha6 x3 S 2 8 (o := 512) (b := 0) rfl rfl (by decide) _ (load_score a10 S hS3 2 8 (o := 512) rfl (by decide) (by sl_kernel_rfl)) maskAt fun a j => if_neg (by show ¬ (512 + a.val) / 128 * 128 + j.val < 512; omega)) _
      (load_band a9 V a9.view.junk hL 2 (by sl_kernel_rfl) (lo := 512) (o := 256) (by decide) rfl (by decide) (fun h => absurd h (by decide))) x,
    fun x => piece_out a3 ha3 x0 x3 V S maskAt 2 7 (o := 448) (o' := 256) (o'' := 1792) rfl rfl rfl (by decide) (by decide) _
      (logit_masked a6 ha6 x3 S 2 7 (o := 448) (b := 1) (lo := 384) rfl rfl rfl (by decide) (by decide) _ (load_score a10 S hS3 2 7 (o := 448) rfl (by decide) (by sl_kernel_rfl))) _
      (load_band a9 V a9.view.junk hL 2 (by sl_kernel_rfl) (lo := 384) (o := 256) (by decide) rfl (by decide) (hV)) x,
    fun x => piece_out a3 ha3 x0 x3 V S maskAt 2 6 (o := 384) (o' := 256) (o'' := 1792) rfl rfl rfl (by decide) (by decide) _
      (logit_masked a6 ha6 x3 S 2 6 (o := 384) (b := 0) (lo := 384) rfl rfl rfl (by decide) (by decide) _ (load_score a10 S hS3 2 6 (o := 384) rfl (by decide) (by sl_kernel_rfl))) _
      (load_band a9 V a9.view.junk hL 2 (by sl_kernel_rfl) (lo := 384) (o := 256) (by decide) rfl (by decide) (hV)) x,
    fun x => piece_out a3 ha3 x0 x3 V S maskAt 2 5 (o := 320) (o' := 256) (o'' := 1792) rfl rfl rfl (by decide) (by decide) _
      (logit_masked a6 ha6 x3 S 2 5 (o := 320) (b := 1) (lo := 256) rfl rfl rfl (by decide) (by decide) _ (load_score a10 S hS3 2 5 (o := 320) rfl (by decide) (by sl_kernel_rfl))) _
      (load_band a9 V a9.view.junk hL 2 (by sl_kernel_rfl) (lo := 256) (o := 256) (by decide) rfl (by decide) (hV)) x,
    fun x => piece_out a3 ha3 x0 x3 V S maskAt 2 4 (o := 256) (o' := 256) (o'' := 1792) rfl rfl rfl (by decide) (by decide) _
      (logit_masked a6 ha6 x3 S 2 4 (o := 256) (b := 0) (lo := 256) rfl rfl rfl (by decide) (by decide) _ (load_score a10 S hS3 2 4 (o := 256) rfl (by decide) (by sl_kernel_rfl))) _
      (load_band a9 V a9.view.junk hL 2 (by sl_kernel_rfl) (lo := 256) (o := 256) (by decide) rfl (by decide) (hV)) x,
    fun x => piece_out a3 ha3 x0 x3 V S maskAt 2 3 (o := 192) (o' := 256) (o'' := 1792) rfl rfl rfl (by decide) (by decide) _
      (logit_masked a6 ha6 x3 S 2 3 (o := 192) (b := 1) (lo := 128) rfl rfl rfl (by decide) (by decide) _ (load_score a10 S hS3 2 3 (o := 192) rfl (by decide) (by sl_kernel_rfl))) _
      (load_band a9 V a9.view.junk hL 2 (by sl_kernel_rfl) (lo := 128) (o := 256) (by decide) rfl (by decide) (hV)) x,
    fun x => piece_out a3 ha3 x0 x3 V S maskAt 2 2 (o := 128) (o' := 256) (o'' := 1792) rfl rfl rfl (by decide) (by decide) _
      (logit_masked a6 ha6 x3 S 2 2 (o := 128) (b := 0) (lo := 128) rfl rfl rfl (by decide) (by decide) _ (load_score a10 S hS3 2 2 (o := 128) rfl (by decide) (by sl_kernel_rfl))) _
      (load_band a9 V a9.view.junk hL 2 (by sl_kernel_rfl) (lo := 128) (o := 256) (by decide) rfl (by decide) (hV)) x,
    fun x => piece_out a3 ha3 x0 x3 V S maskAt 2 1 (o := 64) (o' := 256) (o'' := 1792) rfl rfl rfl (by decide) (by decide) _
      (logit_masked a6 ha6 x3 S 2 1 (o := 64) (b := 1) (lo := 0) rfl rfl rfl (by decide) (by decide) _ (load_score a10 S hS3 2 1 (o := 64) rfl (by decide) (by sl_kernel_rfl))) _
      (load_band a9 V a9.view.junk hL 2 (by sl_kernel_rfl) (lo := 0) (o := 256) (by decide) rfl (by decide) (hV)) x,
    fun x => piece_out a3 ha3 x0 x3 V S maskAt 2 0 (o := 0) (o' := 256) (o'' := 1792) rfl rfl rfl (by decide) (by decide) _
      (logit_masked a6 ha6 x3 S 2 0 (o := 0) (b := 0) (lo := 0) rfl rfl rfl (by decide) (by decide) _ (load_score a10 S hS3 2 0 (o := 0) rfl (by decide) (by sl_kernel_rfl))) _
      (load_band a9 V a9.view.junk hL 2 (by sl_kernel_rfl) (lo := 0) (o := 256) (by decide) rfl (by decide) (hV)) x,
    fun x => piece_out a3 ha3 x0 x3 V S maskAt 1 15 (o := 960) (o' := 128) (o'' := 1664) rfl rfl rfl (by decide) (by decide) _
      (logit_plain a6 ha6 x3 S 1 15 (o := 960) (b := 1) rfl rfl (by decide) _ (load_score a10 S hS2 1 15 (o := 960) rfl (by decide) (by sl_kernel_rfl)) maskAt fun a j => if_neg (by show ¬ (960 + a.val) / 128 * 128 + j.val < 512; omega)) _
      (load_band a9 V a9.view.junk hL 1 (by sl_kernel_rfl) (lo := 896) (o := 128) (by decide) rfl (by decide) (fun h => absurd h (by decide))) x,
    fun x => piece_out a3 ha3 x0 x3 V S maskAt 1 14 (o := 896) (o' := 128) (o'' := 1664) rfl rfl rfl (by decide) (by decide) _
      (logit_plain a6 ha6 x3 S 1 14 (o := 896) (b := 0) rfl rfl (by decide) _ (load_score a10 S hS2 1 14 (o := 896) rfl (by decide) (by sl_kernel_rfl)) maskAt fun a j => if_neg (by show ¬ (896 + a.val) / 128 * 128 + j.val < 512; omega)) _
      (load_band a9 V a9.view.junk hL 1 (by sl_kernel_rfl) (lo := 896) (o := 128) (by decide) rfl (by decide) (fun h => absurd h (by decide))) x,
    fun x => piece_out a3 ha3 x0 x3 V S maskAt 1 13 (o := 832) (o' := 128) (o'' := 1664) rfl rfl rfl (by decide) (by decide) _
      (logit_plain a6 ha6 x3 S 1 13 (o := 832) (b := 1) rfl rfl (by decide) _ (load_score a10 S hS2 1 13 (o := 832) rfl (by decide) (by sl_kernel_rfl)) maskAt fun a j => if_neg (by show ¬ (832 + a.val) / 128 * 128 + j.val < 512; omega)) _
      (load_band a9 V a9.view.junk hL 1 (by sl_kernel_rfl) (lo := 768) (o := 128) (by decide) rfl (by decide) (fun h => absurd h (by decide))) x,
    fun x => piece_out a3 ha3 x0 x3 V S maskAt 1 12 (o := 768) (o' := 128) (o'' := 1664) rfl rfl rfl (by decide) (by decide) _
      (logit_plain a6 ha6 x3 S 1 12 (o := 768) (b := 0) rfl rfl (by decide) _ (load_score a10 S hS2 1 12 (o := 768) rfl (by decide) (by sl_kernel_rfl)) maskAt fun a j => if_neg (by show ¬ (768 + a.val) / 128 * 128 + j.val < 512; omega)) _
      (load_band a9 V a9.view.junk hL 1 (by sl_kernel_rfl) (lo := 768) (o := 128) (by decide) rfl (by decide) (fun h => absurd h (by decide))) x,
    fun x => piece_out a3 ha3 x0 x3 V S maskAt 1 11 (o := 704) (o' := 128) (o'' := 1664) rfl rfl rfl (by decide) (by decide) _
      (logit_plain a6 ha6 x3 S 1 11 (o := 704) (b := 1) rfl rfl (by decide) _ (load_score a10 S hS2 1 11 (o := 704) rfl (by decide) (by sl_kernel_rfl)) maskAt fun a j => if_neg (by show ¬ (704 + a.val) / 128 * 128 + j.val < 512; omega)) _
      (load_band a9 V a9.view.junk hL 1 (by sl_kernel_rfl) (lo := 640) (o := 128) (by decide) rfl (by decide) (fun h => absurd h (by decide))) x,
    fun x => piece_out a3 ha3 x0 x3 V S maskAt 1 10 (o := 640) (o' := 128) (o'' := 1664) rfl rfl rfl (by decide) (by decide) _
      (logit_plain a6 ha6 x3 S 1 10 (o := 640) (b := 0) rfl rfl (by decide) _ (load_score a10 S hS2 1 10 (o := 640) rfl (by decide) (by sl_kernel_rfl)) maskAt fun a j => if_neg (by show ¬ (640 + a.val) / 128 * 128 + j.val < 512; omega)) _
      (load_band a9 V a9.view.junk hL 1 (by sl_kernel_rfl) (lo := 640) (o := 128) (by decide) rfl (by decide) (fun h => absurd h (by decide))) x,
    fun x => piece_out a3 ha3 x0 x3 V S maskAt 1 9 (o := 576) (o' := 128) (o'' := 1664) rfl rfl rfl (by decide) (by decide) _
      (logit_plain a6 ha6 x3 S 1 9 (o := 576) (b := 1) rfl rfl (by decide) _ (load_score a10 S hS2 1 9 (o := 576) rfl (by decide) (by sl_kernel_rfl)) maskAt fun a j => if_neg (by show ¬ (576 + a.val) / 128 * 128 + j.val < 512; omega)) _
      (load_band a9 V a9.view.junk hL 1 (by sl_kernel_rfl) (lo := 512) (o := 128) (by decide) rfl (by decide) (fun h => absurd h (by decide))) x,
    fun x => piece_out a3 ha3 x0 x3 V S maskAt 1 8 (o := 512) (o' := 128) (o'' := 1664) rfl rfl rfl (by decide) (by decide) _
      (logit_plain a6 ha6 x3 S 1 8 (o := 512) (b := 0) rfl rfl (by decide) _ (load_score a10 S hS2 1 8 (o := 512) rfl (by decide) (by sl_kernel_rfl)) maskAt fun a j => if_neg (by show ¬ (512 + a.val) / 128 * 128 + j.val < 512; omega)) _
      (load_band a9 V a9.view.junk hL 1 (by sl_kernel_rfl) (lo := 512) (o := 128) (by decide) rfl (by decide) (fun h => absurd h (by decide))) x,
    fun x => piece_out a3 ha3 x0 x3 V S maskAt 1 7 (o := 448) (o' := 128) (o'' := 1664) rfl rfl rfl (by decide) (by decide) _
      (logit_masked a6 ha6 x3 S 1 7 (o := 448) (b := 1) (lo := 384) rfl rfl rfl (by decide) (by decide) _ (load_score a10 S hS2 1 7 (o := 448) rfl (by decide) (by sl_kernel_rfl))) _
      (load_band a9 V a9.view.junk hL 1 (by sl_kernel_rfl) (lo := 384) (o := 128) (by decide) rfl (by decide) (hV)) x,
    fun x => piece_out a3 ha3 x0 x3 V S maskAt 1 6 (o := 384) (o' := 128) (o'' := 1664) rfl rfl rfl (by decide) (by decide) _
      (logit_masked a6 ha6 x3 S 1 6 (o := 384) (b := 0) (lo := 384) rfl rfl rfl (by decide) (by decide) _ (load_score a10 S hS2 1 6 (o := 384) rfl (by decide) (by sl_kernel_rfl))) _
      (load_band a9 V a9.view.junk hL 1 (by sl_kernel_rfl) (lo := 384) (o := 128) (by decide) rfl (by decide) (hV)) x,
    fun x => piece_out a3 ha3 x0 x3 V S maskAt 1 5 (o := 320) (o' := 128) (o'' := 1664) rfl rfl rfl (by decide) (by decide) _
      (logit_masked a6 ha6 x3 S 1 5 (o := 320) (b := 1) (lo := 256) rfl rfl rfl (by decide) (by decide) _ (load_score a10 S hS2 1 5 (o := 320) rfl (by decide) (by sl_kernel_rfl))) _
      (load_band a9 V a9.view.junk hL 1 (by sl_kernel_rfl) (lo := 256) (o := 128) (by decide) rfl (by decide) (hV)) x,
    fun x => piece_out a3 ha3 x0 x3 V S maskAt 1 4 (o := 256) (o' := 128) (o'' := 1664) rfl rfl rfl (by decide) (by decide) _
      (logit_masked a6 ha6 x3 S 1 4 (o := 256) (b := 0) (lo := 256) rfl rfl rfl (by decide) (by decide) _ (load_score a10 S hS2 1 4 (o := 256) rfl (by decide) (by sl_kernel_rfl))) _
      (load_band a9 V a9.view.junk hL 1 (by sl_kernel_rfl) (lo := 256) (o := 128) (by decide) rfl (by decide) (hV)) x,
    fun x => piece_out a3 ha3 x0 x3 V S maskAt 1 3 (o := 192) (o' := 128) (o'' := 1664) rfl rfl rfl (by decide) (by decide) _
      (logit_masked a6 ha6 x3 S 1 3 (o := 192) (b := 1) (lo := 128) rfl rfl rfl (by decide) (by decide) _ (load_score a10 S hS2 1 3 (o := 192) rfl (by decide) (by sl_kernel_rfl))) _
      (load_band a9 V a9.view.junk hL 1 (by sl_kernel_rfl) (lo := 128) (o := 128) (by decide) rfl (by decide) (hV)) x,
    fun x => piece_out a3 ha3 x0 x3 V S maskAt 1 2 (o := 128) (o' := 128) (o'' := 1664) rfl rfl rfl (by decide) (by decide) _
      (logit_masked a6 ha6 x3 S 1 2 (o := 128) (b := 0) (lo := 128) rfl rfl rfl (by decide) (by decide) _ (load_score a10 S hS2 1 2 (o := 128) rfl (by decide) (by sl_kernel_rfl))) _
      (load_band a9 V a9.view.junk hL 1 (by sl_kernel_rfl) (lo := 128) (o := 128) (by decide) rfl (by decide) (hV)) x,
    fun x => piece_out a3 ha3 x0 x3 V S maskAt 1 1 (o := 64) (o' := 128) (o'' := 1664) rfl rfl rfl (by decide) (by decide) _
      (logit_masked a6 ha6 x3 S 1 1 (o := 64) (b := 1) (lo := 0) rfl rfl rfl (by decide) (by decide) _ (load_score a10 S hS2 1 1 (o := 64) rfl (by decide) (by sl_kernel_rfl))) _
      (load_band a9 V a9.view.junk hL 1 (by sl_kernel_rfl) (lo := 0) (o := 128) (by decide) rfl (by decide) (hV)) x,
    fun x => piece_out a3 ha3 x0 x3 V S maskAt 1 0 (o := 0) (o' := 128) (o'' := 1664) rfl rfl rfl (by decide) (by decide) _
      (logit_masked a6 ha6 x3 S 1 0 (o := 0) (b := 0) (lo := 0) rfl rfl rfl (by decide) (by decide) _ (load_score a10 S hS2 1 0 (o := 0) rfl (by decide) (by sl_kernel_rfl))) _
      (load_band a9 V a9.view.junk hL 1 (by sl_kernel_rfl) (lo := 0) (o := 128) (by decide) rfl (by decide) (hV)) x,
    fun x => piece_out a3 ha3 x0 x3 V S maskAt 0 15 (o := 960) (o' := 0) (o'' := 1536) rfl rfl rfl (by decide) (by decide) _
      (logit_plain a6 ha6 x3 S 0 15 (o := 960) (b := 1) rfl rfl (by decide) _ (load_score a10 S hS1 0 15 (o := 960) rfl (by decide) (by sl_kernel_rfl)) maskAt fun a j => if_neg (by show ¬ (960 + a.val) / 128 * 128 + j.val < 512; omega)) _
      (load_band a9 V a9.view.junk hL 0 (by sl_kernel_rfl) (lo := 896) (o := 0) (by decide) rfl (by decide) (fun h => absurd h (by decide))) x,
    fun x => piece_out a3 ha3 x0 x3 V S maskAt 0 14 (o := 896) (o' := 0) (o'' := 1536) rfl rfl rfl (by decide) (by decide) _
      (logit_plain a6 ha6 x3 S 0 14 (o := 896) (b := 0) rfl rfl (by decide) _ (load_score a10 S hS1 0 14 (o := 896) rfl (by decide) (by sl_kernel_rfl)) maskAt fun a j => if_neg (by show ¬ (896 + a.val) / 128 * 128 + j.val < 512; omega)) _
      (load_band a9 V a9.view.junk hL 0 (by sl_kernel_rfl) (lo := 896) (o := 0) (by decide) rfl (by decide) (fun h => absurd h (by decide))) x,
    fun x => piece_out a3 ha3 x0 x3 V S maskAt 0 13 (o := 832) (o' := 0) (o'' := 1536) rfl rfl rfl (by decide) (by decide) _
      (logit_plain a6 ha6 x3 S 0 13 (o := 832) (b := 1) rfl rfl (by decide) _ (load_score a10 S hS1 0 13 (o := 832) rfl (by decide) (by sl_kernel_rfl)) maskAt fun a j => if_neg (by show ¬ (832 + a.val) / 128 * 128 + j.val < 512; omega)) _
      (load_band a9 V a9.view.junk hL 0 (by sl_kernel_rfl) (lo := 768) (o := 0) (by decide) rfl (by decide) (fun h => absurd h (by decide))) x,
    fun x => piece_out a3 ha3 x0 x3 V S maskAt 0 12 (o := 768) (o' := 0) (o'' := 1536) rfl rfl rfl (by decide) (by decide) _
      (logit_plain a6 ha6 x3 S 0 12 (o := 768) (b := 0) rfl rfl (by decide) _ (load_score a10 S hS1 0 12 (o := 768) rfl (by decide) (by sl_kernel_rfl)) maskAt fun a j => if_neg (by show ¬ (768 + a.val) / 128 * 128 + j.val < 512; omega)) _
      (load_band a9 V a9.view.junk hL 0 (by sl_kernel_rfl) (lo := 768) (o := 0) (by decide) rfl (by decide) (fun h => absurd h (by decide))) x,
    fun x => piece_out a3 ha3 x0 x3 V S maskAt 0 11 (o := 704) (o' := 0) (o'' := 1536) rfl rfl rfl (by decide) (by decide) _
      (logit_plain a6 ha6 x3 S 0 11 (o := 704) (b := 1) rfl rfl (by decide) _ (load_score a10 S hS1 0 11 (o := 704) rfl (by decide) (by sl_kernel_rfl)) maskAt fun a j => if_neg (by show ¬ (704 + a.val) / 128 * 128 + j.val < 512; omega)) _
      (load_band a9 V a9.view.junk hL 0 (by sl_kernel_rfl) (lo := 640) (o := 0) (by decide) rfl (by decide) (fun h => absurd h (by decide))) x,
    fun x => piece_out a3 ha3 x0 x3 V S maskAt 0 10 (o := 640) (o' := 0) (o'' := 1536) rfl rfl rfl (by decide) (by decide) _
      (logit_plain a6 ha6 x3 S 0 10 (o := 640) (b := 0) rfl rfl (by decide) _ (load_score a10 S hS1 0 10 (o := 640) rfl (by decide) (by sl_kernel_rfl)) maskAt fun a j => if_neg (by show ¬ (640 + a.val) / 128 * 128 + j.val < 512; omega)) _
      (load_band a9 V a9.view.junk hL 0 (by sl_kernel_rfl) (lo := 640) (o := 0) (by decide) rfl (by decide) (fun h => absurd h (by decide))) x,
    fun x => piece_out a3 ha3 x0 x3 V S maskAt 0 9 (o := 576) (o' := 0) (o'' := 1536) rfl rfl rfl (by decide) (by decide) _
      (logit_plain a6 ha6 x3 S 0 9 (o := 576) (b := 1) rfl rfl (by decide) _ (load_score a10 S hS1 0 9 (o := 576) rfl (by decide) (by sl_kernel_rfl)) maskAt fun a j => if_neg (by show ¬ (576 + a.val) / 128 * 128 + j.val < 512; omega)) _
      (load_band a9 V a9.view.junk hL 0 (by sl_kernel_rfl) (lo := 512) (o := 0) (by decide) rfl (by decide) (fun h => absurd h (by decide))) x,
    fun x => piece_out a3 ha3 x0 x3 V S maskAt 0 8 (o := 512) (o' := 0) (o'' := 1536) rfl rfl rfl (by decide) (by decide) _
      (logit_plain a6 ha6 x3 S 0 8 (o := 512) (b := 0) rfl rfl (by decide) _ (load_score a10 S hS1 0 8 (o := 512) rfl (by decide) (by sl_kernel_rfl)) maskAt fun a j => if_neg (by show ¬ (512 + a.val) / 128 * 128 + j.val < 512; omega)) _
      (load_band a9 V a9.view.junk hL 0 (by sl_kernel_rfl) (lo := 512) (o := 0) (by decide) rfl (by decide) (fun h => absurd h (by decide))) x,
    fun x => piece_out a3 ha3 x0 x3 V S maskAt 0 7 (o := 448) (o' := 0) (o'' := 1536) rfl rfl rfl (by decide) (by decide) _
      (logit_masked a6 ha6 x3 S 0 7 (o := 448) (b := 1) (lo := 384) rfl rfl rfl (by decide) (by decide) _ (load_score a10 S hS1 0 7 (o := 448) rfl (by decide) (by sl_kernel_rfl))) _
      (load_band a9 V a9.view.junk hL 0 (by sl_kernel_rfl) (lo := 384) (o := 0) (by decide) rfl (by decide) (hV)) x,
    fun x => piece_out a3 ha3 x0 x3 V S maskAt 0 6 (o := 384) (o' := 0) (o'' := 1536) rfl rfl rfl (by decide) (by decide) _
      (logit_masked a6 ha6 x3 S 0 6 (o := 384) (b := 0) (lo := 384) rfl rfl rfl (by decide) (by decide) _ (load_score a10 S hS1 0 6 (o := 384) rfl (by decide) (by sl_kernel_rfl))) _
      (load_band a9 V a9.view.junk hL 0 (by sl_kernel_rfl) (lo := 384) (o := 0) (by decide) rfl (by decide) (hV)) x,
    fun x => piece_out a3 ha3 x0 x3 V S maskAt 0 5 (o := 320) (o' := 0) (o'' := 1536) rfl rfl rfl (by decide) (by decide) _
      (logit_masked a6 ha6 x3 S 0 5 (o := 320) (b := 1) (lo := 256) rfl rfl rfl (by decide) (by decide) _ (load_score a10 S hS1 0 5 (o := 320) rfl (by decide) (by sl_kernel_rfl))) _
      (load_band a9 V a9.view.junk hL 0 (by sl_kernel_rfl) (lo := 256) (o := 0) (by decide) rfl (by decide) (hV)) x,
    fun x => piece_out a3 ha3 x0 x3 V S maskAt 0 4 (o := 256) (o' := 0) (o'' := 1536) rfl rfl rfl (by decide) (by decide) _
      (logit_masked a6 ha6 x3 S 0 4 (o := 256) (b := 0) (lo := 256) rfl rfl rfl (by decide) (by decide) _ (load_score a10 S hS1 0 4 (o := 256) rfl (by decide) (by sl_kernel_rfl))) _
      (load_band a9 V a9.view.junk hL 0 (by sl_kernel_rfl) (lo := 256) (o := 0) (by decide) rfl (by decide) (hV)) x,
    fun x => piece_out a3 ha3 x0 x3 V S maskAt 0 3 (o := 192) (o' := 0) (o'' := 1536) rfl rfl rfl (by decide) (by decide) _
      (logit_masked a6 ha6 x3 S 0 3 (o := 192) (b := 1) (lo := 128) rfl rfl rfl (by decide) (by decide) _ (load_score a10 S hS1 0 3 (o := 192) rfl (by decide) (by sl_kernel_rfl))) _
      (load_band a9 V a9.view.junk hL 0 (by sl_kernel_rfl) (lo := 128) (o := 0) (by decide) rfl (by decide) (hV)) x,
    fun x => piece_out a3 ha3 x0 x3 V S maskAt 0 2 (o := 128) (o' := 0) (o'' := 1536) rfl rfl rfl (by decide) (by decide) _
      (logit_masked a6 ha6 x3 S 0 2 (o := 128) (b := 0) (lo := 128) rfl rfl rfl (by decide) (by decide) _ (load_score a10 S hS1 0 2 (o := 128) rfl (by decide) (by sl_kernel_rfl))) _
      (load_band a9 V a9.view.junk hL 0 (by sl_kernel_rfl) (lo := 128) (o := 0) (by decide) rfl (by decide) (hV)) x,
    fun x => piece_out a3 ha3 x0 x3 V S maskAt 0 1 (o := 64) (o' := 0) (o'' := 1536) rfl rfl rfl (by decide) (by decide) _
      (logit_masked a6 ha6 x3 S 0 1 (o := 64) (b := 1) (lo := 0) rfl rfl rfl (by decide) (by decide) _ (load_score a10 S hS1 0 1 (o := 64) rfl (by decide) (by sl_kernel_rfl))) _
      (load_band a9 V a9.view.junk hL 0 (by sl_kernel_rfl) (lo := 0) (o := 0) (by decide) rfl (by decide) (hV)) x,
    fun x => piece_out a3 ha3 x0 x3 V S maskAt 0 0 (o := 0) (o' := 0) (o'' := 1536) rfl rfl rfl (by decide) (by decide) _
      (logit_masked a6 ha6 x3 S 0 0 (o := 0) (b := 0) (lo := 0) rfl rfl rfl (by decide) (by decide) _ (load_score a10 S hS1 0 0 (o := 0) rfl (by decide) (by sl_kernel_rfl))) _
      (load_band a9 V a9.view.junk hL 0 (by sl_kernel_rfl) (lo := 0) (o := 0) (by decide) rfl (by decide) (hV)) x, trivial⟩

/-- It leaves the last 512 keys in the first 512 rows of the key buffer. -/
theorem key_A (hc0 : cond0_0 i) (hc1 : ¬cond0_1 i) (r l : Fin 512) :
    sout0_A_0 (F := Ideal) c i a3 ha3 a4 ha4 a5 ha5 a6 ha6 a7 ha7 a8 ha8 a9 ha9 a10 ha10 hc0 hc1 x0 x1 x2 x3 (ix2 ⟨r.val, by omega⟩ l)
      = (keyBuf (fun _ => 0) x0 x2) (ix2 ⟨1024 + r.val, by omega⟩ l) := by
  unfold sout0_A_0
  rw [View.read_writes_junk_eq_canon]
  unfold kernelRun0_A
  dsimp only
  exact shifted a8 _ _ (piecesK4_A c a3 ha3 a5 ha5 x0 x2) (fun h => match h with | 0 => rfl | 1 => rfl | 2 => rfl | 3 => rfl) _ _ _ r l

/-- It leaves the last 512 values in the first 512 rows of the value buffer. -/
theorem val_A (hc0 : cond0_0 i) (hc1 : ¬cond0_1 i) (r l : Fin 512) :
    sout0_A_1 (F := Ideal) c i a3 ha3 a4 ha4 a5 ha5 a6 ha6 a7 ha7 a8 ha8 a9 ha9 a10 ha10 hc0 hc1 x0 x1 x2 x3 (ix2 ⟨r.val, by omega⟩ l)
      = (valBuf (fun _ => 0) x0) (ix2 ⟨1024 + r.val, by omega⟩ l) := by
  unfold sout0_A_1
  rw [View.read_writes_junk_eq_canon]
  unfold kernelRun0_A
  dsimp only
  exact shifted a9 _ _ (piecesV_A c a3 ha3 x0) (fun h => match h with | 0 => rfl | 1 => rfl | 2 => rfl | 3 => rfl) _ _ _ r l

end

end Cert.KernelIdeal.Att
-- ==== Proof.CaseB.lean ====
module

public import proofs.«01_k».proof.Proof.Store
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Att
open Cert.KernelIdeal Cert.KernelIdeal.Gen

/-! ## A grid point after the first of its sequence -/

section

variable (c : Dev nD) (i : grid0.Coords) (a3 : Memref sig .tc .vmem S1024x2048 .bf16) (ha3 : a3.IsWhole) (a4 : Memref sig .tc .vmem S1x128 .f32) (ha4 : a4.IsWhole) (a5 : Memref sig .tc .vmem S1x128 .f32) (ha5 : a5.IsWhole)
  (a6 : Memref sig .tc .vmem S4x2x64x640 .f32) (ha6 : a6.IsWhole) (a7 : Memref sig .tc .vmem S1024x512 .bf16) (ha7 : a7.IsWhole) (a8 : Memref sig .tc .vmem S1536x512 .bf16) (ha8 : a8.IsWhole)
  (a9 : Memref sig .tc .vmem S1536x512 .bf16) (ha9 : a9.IsWhole) (a10 : Memref sig .tc .vmem S4x1024x640 .f32) (ha10 : a10.IsWhole)
  (x0 : FVec Ideal S1024x2048 .bf16) (x1 x2 : FVec Ideal S1x128 .f32) (x3 : FVec Ideal S4x2x64x640 .f32) (xs0 xs1 : FVec Ideal S1536x512 .bf16)

open kernelRun0_B

/-- The key stores of the first 1 heads. -/
theorem piecesK1_B : View.PiecesOf (keyBuf xs0 x0 x2) (sl.HS0_1 (F := Ideal) c a3 ha3 a5 ha5 x0 x2) := by
  unfold sl.HS0_1
  exact ⟨fun x => piece_key a3 ha3 a5 ha5 x0 x2 xs0 0 (o := 0) (o' := 512) rfl rfl (by decide) _ _ x, trivial⟩

/-- The key stores of the first 2 heads. -/
theorem piecesK2_B : View.PiecesOf (keyBuf xs0 x0 x2) (sl.HS0_2 (F := Ideal) c a3 ha3 a5 ha5 x0 x2) := by
  unfold sl.HS0_2
  exact ⟨fun x => piece_key a3 ha3 a5 ha5 x0 x2 xs0 1 (o := 128) (o' := 640) rfl rfl (by decide) _ _ x, piecesK1_B c a3 ha3 a5 ha5 x0 x2 xs0⟩

/-- The key stores of the first 3 heads. -/
theorem piecesK3_B : View.PiecesOf (keyBuf xs0 x0 x2) (sl.HS0_3 (F := Ideal) c a3 ha3 a5 ha5 x0 x2) := by
  unfold sl.HS0_3
  exact ⟨fun x => piece_key a3 ha3 a5 ha5 x0 x2 xs0 2 (o := 256) (o' := 768) rfl rfl (by decide) _ _ x, piecesK2_B c a3 ha3 a5 ha5 x0 x2 xs0⟩

/-- The key stores of the first 4 heads. -/
theorem piecesK4_B : View.PiecesOf (keyBuf xs0 x0 x2) (sl.HS0_4 (F := Ideal) c a3 ha3 a5 ha5 x0 x2) := by
  unfold sl.HS0_4
  exact ⟨fun x => piece_key a3 ha3 a5 ha5 x0 x2 xs0 3 (o := 384) (o' := 896) rfl rfl (by decide) _ _ x, piecesK3_B c a3 ha3 a5 ha5 x0 x2 xs0⟩

/-- The value store. -/
theorem piecesV_B : View.PiecesOf (valBuf xs1 x0) (sl.HS1_1 (F := Ideal) c a3 ha3 x0) := by
  unfold sl.HS1_1
  exact ⟨fun x => piece_val a3 ha3 x0 xs1 (by decide) _ x, trivial⟩

/-- The score stores of the first 1 heads. -/
theorem piecesS1_B : View.PiecesOf (scoreBuf x0 x1 (keyBuf xs0 x0 x2)) (sl.HS2_8 (F := Ideal) c a3 ha3 a4 ha4 a5 ha5 a8 ha8 x0 x1 x2 xs0) := by
  unfold sl.HS2_8
  exact ⟨fun x => piece_score a3 ha3 a4 ha4 x0 x1 (keyBuf xs0 x0 x2) 0 7 (o := 896) (o' := 0) rfl rfl (by decide) _ _ _ _ (load_band a8 _ _ (piecesK1_B c a3 ha3 a5 ha5 x0 x2 xs0) 0 rfl (by decide) rfl _ (fun h => absurd h (by decide))) x,
    fun x => piece_score a3 ha3 a4 ha4 x0 x1 (keyBuf xs0 x0 x2) 0 6 (o := 768) (o' := 0) rfl rfl (by decide) _ _ _ _ (load_band a8 _ _ (piecesK1_B c a3 ha3 a5 ha5 x0 x2 xs0) 0 rfl (by decide) rfl _ (fun h => absurd h (by decide))) x,
    fun x => piece_score a3 ha3 a4 ha4 x0 x1 (keyBuf xs0 x0 x2) 0 5 (o := 640) (o' := 0) rfl rfl (by decide) _ _ _ _ (load_band a8 _ _ (piecesK1_B c a3 ha3 a5 ha5 x0 x2 xs0) 0 rfl (by decide) rfl _ (fun h => absurd h (by decide))) x,
    fun x => piece_score a3 ha3 a4 ha4 x0 x1 (keyBuf xs0 x0 x2) 0 4 (o := 512) (o' := 0) rfl rfl (by decide) _ _ _ _ (load_band a8 _ _ (piecesK1_B c a3 ha3 a5 ha5 x0 x2 xs0) 0 rfl (by decide) rfl _ (fun h => absurd h (by decide))) x,
    fun x => piece_score a3 ha3 a4 ha4 x0 x1 (keyBuf xs0 x0 x2) 0 3 (o := 384) (o' := 0) rfl rfl (by decide) _ _ _ _ (load_band a8 _ _ (piecesK1_B c a3 ha3 a5 ha5 x0 x2 xs0) 0 rfl (by decide) rfl _ (fun _ => .inr fun y hy => by rw [ha8.read_unread, keyBuf, dif_pos hy])) x,
    fun x => piece_score a3 ha3 a4 ha4 x0 x1 (keyBuf xs0 x0 x2) 0 2 (o := 256) (o' := 0) rfl rfl (by decide) _ _ _ _ (load_band a8 _ _ (piecesK1_B c a3 ha3 a5 ha5 x0 x2 xs0) 0 rfl (by decide) rfl _ (fun _ => .inr fun y hy => by rw [ha8.read_unread, keyBuf, dif_pos hy])) x,
    fun x => piece_score a3 ha3 a4 ha4 x0 x1 (keyBuf xs0 x0 x2) 0 1 (o := 128) (o' := 0) rfl rfl (by decide) _ _ _ _ (load_band a8 _ _ (piecesK1_B c a3 ha3 a5 ha5 x0 x2 xs0) 0 rfl (by decide) rfl _ (fun _ => .inr fun y hy => by rw [ha8.read_unread, keyBuf, dif_pos hy])) x,
    fun x => piece_score a3 ha3 a4 ha4 x0 x1 (keyBuf xs0 x0 x2) 0 0 (o := 0) (o' := 0) rfl rfl (by decide) _ _ _ _ (load_band a8 _ _ (piecesK1_B c a3 ha3 a5 ha5 x0 x2 xs0) 0 rfl (by decide) rfl _ (fun _ => .inr fun y hy => by rw [ha8.read_unread, keyBuf, dif_pos hy])) x, trivial⟩

/-- The score stores of the first 2 heads. -/
theorem piecesS2_B : View.PiecesOf (scoreBuf x0 x1 (keyBuf xs0 x0 x2)) (sl.HS2_16 (F := Ideal) c a3 ha3 a4 ha4 a5 ha5 a8 ha8 x0 x1 x2 xs0) := by
  unfold sl.HS2_16
  exact ⟨fun x => piece_score a3 ha3 a4 ha4 x0 x1 (keyBuf xs0 x0 x2) 1 7 (o := 896) (o' := 128) rfl rfl (by decide) _ _ _ _ (load_band a8 _ _ (piecesK2_B c a3 ha3 a5 ha5 x0 x2 xs0) 1 rfl (by decide) rfl _ (fun h => absurd h (by decide))) x,
    fun x => piece_score a3 ha3 a4 ha4 x0 x1 (keyBuf xs0 x0 x2) 1 6 (o := 768) (o' := 128) rfl rfl (by decide) _ _ _ _ (load_band a8 _ _ (piecesK2_B c a3 ha3 a5 ha5 x0 x2 xs0) 1 rfl (by decide) rfl _ (fun h => absurd h (by decide))) x,
    fun x => piece_score a3 ha3 a4 ha4 x0 x1 (keyBuf xs0 x0 x2) 1 5 (o := 640) (o' := 128) rfl rfl (by decide) _ _ _ _ (load_band a8 _ _ (piecesK2_B c a3 ha3 a5 ha5 x0 x2 xs0) 1 rfl (by decide) rfl _ (fun h => absurd h (by decide))) x,
    fun x => piece_score a3 ha3 a4 ha4 x0 x1 (keyBuf xs0 x0 x2) 1 4 (o := 512) (o' := 128) rfl rfl (by decide) _ _ _ _ (load_band a8 _ _ (piecesK2_B c a3 ha3 a5 ha5 x0 x2 xs0) 1 rfl (by decide) rfl _ (fun h => absurd h (by decide))) x,
    fun x => piece_score a3 ha3 a4 ha4 x0 x1 (keyBuf xs0 x0 x2) 1 3 (o := 384) (o' := 128) rfl rfl (by decide) _ _ _ _ (load_band a8 _ _ (piecesK2_B c a3 ha3 a5 ha5 x0 x2 xs0) 1 rfl (by decide) rfl _ (fun _ => .inr fun y hy => by rw [ha8.read_unread, keyBuf, dif_pos hy])) x,
    fun x => piece_score a3 ha3 a4 ha4 x0 x1 (keyBuf xs0 x0 x2) 1 2 (o := 256) (o' := 128) rfl rfl (by decide) _ _ _ _ (load_band a8 _ _ (piecesK2_B c a3 ha3 a5 ha5 x0 x2 xs0) 1 rfl (by decide) rfl _ (fun _ => .inr fun y hy => by rw [ha8.read_unread, keyBuf, dif_pos hy])) x,
    fun x => piece_score a3 ha3 a4 ha4 x0 x1 (keyBuf xs0 x0 x2) 1 1 (o := 128) (o' := 128) rfl rfl (by decide) _ _ _ _ (load_band a8 _ _ (piecesK2_B c a3 ha3 a5 ha5 x0 x2 xs0) 1 rfl (by decide) rfl _ (fun _ => .inr fun y hy => by rw [ha8.read_unread, keyBuf, dif_pos hy])) x,
    fun x => piece_score a3 ha3 a4 ha4 x0 x1 (keyBuf xs0 x0 x2) 1 0 (o := 0) (o' := 128) rfl rfl (by decide) _ _ _ _ (load_band a8 _ _ (piecesK2_B c a3 ha3 a5 ha5 x0 x2 xs0) 1 rfl (by decide) rfl _ (fun _ => .inr fun y hy => by rw [ha8.read_unread, keyBuf, dif_pos hy])) x, piecesS1_B c a3 ha3 a4 ha4 a5 ha5 a8 ha8 x0 x1 x2 xs0⟩

/-- The score stores of the first 3 heads. -/
theorem piecesS3_B : View.PiecesOf (scoreBuf x0 x1 (keyBuf xs0 x0 x2)) (sl.HS2_24 (F := Ideal) c a3 ha3 a4 ha4 a5 ha5 a8 ha8 x0 x1 x2 xs0) := by
  unfold sl.HS2_24
  exact ⟨fun x => piece_score a3 ha3 a4 ha4 x0 x1 (keyBuf xs0 x0 x2) 2 7 (o := 896) (o' := 256) rfl rfl (by decide) _ _ _ _ (load_band a8 _ _ (piecesK3_B c a3 ha3 a5 ha5 x0 x2 xs0) 2 rfl (by decide) rfl _ (fun h => absurd h (by decide))) x,
    fun x => piece_score a3 ha3 a4 ha4 x0 x1 (keyBuf xs0 x0 x2) 2 6 (o := 768) (o' := 256) rfl rfl (by decide) _ _ _ _ (load_band a8 _ _ (piecesK3_B c a3 ha3 a5 ha5 x0 x2 xs0) 2 rfl (by decide) rfl _ (fun h => absurd h (by decide))) x,
    fun x => piece_score a3 ha3 a4 ha4 x0 x1 (keyBuf xs0 x0 x2) 2 5 (o := 640) (o' := 256) rfl rfl (by decide) _ _ _ _ (load_band a8 _ _ (piecesK3_B c a3 ha3 a5 ha5 x0 x2 xs0) 2 rfl (by decide) rfl _ (fun h => absurd h (by decide))) x,
    fun x => piece_score a3 ha3 a4 ha4 x0 x1 (keyBuf xs0 x0 x2) 2 4 (o := 512) (o' := 256) rfl rfl (by decide) _ _ _ _ (load_band a8 _ _ (piecesK3_B c a3 ha3 a5 ha5 x0 x2 xs0) 2 rfl (by decide) rfl _ (fun h => absurd h (by decide))) x,
    fun x => piece_score a3 ha3 a4 ha4 x0 x1 (keyBuf xs0 x0 x2) 2 3 (o := 384) (o' := 256) rfl rfl (by decide) _ _ _ _ (load_band a8 _ _ (piecesK3_B c a3 ha3 a5 ha5 x0 x2 xs0) 2 rfl (by decide) rfl _ (fun _ => .inr fun y hy => by rw [ha8.read_unread, keyBuf, dif_pos hy])) x,
    fun x => piece_score a3 ha3 a4 ha4 x0 x1 (keyBuf xs0 x0 x2) 2 2 (o := 256) (o' := 256) rfl rfl (by decide) _ _ _ _ (load_band a8 _ _ (piecesK3_B c a3 ha3 a5 ha5 x0 x2 xs0) 2 rfl (by decide) rfl _ (fun _ => .inr fun y hy => by rw [ha8.read_unread, keyBuf, dif_pos hy])) x,
    fun x => piece_score a3 ha3 a4 ha4 x0 x1 (keyBuf xs0 x0 x2) 2 1 (o := 128) (o' := 256) rfl rfl (by decide) _ _ _ _ (load_band a8 _ _ (piecesK3_B c a3 ha3 a5 ha5 x0 x2 xs0) 2 rfl (by decide) rfl _ (fun _ => .inr fun y hy => by rw [ha8.read_unread, keyBuf, dif_pos hy])) x,
    fun x => piece_score a3 ha3 a4 ha4 x0 x1 (keyBuf xs0 x0 x2) 2 0 (o := 0) (o' := 256) rfl rfl (by decide) _ _ _ _ (load_band a8 _ _ (piecesK3_B c a3 ha3 a5 ha5 x0 x2 xs0) 2 rfl (by decide) rfl _ (fun _ => .inr fun y hy => by rw [ha8.read_unread, keyBuf, dif_pos hy])) x, piecesS2_B c a3 ha3 a4 ha4 a5 ha5 a8 ha8 x0 x1 x2 xs0⟩

/-- The score stores of the first 4 heads. -/
theorem piecesS4_B : View.PiecesOf (scoreBuf x0 x1 (keyBuf xs0 x0 x2)) (sl.HS2_32 (F := Ideal) c a3 ha3 a4 ha4 a5 ha5 a8 ha8 x0 x1 x2 xs0) := by
  unfold sl.HS2_32
  exact ⟨fun x => piece_score a3 ha3 a4 ha4 x0 x1 (keyBuf xs0 x0 x2) 3 7 (o := 896) (o' := 384) rfl rfl (by decide) _ _ _ _ (load_band a8 _ _ (piecesK4_B c a3 ha3 a5 ha5 x0 x2 xs0) 3 rfl (by decide) rfl _ (fun h => absurd h (by decide))) x,
    fun x => piece_score a3 ha3 a4 ha4 x0 x1 (keyBuf xs0 x0 x2) 3 6 (o := 768) (o' := 384) rfl rfl (by decide) _ _ _ _ (load_band a8 _ _ (piecesK4_B c a3 ha3 a5 ha5 x0 x2 xs0) 3 rfl (by decide) rfl _ (fun h => absurd h (by decide))) x,
    fun x => piece_score a3 ha3 a4 ha4 x0 x1 (keyBuf xs0 x0 x2) 3 5 (o := 640) (o' := 384) rfl rfl (by decide) _ _ _ _ (load_band a8 _ _ (piecesK4_B c a3 ha3 a5 ha5 x0 x2 xs0) 3 rfl (by decide) rfl _ (fun h => absurd h (by decide))) x,
    fun x => piece_score a3 ha3 a4 ha4 x0 x1 (keyBuf xs0 x0 x2) 3 4 (o := 512) (o' := 384) rfl rfl (by decide) _ _ _ _ (load_band a8 _ _ (piecesK4_B c a3 ha3 a5 ha5 x0 x2 xs0) 3 rfl (by decide) rfl _ (fun h => absurd h (by decide))) x,
    fun x => piece_score a3 ha3 a4 ha4 x0 x1 (keyBuf xs0 x0 x2) 3 3 (o := 384) (o' := 384) rfl rfl (by decide) _ _ _ _ (load_band a8 _ _ (piecesK4_B c a3 ha3 a5 ha5 x0 x2 xs0) 3 rfl (by decide) rfl _ (fun _ => .inr fun y hy => by rw [ha8.read_unread, keyBuf, dif_pos hy])) x,
    fun x => piece_score a3 ha3 a4 ha4 x0 x1 (keyBuf xs0 x0 x2) 3 2 (o := 256) (o' := 384) rfl rfl (by decide) _ _ _ _ (load_band a8 _ _ (piecesK4_B c a3 ha3 a5 ha5 x0 x2 xs0) 3 rfl (by decide) rfl _ (fun _ => .inr fun y hy => by rw [ha8.read_unread, keyBuf, dif_pos hy])) x,
    fun x => piece_score a3 ha3 a4 ha4 x0 x1 (keyBuf xs0 x0 x2) 3 1 (o := 128) (o' := 384) rfl rfl (by decide) _ _ _ _ (load_band a8 _ _ (piecesK4_B c a3 ha3 a5 ha5 x0 x2 xs0) 3 rfl (by decide) rfl _ (fun _ => .inr fun y hy => by rw [ha8.read_unread, keyBuf, dif_pos hy])) x,
    fun x => piece_score a3 ha3 a4 ha4 x0 x1 (keyBuf xs0 x0 x2) 3 0 (o := 0) (o' := 384) rfl rfl (by decide) _ _ _ _ (load_band a8 _ _ (piecesK4_B c a3 ha3 a5 ha5 x0 x2 xs0) 3 rfl (by decide) rfl _ (fun _ => .inr fun y hy => by rw [ha8.read_unread, keyBuf, dif_pos hy])) x, piecesS3_B c a3 ha3 a4 ha4 a5 ha5 a8 ha8 x0 x1 x2 xs0⟩

set_option maxHeartbeats 4000000 in
/-- **A grid point after the first of its sequence** leaves the band attention of its block, over the keys and values that the point before left. -/
theorem out_B (hc0 : ¬cond0_0 i) (hc1 : cond0_1 i) :
    out0_B_4 (F := Ideal) c i a3 ha3 a4 ha4 a5 ha5 a6 ha6 a7 ha7 a8 ha8 a9 ha9 a10 ha10 hc0 hc1 x0 x1 x2 x3 xs0 xs1
      = outBlk x0 x3 (scoreBuf x0 x1 (keyBuf xs0 x0 x2)) (valBuf xs1 x0) (fun _ _ => 0) := by
  funext y
  unfold out0_B_4
  rw [View.read_writes_junk_eq_canon]
  have hc := cover0_B_4 (F := Ideal) c i a3 ha3 a4 ha4 a5 ha5 a6 ha6 a7 ha7 a8 ha8 a9 ha9 a10 ha10 hc0 hc1 x0 x1 x2 x3 xs0 xs1 y
  refine View.canon_apply_of_pieces _ _ (View.PiecesOf.mem ?_) y hc
  clear hc
  have hL := piecesV_B c a3 ha3 x0 xs1
  have hS1 := piecesS1_B c a3 ha3 a4 ha4 a5 ha5 a8 ha8 x0 x1 x2 xs0
  have hS2 := piecesS2_B c a3 ha3 a4 ha4 a5 ha5 a8 ha8 x0 x1 x2 xs0
  have hS3 := piecesS3_B c a3 ha3 a4 ha4 a5 ha5 a8 ha8 x0 x1 x2 xs0
  have hS4 := piecesS4_B c a3 ha3 a4 ha4 a5 ha5 a8 ha8 x0 x1 x2 xs0
  set V : FVec Ideal S1536x512 .bf16 := valBuf xs1 x0 with hVdef
  set S : FVec Ideal S4x1024x640 .f32 := scoreBuf x0 x1 (keyBuf xs0 x0 x2)
  have hV : ∀ {lo : ℕ}, lo < 512 → holdsBox ![0, 0] ![512, 512] (sl.HS1_1 (F := Ideal) c a3 ha3 x0) = true ∨
      ∀ i : S1536x512.Idx, (i 0).val < 512 → a9.view.read (Elt Ideal) (ha9.unread xs1) i = V i :=
    fun _ => .inr fun y hy => by rw [ha9.read_unread, hVdef, valBuf, dif_pos hy]
  unfold kernelRun0_B
  dsimp only
  exact ⟨fun x => piece_out a3 ha3 x0 x3 V S (fun _ _ => 0) 3 15 (o := 960) (o' := 384) (o'' := 1920) rfl rfl rfl (by decide) (by decide) _
      (logit_plain a6 ha6 x3 S 3 15 (o := 960) (b := 1) rfl rfl (by decide) _ (load_score a10 S hS4 3 15 (o := 960) rfl (by decide) (by sl_kernel_rfl)) (fun _ _ => 0) fun _ _ => rfl) _
      (load_band a9 V a9.view.junk hL 3 (by sl_kernel_rfl) (lo := 896) (o := 384) (by decide) rfl (by decide) (fun h => absurd h (by decide))) x,
    fun x => piece_out a3 ha3 x0 x3 V S (fun _ _ => 0) 3 14 (o := 896) (o' := 384) (o'' := 1920) rfl rfl rfl (by decide) (by decide) _
      (logit_plain a6 ha6 x3 S 3 14 (o := 896) (b := 0) rfl rfl (by decide) _ (load_score a10 S hS4 3 14 (o := 896) rfl (by decide) (by sl_kernel_rfl)) (fun _ _ => 0) fun _ _ => rfl) _
      (load_band a9 V a9.view.junk hL 3 (by sl_kernel_rfl) (lo := 896) (o := 384) (by decide) rfl (by decide) (fun h => absurd h (by decide))) x,
    fun x => piece_out a3 ha3 x0 x3 V S (fun _ _ => 0) 3 13 (o := 832) (o' := 384) (o'' := 1920) rfl rfl rfl (by decide) (by decide) _
      (logit_plain a6 ha6 x3 S 3 13 (o := 832) (b := 1) rfl rfl (by decide) _ (load_score a10 S hS4 3 13 (o := 832) rfl (by decide) (by sl_kernel_rfl)) (fun _ _ => 0) fun _ _ => rfl) _
      (load_band a9 V a9.view.junk hL 3 (by sl_kernel_rfl) (lo := 768) (o := 384) (by decide) rfl (by decide) (fun h => absurd h (by decide))) x,
    fun x => piece_out a3 ha3 x0 x3 V S (fun _ _ => 0) 3 12 (o := 768) (o' := 384) (o'' := 1920) rfl rfl rfl (by decide) (by decide) _
      (logit_plain a6 ha6 x3 S 3 12 (o := 768) (b := 0) rfl rfl (by decide) _ (load_score a10 S hS4 3 12 (o := 768) rfl (by decide) (by sl_kernel_rfl)) (fun _ _ => 0) fun _ _ => rfl) _
      (load_band a9 V a9.view.junk hL 3 (by sl_kernel_rfl) (lo := 768) (o := 384) (by decide) rfl (by decide) (fun h => absurd h (by decide))) x,
    fun x => piece_out a3 ha3 x0 x3 V S (fun _ _ => 0) 3 11 (o := 704) (o' := 384) (o'' := 1920) rfl rfl rfl (by decide) (by decide) _
      (logit_plain a6 ha6 x3 S 3 11 (o := 704) (b := 1) rfl rfl (by decide) _ (load_score a10 S hS4 3 11 (o := 704) rfl (by decide) (by sl_kernel_rfl)) (fun _ _ => 0) fun _ _ => rfl) _
      (load_band a9 V a9.view.junk hL 3 (by sl_kernel_rfl) (lo := 640) (o := 384) (by decide) rfl (by decide) (fun h => absurd h (by decide))) x,
    fun x => piece_out a3 ha3 x0 x3 V S (fun _ _ => 0) 3 10 (o := 640) (o' := 384) (o'' := 1920) rfl rfl rfl (by decide) (by decide) _
      (logit_plain a6 ha6 x3 S 3 10 (o := 640) (b := 0) rfl rfl (by decide) _ (load_score a10 S hS4 3 10 (o := 640) rfl (by decide) (by sl_kernel_rfl)) (fun _ _ => 0) fun _ _ => rfl) _
      (load_band a9 V a9.view.junk hL 3 (by sl_kernel_rfl) (lo := 640) (o := 384) (by decide) rfl (by decide) (fun h => absurd h (by decide))) x,
    fun x => piece_out a3 ha3 x0 x3 V S (fun _ _ => 0) 3 9 (o := 576) (o' := 384) (o'' := 1920) rfl rfl rfl (by decide) (by decide) _
      (logit_plain a6 ha6 x3 S 3 9 (o := 576) (b := 1) rfl rfl (by decide) _ (load_score a10 S hS4 3 9 (o := 576) rfl (by decide) (by sl_kernel_rfl)) (fun _ _ => 0) fun _ _ => rfl) _
      (load_band a9 V a9.view.junk hL 3 (by sl_kernel_rfl) (lo := 512) (o := 384) (by decide) rfl (by decide) (fun h => absurd h (by decide))) x,
    fun x => piece_out a3 ha3 x0 x3 V S (fun _ _ => 0) 3 8 (o := 512) (o' := 384) (o'' := 1920) rfl rfl rfl (by decide) (by decide) _
      (logit_plain a6 ha6 x3 S 3 8 (o := 512) (b := 0) rfl rfl (by decide) _ (load_score a10 S hS4 3 8 (o := 512) rfl (by decide) (by sl_kernel_rfl)) (fun _ _ => 0) fun _ _ => rfl) _
      (load_band a9 V a9.view.junk hL 3 (by sl_kernel_rfl) (lo := 512) (o := 384) (by decide) rfl (by decide) (fun h => absurd h (by decide))) x,
    fun x => piece_out a3 ha3 x0 x3 V S (fun _ _ => 0) 3 7 (o := 448) (o' := 384) (o'' := 1920) rfl rfl rfl (by decide) (by decide) _
      (logit_plain a6 ha6 x3 S 3 7 (o := 448) (b := 1) rfl rfl (by decide) _ (load_score a10 S hS4 3 7 (o := 448) rfl (by decide) (by sl_kernel_rfl)) (fun _ _ => 0) fun _ _ => rfl) _
      (load_band a9 V (ha9.unread xs1) hL 3 (by sl_kernel_rfl) (lo := 384) (o := 384) (by decide) rfl (by decide) (hV)) x,
    fun x => piece_out a3 ha3 x0 x3 V S (fun _ _ => 0) 3 6 (o := 384) (o' := 384) (o'' := 1920) rfl rfl rfl (by decide) (by decide) _
      (logit_plain a6 ha6 x3 S 3 6 (o := 384) (b := 0) rfl rfl (by decide) _ (load_score a10 S hS4 3 6 (o := 384) rfl (by decide) (by sl_kernel_rfl)) (fun _ _ => 0) fun _ _ => rfl) _
      (load_band a9 V (ha9.unread xs1) hL 3 (by sl_kernel_rfl) (lo := 384) (o := 384) (by decide) rfl (by decide) (hV)) x,
    fun x => piece_out a3 ha3 x0 x3 V S (fun _ _ => 0) 3 5 (o := 320) (o' := 384) (o'' := 1920) rfl rfl rfl (by decide) (by decide) _
      (logit_plain a6 ha6 x3 S 3 5 (o := 320) (b := 1) rfl rfl (by decide) _ (load_score a10 S hS4 3 5 (o := 320) rfl (by decide) (by sl_kernel_rfl)) (fun _ _ => 0) fun _ _ => rfl) _
      (load_band a9 V (ha9.unread xs1) hL 3 (by sl_kernel_rfl) (lo := 256) (o := 384) (by decide) rfl (by decide) (hV)) x,
    fun x => piece_out a3 ha3 x0 x3 V S (fun _ _ => 0) 3 4 (o := 256) (o' := 384) (o'' := 1920) rfl rfl rfl (by decide) (by decide) _
      (logit_plain a6 ha6 x3 S 3 4 (o := 256) (b := 0) rfl rfl (by decide) _ (load_score a10 S hS4 3 4 (o := 256) rfl (by decide) (by sl_kernel_rfl)) (fun _ _ => 0) fun _ _ => rfl) _
      (load_band a9 V (ha9.unread xs1) hL 3 (by sl_kernel_rfl) (lo := 256) (o := 384) (by decide) rfl (by decide) (hV)) x,
    fun x => piece_out a3 ha3 x0 x3 V S (fun _ _ => 0) 3 3 (o := 192) (o' := 384) (o'' := 1920) rfl rfl rfl (by decide) (by decide) _
      (logit_plain a6 ha6 x3 S 3 3 (o := 192) (b := 1) rfl rfl (by decide) _ (load_score a10 S hS4 3 3 (o := 192) rfl (by decide) (by sl_kernel_rfl)) (fun _ _ => 0) fun _ _ => rfl) _
      (load_band a9 V (ha9.unread xs1) hL 3 (by sl_kernel_rfl) (lo := 128) (o := 384) (by decide) rfl (by decide) (hV)) x,
    fun x => piece_out a3 ha3 x0 x3 V S (fun _ _ => 0) 3 2 (o := 128) (o' := 384) (o'' := 1920) rfl rfl rfl (by decide) (by decide) _
      (logit_plain a6 ha6 x3 S 3 2 (o := 128) (b := 0) rfl rfl (by decide) _ (load_score a10 S hS4 3 2 (o := 128) rfl (by decide) (by sl_kernel_rfl)) (fun _ _ => 0) fun _ _ => rfl) _
      (load_band a9 V (ha9.unread xs1) hL 3 (by sl_kernel_rfl) (lo := 128) (o := 384) (by decide) rfl (by decide) (hV)) x,
    fun x => piece_out a3 ha3 x0 x3 V S (fun _ _ => 0) 3 1 (o := 64) (o' := 384) (o'' := 1920) rfl rfl rfl (by decide) (by decide) _
      (logit_plain a6 ha6 x3 S 3 1 (o := 64) (b := 1) rfl rfl (by decide) _ (load_score a10 S hS4 3 1 (o := 64) rfl (by decide) (by sl_kernel_rfl)) (fun _ _ => 0) fun _ _ => rfl) _
      (load_band a9 V (ha9.unread xs1) hL 3 (by sl_kernel_rfl) (lo := 0) (o := 384) (by decide) rfl (by decide) (hV)) x,
    fun x => piece_out a3 ha3 x0 x3 V S (fun _ _ => 0) 3 0 (o := 0) (o' := 384) (o'' := 1920) rfl rfl rfl (by decide) (by decide) _
      (logit_plain a6 ha6 x3 S 3 0 (o := 0) (b := 0) rfl rfl (by decide) _ (load_score a10 S hS4 3 0 (o := 0) rfl (by decide) (by sl_kernel_rfl)) (fun _ _ => 0) fun _ _ => rfl) _
      (load_band a9 V (ha9.unread xs1) hL 3 (by sl_kernel_rfl) (lo := 0) (o := 384) (by decide) rfl (by decide) (hV)) x,
    fun x => piece_out a3 ha3 x0 x3 V S (fun _ _ => 0) 2 15 (o := 960) (o' := 256) (o'' := 1792) rfl rfl rfl (by decide) (by decide) _
      (logit_plain a6 ha6 x3 S 2 15 (o := 960) (b := 1) rfl rfl (by decide) _ (load_score a10 S hS3 2 15 (o := 960) rfl (by decide) (by sl_kernel_rfl)) (fun _ _ => 0) fun _ _ => rfl) _
      (load_band a9 V a9.view.junk hL 2 (by sl_kernel_rfl) (lo := 896) (o := 256) (by decide) rfl (by decide) (fun h => absurd h (by decide))) x,
    fun x => piece_out a3 ha3 x0 x3 V S (fun _ _ => 0) 2 14 (o := 896) (o' := 256) (o'' := 1792) rfl rfl rfl (by decide) (by decide) _
      (logit_plain a6 ha6 x3 S 2 14 (o := 896) (b := 0) rfl rfl (by decide) _ (load_score a10 S hS3 2 14 (o := 896) rfl (by decide) (by sl_kernel_rfl)) (fun _ _ => 0) fun _ _ => rfl) _
      (load_band a9 V a9.view.junk hL 2 (by sl_kernel_rfl) (lo := 896) (o := 256) (by decide) rfl (by decide) (fun h => absurd h (by decide))) x,
    fun x => piece_out a3 ha3 x0 x3 V S (fun _ _ => 0) 2 13 (o := 832) (o' := 256) (o'' := 1792) rfl rfl rfl (by decide) (by decide) _
      (logit_plain a6 ha6 x3 S 2 13 (o := 832) (b := 1) rfl rfl (by decide) _ (load_score a10 S hS3 2 13 (o := 832) rfl (by decide) (by sl_kernel_rfl)) (fun _ _ => 0) fun _ _ => rfl) _
      (load_band a9 V a9.view.junk hL 2 (by sl_kernel_rfl) (lo := 768) (o := 256) (by decide) rfl (by decide) (fun h => absurd h (by decide))) x,
    fun x => piece_out a3 ha3 x0 x3 V S (fun _ _ => 0) 2 12 (o := 768) (o' := 256) (o'' := 1792) rfl rfl rfl (by decide) (by decide) _
      (logit_plain a6 ha6 x3 S 2 12 (o := 768) (b := 0) rfl rfl (by decide) _ (load_score a10 S hS3 2 12 (o := 768) rfl (by decide) (by sl_kernel_rfl)) (fun _ _ => 0) fun _ _ => rfl) _
      (load_band a9 V a9.view.junk hL 2 (by sl_kernel_rfl) (lo := 768) (o := 256) (by decide) rfl (by decide) (fun h => absurd h (by decide))) x,
    fun x => piece_out a3 ha3 x0 x3 V S (fun _ _ => 0) 2 11 (o := 704) (o' := 256) (o'' := 1792) rfl rfl rfl (by decide) (by decide) _
      (logit_plain a6 ha6 x3 S 2 11 (o := 704) (b := 1) rfl rfl (by decide) _ (load_score a10 S hS3 2 11 (o := 704) rfl (by decide) (by sl_kernel_rfl)) (fun _ _ => 0) fun _ _ => rfl) _
      (load_band a9 V a9.view.junk hL 2 (by sl_kernel_rfl) (lo := 640) (o := 256) (by decide) rfl (by decide) (fun h => absurd h (by decide))) x,
    fun x => piece_out a3 ha3 x0 x3 V S (fun _ _ => 0) 2 10 (o := 640) (o' := 256) (o'' := 1792) rfl rfl rfl (by decide) (by decide) _
      (logit_plain a6 ha6 x3 S 2 10 (o := 640) (b := 0) rfl rfl (by decide) _ (load_score a10 S hS3 2 10 (o := 640) rfl (by decide) (by sl_kernel_rfl)) (fun _ _ => 0) fun _ _ => rfl) _
      (load_band a9 V a9.view.junk hL 2 (by sl_kernel_rfl) (lo := 640) (o := 256) (by decide) rfl (by decide) (fun h => absurd h (by decide))) x,
    fun x => piece_out a3 ha3 x0 x3 V S (fun _ _ => 0) 2 9 (o := 576) (o' := 256) (o'' := 1792) rfl rfl rfl (by decide) (by decide) _
      (logit_plain a6 ha6 x3 S 2 9 (o := 576) (b := 1) rfl rfl (by decide) _ (load_score a10 S hS3 2 9 (o := 576) rfl (by decide) (by sl_kernel_rfl)) (fun _ _ => 0) fun _ _ => rfl) _
      (load_band a9 V a9.view.junk hL 2 (by sl_kernel_rfl) (lo := 512) (o := 256) (by decide) rfl (by decide) (fun h => absurd h (by decide))) x,
    fun x => piece_out a3 ha3 x0 x3 V S (fun _ _ => 0) 2 8 (o := 512) (o' := 256) (o'' := 1792) rfl rfl rfl (by decide) (by decide) _
      (logit_plain a6 ha6 x3 S 2 8 (o := 512) (b := 0) rfl rfl (by decide) _ (load_score a10 S hS3 2 8 (o := 512) rfl (by decide) (by sl_kernel_rfl)) (fun _ _ => 0) fun _ _ => rfl) _
      (load_band a9 V a9.view.junk hL 2 (by sl_kernel_rfl) (lo := 512) (o := 256) (by decide) rfl (by decide) (fun h => absurd h (by decide))) x,
    fun x => piece_out a3 ha3 x0 x3 V S (fun _ _ => 0) 2 7 (o := 448) (o' := 256) (o'' := 1792) rfl rfl rfl (by decide) (by decide) _
      (logit_plain a6 ha6 x3 S 2 7 (o := 448) (b := 1) rfl rfl (by decide) _ (load_score a10 S hS3 2 7 (o := 448) rfl (by decide) (by sl_kernel_rfl)) (fun _ _ => 0) fun _ _ => rfl) _
      (load_band a9 V (ha9.unread xs1) hL 2 (by sl_kernel_rfl) (lo := 384) (o := 256) (by decide) rfl (by decide) (hV)) x,
    fun x => piece_out a3 ha3 x0 x3 V S (fun _ _ => 0) 2 6 (o := 384) (o' := 256) (o'' := 1792) rfl rfl rfl (by decide) (by decide) _
      (logit_plain a6 ha6 x3 S 2 6 (o := 384) (b := 0) rfl rfl (by decide) _ (load_score a10 S hS3 2 6 (o := 384) rfl (by decide) (by sl_kernel_rfl)) (fun _ _ => 0) fun _ _ => rfl) _
      (load_band a9 V (ha9.unread xs1) hL 2 (by sl_kernel_rfl) (lo := 384) (o := 256) (by decide) rfl (by decide) (hV)) x,
    fun x => piece_out a3 ha3 x0 x3 V S (fun _ _ => 0) 2 5 (o := 320) (o' := 256) (o'' := 1792) rfl rfl rfl (by decide) (by decide) _
      (logit_plain a6 ha6 x3 S 2 5 (o := 320) (b := 1) rfl rfl (by decide) _ (load_score a10 S hS3 2 5 (o := 320) rfl (by decide) (by sl_kernel_rfl)) (fun _ _ => 0) fun _ _ => rfl) _
      (load_band a9 V (ha9.unread xs1) hL 2 (by sl_kernel_rfl) (lo := 256) (o := 256) (by decide) rfl (by decide) (hV)) x,
    fun x => piece_out a3 ha3 x0 x3 V S (fun _ _ => 0) 2 4 (o := 256) (o' := 256) (o'' := 1792) rfl rfl rfl (by decide) (by decide) _
      (logit_plain a6 ha6 x3 S 2 4 (o := 256) (b := 0) rfl rfl (by decide) _ (load_score a10 S hS3 2 4 (o := 256) rfl (by decide) (by sl_kernel_rfl)) (fun _ _ => 0) fun _ _ => rfl) _
      (load_band a9 V (ha9.unread xs1) hL 2 (by sl_kernel_rfl) (lo := 256) (o := 256) (by decide) rfl (by decide) (hV)) x,
    fun x => piece_out a3 ha3 x0 x3 V S (fun _ _ => 0) 2 3 (o := 192) (o' := 256) (o'' := 1792) rfl rfl rfl (by decide) (by decide) _
      (logit_plain a6 ha6 x3 S 2 3 (o := 192) (b := 1) rfl rfl (by decide) _ (load_score a10 S hS3 2 3 (o := 192) rfl (by decide) (by sl_kernel_rfl)) (fun _ _ => 0) fun _ _ => rfl) _
      (load_band a9 V (ha9.unread xs1) hL 2 (by sl_kernel_rfl) (lo := 128) (o := 256) (by decide) rfl (by decide) (hV)) x,
    fun x => piece_out a3 ha3 x0 x3 V S (fun _ _ => 0) 2 2 (o := 128) (o' := 256) (o'' := 1792) rfl rfl rfl (by decide) (by decide) _
      (logit_plain a6 ha6 x3 S 2 2 (o := 128) (b := 0) rfl rfl (by decide) _ (load_score a10 S hS3 2 2 (o := 128) rfl (by decide) (by sl_kernel_rfl)) (fun _ _ => 0) fun _ _ => rfl) _
      (load_band a9 V (ha9.unread xs1) hL 2 (by sl_kernel_rfl) (lo := 128) (o := 256) (by decide) rfl (by decide) (hV)) x,
    fun x => piece_out a3 ha3 x0 x3 V S (fun _ _ => 0) 2 1 (o := 64) (o' := 256) (o'' := 1792) rfl rfl rfl (by decide) (by decide) _
      (logit_plain a6 ha6 x3 S 2 1 (o := 64) (b := 1) rfl rfl (by decide) _ (load_score a10 S hS3 2 1 (o := 64) rfl (by decide) (by sl_kernel_rfl)) (fun _ _ => 0) fun _ _ => rfl) _
      (load_band a9 V (ha9.unread xs1) hL 2 (by sl_kernel_rfl) (lo := 0) (o := 256) (by decide) rfl (by decide) (hV)) x,
    fun x => piece_out a3 ha3 x0 x3 V S (fun _ _ => 0) 2 0 (o := 0) (o' := 256) (o'' := 1792) rfl rfl rfl (by decide) (by decide) _
      (logit_plain a6 ha6 x3 S 2 0 (o := 0) (b := 0) rfl rfl (by decide) _ (load_score a10 S hS3 2 0 (o := 0) rfl (by decide) (by sl_kernel_rfl)) (fun _ _ => 0) fun _ _ => rfl) _
      (load_band a9 V (ha9.unread xs1) hL 2 (by sl_kernel_rfl) (lo := 0) (o := 256) (by decide) rfl (by decide) (hV)) x,
    fun x => piece_out a3 ha3 x0 x3 V S (fun _ _ => 0) 1 15 (o := 960) (o' := 128) (o'' := 1664) rfl rfl rfl (by decide) (by decide) _
      (logit_plain a6 ha6 x3 S 1 15 (o := 960) (b := 1) rfl rfl (by decide) _ (load_score a10 S hS2 1 15 (o := 960) rfl (by decide) (by sl_kernel_rfl)) (fun _ _ => 0) fun _ _ => rfl) _
      (load_band a9 V a9.view.junk hL 1 (by sl_kernel_rfl) (lo := 896) (o := 128) (by decide) rfl (by decide) (fun h => absurd h (by decide))) x,
    fun x => piece_out a3 ha3 x0 x3 V S (fun _ _ => 0) 1 14 (o := 896) (o' := 128) (o'' := 1664) rfl rfl rfl (by decide) (by decide) _
      (logit_plain a6 ha6 x3 S 1 14 (o := 896) (b := 0) rfl rfl (by decide) _ (load_score a10 S hS2 1 14 (o := 896) rfl (by decide) (by sl_kernel_rfl)) (fun _ _ => 0) fun _ _ => rfl) _
      (load_band a9 V a9.view.junk hL 1 (by sl_kernel_rfl) (lo := 896) (o := 128) (by decide) rfl (by decide) (fun h => absurd h (by decide))) x,
    fun x => piece_out a3 ha3 x0 x3 V S (fun _ _ => 0) 1 13 (o := 832) (o' := 128) (o'' := 1664) rfl rfl rfl (by decide) (by decide) _
      (logit_plain a6 ha6 x3 S 1 13 (o := 832) (b := 1) rfl rfl (by decide) _ (load_score a10 S hS2 1 13 (o := 832) rfl (by decide) (by sl_kernel_rfl)) (fun _ _ => 0) fun _ _ => rfl) _
      (load_band a9 V a9.view.junk hL 1 (by sl_kernel_rfl) (lo := 768) (o := 128) (by decide) rfl (by decide) (fun h => absurd h (by decide))) x,
    fun x => piece_out a3 ha3 x0 x3 V S (fun _ _ => 0) 1 12 (o := 768) (o' := 128) (o'' := 1664) rfl rfl rfl (by decide) (by decide) _
      (logit_plain a6 ha6 x3 S 1 12 (o := 768) (b := 0) rfl rfl (by decide) _ (load_score a10 S hS2 1 12 (o := 768) rfl (by decide) (by sl_kernel_rfl)) (fun _ _ => 0) fun _ _ => rfl) _
      (load_band a9 V a9.view.junk hL 1 (by sl_kernel_rfl) (lo := 768) (o := 128) (by decide) rfl (by decide) (fun h => absurd h (by decide))) x,
    fun x => piece_out a3 ha3 x0 x3 V S (fun _ _ => 0) 1 11 (o := 704) (o' := 128) (o'' := 1664) rfl rfl rfl (by decide) (by decide) _
      (logit_plain a6 ha6 x3 S 1 11 (o := 704) (b := 1) rfl rfl (by decide) _ (load_score a10 S hS2 1 11 (o := 704) rfl (by decide) (by sl_kernel_rfl)) (fun _ _ => 0) fun _ _ => rfl) _
      (load_band a9 V a9.view.junk hL 1 (by sl_kernel_rfl) (lo := 640) (o := 128) (by decide) rfl (by decide) (fun h => absurd h (by decide))) x,
    fun x => piece_out a3 ha3 x0 x3 V S (fun _ _ => 0) 1 10 (o := 640) (o' := 128) (o'' := 1664) rfl rfl rfl (by decide) (by decide) _
      (logit_plain a6 ha6 x3 S 1 10 (o := 640) (b := 0) rfl rfl (by decide) _ (load_score a10 S hS2 1 10 (o := 640) rfl (by decide) (by sl_kernel_rfl)) (fun _ _ => 0) fun _ _ => rfl) _
      (load_band a9 V a9.view.junk hL 1 (by sl_kernel_rfl) (lo := 640) (o := 128) (by decide) rfl (by decide) (fun h => absurd h (by decide))) x,
    fun x => piece_out a3 ha3 x0 x3 V S (fun _ _ => 0) 1 9 (o := 576) (o' := 128) (o'' := 1664) rfl rfl rfl (by decide) (by decide) _
      (logit_plain a6 ha6 x3 S 1 9 (o := 576) (b := 1) rfl rfl (by decide) _ (load_score a10 S hS2 1 9 (o := 576) rfl (by decide) (by sl_kernel_rfl)) (fun _ _ => 0) fun _ _ => rfl) _
      (load_band a9 V a9.view.junk hL 1 (by sl_kernel_rfl) (lo := 512) (o := 128) (by decide) rfl (by decide) (fun h => absurd h (by decide))) x,
    fun x => piece_out a3 ha3 x0 x3 V S (fun _ _ => 0) 1 8 (o := 512) (o' := 128) (o'' := 1664) rfl rfl rfl (by decide) (by decide) _
      (logit_plain a6 ha6 x3 S 1 8 (o := 512) (b := 0) rfl rfl (by decide) _ (load_score a10 S hS2 1 8 (o := 512) rfl (by decide) (by sl_kernel_rfl)) (fun _ _ => 0) fun _ _ => rfl) _
      (load_band a9 V a9.view.junk hL 1 (by sl_kernel_rfl) (lo := 512) (o := 128) (by decide) rfl (by decide) (fun h => absurd h (by decide))) x,
    fun x => piece_out a3 ha3 x0 x3 V S (fun _ _ => 0) 1 7 (o := 448) (o' := 128) (o'' := 1664) rfl rfl rfl (by decide) (by decide) _
      (logit_plain a6 ha6 x3 S 1 7 (o := 448) (b := 1) rfl rfl (by decide) _ (load_score a10 S hS2 1 7 (o := 448) rfl (by decide) (by sl_kernel_rfl)) (fun _ _ => 0) fun _ _ => rfl) _
      (load_band a9 V (ha9.unread xs1) hL 1 (by sl_kernel_rfl) (lo := 384) (o := 128) (by decide) rfl (by decide) (hV)) x,
    fun x => piece_out a3 ha3 x0 x3 V S (fun _ _ => 0) 1 6 (o := 384) (o' := 128) (o'' := 1664) rfl rfl rfl (by decide) (by decide) _
      (logit_plain a6 ha6 x3 S 1 6 (o := 384) (b := 0) rfl rfl (by decide) _ (load_score a10 S hS2 1 6 (o := 384) rfl (by decide) (by sl_kernel_rfl)) (fun _ _ => 0) fun _ _ => rfl) _
      (load_band a9 V (ha9.unread xs1) hL 1 (by sl_kernel_rfl) (lo := 384) (o := 128) (by decide) rfl (by decide) (hV)) x,
    fun x => piece_out a3 ha3 x0 x3 V S (fun _ _ => 0) 1 5 (o := 320) (o' := 128) (o'' := 1664) rfl rfl rfl (by decide) (by decide) _
      (logit_plain a6 ha6 x3 S 1 5 (o := 320) (b := 1) rfl rfl (by decide) _ (load_score a10 S hS2 1 5 (o := 320) rfl (by decide) (by sl_kernel_rfl)) (fun _ _ => 0) fun _ _ => rfl) _
      (load_band a9 V (ha9.unread xs1) hL 1 (by sl_kernel_rfl) (lo := 256) (o := 128) (by decide) rfl (by decide) (hV)) x,
    fun x => piece_out a3 ha3 x0 x3 V S (fun _ _ => 0) 1 4 (o := 256) (o' := 128) (o'' := 1664) rfl rfl rfl (by decide) (by decide) _
      (logit_plain a6 ha6 x3 S 1 4 (o := 256) (b := 0) rfl rfl (by decide) _ (load_score a10 S hS2 1 4 (o := 256) rfl (by decide) (by sl_kernel_rfl)) (fun _ _ => 0) fun _ _ => rfl) _
      (load_band a9 V (ha9.unread xs1) hL 1 (by sl_kernel_rfl) (lo := 256) (o := 128) (by decide) rfl (by decide) (hV)) x,
    fun x => piece_out a3 ha3 x0 x3 V S (fun _ _ => 0) 1 3 (o := 192) (o' := 128) (o'' := 1664) rfl rfl rfl (by decide) (by decide) _
      (logit_plain a6 ha6 x3 S 1 3 (o := 192) (b := 1) rfl rfl (by decide) _ (load_score a10 S hS2 1 3 (o := 192) rfl (by decide) (by sl_kernel_rfl)) (fun _ _ => 0) fun _ _ => rfl) _
      (load_band a9 V (ha9.unread xs1) hL 1 (by sl_kernel_rfl) (lo := 128) (o := 128) (by decide) rfl (by decide) (hV)) x,
    fun x => piece_out a3 ha3 x0 x3 V S (fun _ _ => 0) 1 2 (o := 128) (o' := 128) (o'' := 1664) rfl rfl rfl (by decide) (by decide) _
      (logit_plain a6 ha6 x3 S 1 2 (o := 128) (b := 0) rfl rfl (by decide) _ (load_score a10 S hS2 1 2 (o := 128) rfl (by decide) (by sl_kernel_rfl)) (fun _ _ => 0) fun _ _ => rfl) _
      (load_band a9 V (ha9.unread xs1) hL 1 (by sl_kernel_rfl) (lo := 128) (o := 128) (by decide) rfl (by decide) (hV)) x,
    fun x => piece_out a3 ha3 x0 x3 V S (fun _ _ => 0) 1 1 (o := 64) (o' := 128) (o'' := 1664) rfl rfl rfl (by decide) (by decide) _
      (logit_plain a6 ha6 x3 S 1 1 (o := 64) (b := 1) rfl rfl (by decide) _ (load_score a10 S hS2 1 1 (o := 64) rfl (by decide) (by sl_kernel_rfl)) (fun _ _ => 0) fun _ _ => rfl) _
      (load_band a9 V (ha9.unread xs1) hL 1 (by sl_kernel_rfl) (lo := 0) (o := 128) (by decide) rfl (by decide) (hV)) x,
    fun x => piece_out a3 ha3 x0 x3 V S (fun _ _ => 0) 1 0 (o := 0) (o' := 128) (o'' := 1664) rfl rfl rfl (by decide) (by decide) _
      (logit_plain a6 ha6 x3 S 1 0 (o := 0) (b := 0) rfl rfl (by decide) _ (load_score a10 S hS2 1 0 (o := 0) rfl (by decide) (by sl_kernel_rfl)) (fun _ _ => 0) fun _ _ => rfl) _
      (load_band a9 V (ha9.unread xs1) hL 1 (by sl_kernel_rfl) (lo := 0) (o := 128) (by decide) rfl (by decide) (hV)) x,
    fun x => piece_out a3 ha3 x0 x3 V S (fun _ _ => 0) 0 15 (o := 960) (o' := 0) (o'' := 1536) rfl rfl rfl (by decide) (by decide) _
      (logit_plain a6 ha6 x3 S 0 15 (o := 960) (b := 1) rfl rfl (by decide) _ (load_score a10 S hS1 0 15 (o := 960) rfl (by decide) (by sl_kernel_rfl)) (fun _ _ => 0) fun _ _ => rfl) _
      (load_band a9 V a9.view.junk hL 0 (by sl_kernel_rfl) (lo := 896) (o := 0) (by decide) rfl (by decide) (fun h => absurd h (by decide))) x,
    fun x => piece_out a3 ha3 x0 x3 V S (fun _ _ => 0) 0 14 (o := 896) (o' := 0) (o'' := 1536) rfl rfl rfl (by decide) (by decide) _
      (logit_plain a6 ha6 x3 S 0 14 (o := 896) (b := 0) rfl rfl (by decide) _ (load_score a10 S hS1 0 14 (o := 896) rfl (by decide) (by sl_kernel_rfl)) (fun _ _ => 0) fun _ _ => rfl) _
      (load_band a9 V a9.view.junk hL 0 (by sl_kernel_rfl) (lo := 896) (o := 0) (by decide) rfl (by decide) (fun h => absurd h (by decide))) x,
    fun x => piece_out a3 ha3 x0 x3 V S (fun _ _ => 0) 0 13 (o := 832) (o' := 0) (o'' := 1536) rfl rfl rfl (by decide) (by decide) _
      (logit_plain a6 ha6 x3 S 0 13 (o := 832) (b := 1) rfl rfl (by decide) _ (load_score a10 S hS1 0 13 (o := 832) rfl (by decide) (by sl_kernel_rfl)) (fun _ _ => 0) fun _ _ => rfl) _
      (load_band a9 V a9.view.junk hL 0 (by sl_kernel_rfl) (lo := 768) (o := 0) (by decide) rfl (by decide) (fun h => absurd h (by decide))) x,
    fun x => piece_out a3 ha3 x0 x3 V S (fun _ _ => 0) 0 12 (o := 768) (o' := 0) (o'' := 1536) rfl rfl rfl (by decide) (by decide) _
      (logit_plain a6 ha6 x3 S 0 12 (o := 768) (b := 0) rfl rfl (by decide) _ (load_score a10 S hS1 0 12 (o := 768) rfl (by decide) (by sl_kernel_rfl)) (fun _ _ => 0) fun _ _ => rfl) _
      (load_band a9 V a9.view.junk hL 0 (by sl_kernel_rfl) (lo := 768) (o := 0) (by decide) rfl (by decide) (fun h => absurd h (by decide))) x,
    fun x => piece_out a3 ha3 x0 x3 V S (fun _ _ => 0) 0 11 (o := 704) (o' := 0) (o'' := 1536) rfl rfl rfl (by decide) (by decide) _
      (logit_plain a6 ha6 x3 S 0 11 (o := 704) (b := 1) rfl rfl (by decide) _ (load_score a10 S hS1 0 11 (o := 704) rfl (by decide) (by sl_kernel_rfl)) (fun _ _ => 0) fun _ _ => rfl) _
      (load_band a9 V a9.view.junk hL 0 (by sl_kernel_rfl) (lo := 640) (o := 0) (by decide) rfl (by decide) (fun h => absurd h (by decide))) x,
    fun x => piece_out a3 ha3 x0 x3 V S (fun _ _ => 0) 0 10 (o := 640) (o' := 0) (o'' := 1536) rfl rfl rfl (by decide) (by decide) _
      (logit_plain a6 ha6 x3 S 0 10 (o := 640) (b := 0) rfl rfl (by decide) _ (load_score a10 S hS1 0 10 (o := 640) rfl (by decide) (by sl_kernel_rfl)) (fun _ _ => 0) fun _ _ => rfl) _
      (load_band a9 V a9.view.junk hL 0 (by sl_kernel_rfl) (lo := 640) (o := 0) (by decide) rfl (by decide) (fun h => absurd h (by decide))) x,
    fun x => piece_out a3 ha3 x0 x3 V S (fun _ _ => 0) 0 9 (o := 576) (o' := 0) (o'' := 1536) rfl rfl rfl (by decide) (by decide) _
      (logit_plain a6 ha6 x3 S 0 9 (o := 576) (b := 1) rfl rfl (by decide) _ (load_score a10 S hS1 0 9 (o := 576) rfl (by decide) (by sl_kernel_rfl)) (fun _ _ => 0) fun _ _ => rfl) _
      (load_band a9 V a9.view.junk hL 0 (by sl_kernel_rfl) (lo := 512) (o := 0) (by decide) rfl (by decide) (fun h => absurd h (by decide))) x,
    fun x => piece_out a3 ha3 x0 x3 V S (fun _ _ => 0) 0 8 (o := 512) (o' := 0) (o'' := 1536) rfl rfl rfl (by decide) (by decide) _
      (logit_plain a6 ha6 x3 S 0 8 (o := 512) (b := 0) rfl rfl (by decide) _ (load_score a10 S hS1 0 8 (o := 512) rfl (by decide) (by sl_kernel_rfl)) (fun _ _ => 0) fun _ _ => rfl) _
      (load_band a9 V a9.view.junk hL 0 (by sl_kernel_rfl) (lo := 512) (o := 0) (by decide) rfl (by decide) (fun h => absurd h (by decide))) x,
    fun x => piece_out a3 ha3 x0 x3 V S (fun _ _ => 0) 0 7 (o := 448) (o' := 0) (o'' := 1536) rfl rfl rfl (by decide) (by decide) _
      (logit_plain a6 ha6 x3 S 0 7 (o := 448) (b := 1) rfl rfl (by decide) _ (load_score a10 S hS1 0 7 (o := 448) rfl (by decide) (by sl_kernel_rfl)) (fun _ _ => 0) fun _ _ => rfl) _
      (load_band a9 V (ha9.unread xs1) hL 0 (by sl_kernel_rfl) (lo := 384) (o := 0) (by decide) rfl (by decide) (hV)) x,
    fun x => piece_out a3 ha3 x0 x3 V S (fun _ _ => 0) 0 6 (o := 384) (o' := 0) (o'' := 1536) rfl rfl rfl (by decide) (by decide) _
      (logit_plain a6 ha6 x3 S 0 6 (o := 384) (b := 0) rfl rfl (by decide) _ (load_score a10 S hS1 0 6 (o := 384) rfl (by decide) (by sl_kernel_rfl)) (fun _ _ => 0) fun _ _ => rfl) _
      (load_band a9 V (ha9.unread xs1) hL 0 (by sl_kernel_rfl) (lo := 384) (o := 0) (by decide) rfl (by decide) (hV)) x,
    fun x => piece_out a3 ha3 x0 x3 V S (fun _ _ => 0) 0 5 (o := 320) (o' := 0) (o'' := 1536) rfl rfl rfl (by decide) (by decide) _
      (logit_plain a6 ha6 x3 S 0 5 (o := 320) (b := 1) rfl rfl (by decide) _ (load_score a10 S hS1 0 5 (o := 320) rfl (by decide) (by sl_kernel_rfl)) (fun _ _ => 0) fun _ _ => rfl) _
      (load_band a9 V (ha9.unread xs1) hL 0 (by sl_kernel_rfl) (lo := 256) (o := 0) (by decide) rfl (by decide) (hV)) x,
    fun x => piece_out a3 ha3 x0 x3 V S (fun _ _ => 0) 0 4 (o := 256) (o' := 0) (o'' := 1536) rfl rfl rfl (by decide) (by decide) _
      (logit_plain a6 ha6 x3 S 0 4 (o := 256) (b := 0) rfl rfl (by decide) _ (load_score a10 S hS1 0 4 (o := 256) rfl (by decide) (by sl_kernel_rfl)) (fun _ _ => 0) fun _ _ => rfl) _
      (load_band a9 V (ha9.unread xs1) hL 0 (by sl_kernel_rfl) (lo := 256) (o := 0) (by decide) rfl (by decide) (hV)) x,
    fun x => piece_out a3 ha3 x0 x3 V S (fun _ _ => 0) 0 3 (o := 192) (o' := 0) (o'' := 1536) rfl rfl rfl (by decide) (by decide) _
      (logit_plain a6 ha6 x3 S 0 3 (o := 192) (b := 1) rfl rfl (by decide) _ (load_score a10 S hS1 0 3 (o := 192) rfl (by decide) (by sl_kernel_rfl)) (fun _ _ => 0) fun _ _ => rfl) _
      (load_band a9 V (ha9.unread xs1) hL 0 (by sl_kernel_rfl) (lo := 128) (o := 0) (by decide) rfl (by decide) (hV)) x,
    fun x => piece_out a3 ha3 x0 x3 V S (fun _ _ => 0) 0 2 (o := 128) (o' := 0) (o'' := 1536) rfl rfl rfl (by decide) (by decide) _
      (logit_plain a6 ha6 x3 S 0 2 (o := 128) (b := 0) rfl rfl (by decide) _ (load_score a10 S hS1 0 2 (o := 128) rfl (by decide) (by sl_kernel_rfl)) (fun _ _ => 0) fun _ _ => rfl) _
      (load_band a9 V (ha9.unread xs1) hL 0 (by sl_kernel_rfl) (lo := 128) (o := 0) (by decide) rfl (by decide) (hV)) x,
    fun x => piece_out a3 ha3 x0 x3 V S (fun _ _ => 0) 0 1 (o := 64) (o' := 0) (o'' := 1536) rfl rfl rfl (by decide) (by decide) _
      (logit_plain a6 ha6 x3 S 0 1 (o := 64) (b := 1) rfl rfl (by decide) _ (load_score a10 S hS1 0 1 (o := 64) rfl (by decide) (by sl_kernel_rfl)) (fun _ _ => 0) fun _ _ => rfl) _
      (load_band a9 V (ha9.unread xs1) hL 0 (by sl_kernel_rfl) (lo := 0) (o := 0) (by decide) rfl (by decide) (hV)) x,
    fun x => piece_out a3 ha3 x0 x3 V S (fun _ _ => 0) 0 0 (o := 0) (o' := 0) (o'' := 1536) rfl rfl rfl (by decide) (by decide) _
      (logit_plain a6 ha6 x3 S 0 0 (o := 0) (b := 0) rfl rfl (by decide) _ (load_score a10 S hS1 0 0 (o := 0) rfl (by decide) (by sl_kernel_rfl)) (fun _ _ => 0) fun _ _ => rfl) _
      (load_band a9 V (ha9.unread xs1) hL 0 (by sl_kernel_rfl) (lo := 0) (o := 0) (by decide) rfl (by decide) (hV)) x, trivial⟩

/-- It leaves the last 512 keys in the first 512 rows of the key buffer. -/
theorem key_B (hc0 : ¬cond0_0 i) (hc1 : cond0_1 i) (r l : Fin 512) :
    sout0_B_0 (F := Ideal) c i a3 ha3 a4 ha4 a5 ha5 a6 ha6 a7 ha7 a8 ha8 a9 ha9 a10 ha10 hc0 hc1 x0 x1 x2 x3 xs0 xs1 (ix2 ⟨r.val, by omega⟩ l)
      = keyBuf xs0 x0 x2 (ix2 ⟨1024 + r.val, by omega⟩ l) := by
  unfold sout0_B_0
  rw [View.read_writes_junk_eq_canon]
  unfold kernelRun0_B
  dsimp only
  exact shifted a8 _ _ (piecesK4_B c a3 ha3 a5 ha5 x0 x2 xs0) (fun h => match h with | 0 => rfl | 1 => rfl | 2 => rfl | 3 => rfl) _ _ _ r l

/-- And the last 512 values in the first 512 rows of the value buffer. -/
theorem val_B (hc0 : ¬cond0_0 i) (hc1 : cond0_1 i) (r l : Fin 512) :
    sout0_B_1 (F := Ideal) c i a3 ha3 a4 ha4 a5 ha5 a6 ha6 a7 ha7 a8 ha8 a9 ha9 a10 ha10 hc0 hc1 x0 x1 x2 x3 xs0 xs1 (ix2 ⟨r.val, by omega⟩ l)
      = valBuf xs1 x0 (ix2 ⟨1024 + r.val, by omega⟩ l) := by
  unfold sout0_B_1
  rw [View.read_writes_junk_eq_canon]
  unfold kernelRun0_B
  dsimp only
  exact shifted a9 _ _ (piecesV_B c a3 ha3 x0 xs1) (fun h => match h with | 0 => rfl | 1 => rfl | 2 => rfl | 3 => rfl) _ _ _ r l

end

end Cert.KernelIdeal.Att
-- ==== Proof.Blocks.lean ====
module

public import proofs.«01_k».proof.Proof.CaseA
public import proofs.«01_k».proof.Proof.CaseB
public import proofs.«01_k».proof.Proof.Band
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Att
open Cert.KernelIdeal Cert.KernelIdeal.Gen Cert.KernelIdeal.Value

/-! ## The kernel's output array: the band attention of what the grid region reads -/

variable (m : (ℓ : Loc nD τ sig) → Buf (Elt Ideal) ℓ) (c : Dev nD)

/-- Head `H`'s lanes of the region's first array. -/
def projV (g : Fin 4) (H : Fin 16) (b : Fin 2) (s : Fin 8192) (d : Fin 128) : EReal :=
  V m c main_v3 (ix2 (⟨8192 * b.val + s.val, by omega⟩ : Fin 16384) (⟨2048 * (H.val / 4) + 512 * g.val + 128 * (H.val % 4) + d.val, by omega⟩ : Fin 8192))

/-- The weights of the queries' normalization. -/
def wqV (e : Fin 128) : EReal := V m c main_v159 (ix2 (0 : Fin 1) e)

/-- The weights of the keys' normalization. -/
def wkV (e : Fin 128) : EReal := V m c main_v160 (ix2 (0 : Fin 1) e)

/-- The bias of the band's 640 positions. -/
def biasV (H : Fin 16) (u : Fin 2) (a : Fin 64) (j : Fin 640) : EReal := V m c main_v158 (ix4 H u a j)

theorem index0_0 : ∀ t : Fin cfg0.N, win0_0.index t = ![8 * (t.val / 32) + t.val % 8, t.val / 8 % 4] :=
  (by decide +kernel : ∀ t : Fin grid0.N, win0_0.index t = ![8 * (t.val / 32) + t.val % 8, t.val / 8 % 4])

theorem index0_1 : ∀ t : Fin cfg0.N, win0_1.index t = ![0, 0] := (by decide +kernel : ∀ t : Fin grid0.N, win0_1.index t = ![0, 0])

theorem index0_2 : ∀ t : Fin cfg0.N, win0_2.index t = ![0, 0] := (by decide +kernel : ∀ t : Fin grid0.N, win0_2.index t = ![0, 0])

theorem index0_3 : ∀ t : Fin cfg0.N, win0_3.index t = ![t.val / 8 % 4, 0, 0, 0] :=
  (by decide +kernel : ∀ t : Fin grid0.N, win0_3.index t = ![t.val / 8 % 4, 0, 0, 0])

theorem index0_4 : ∀ t : Fin cfg0.N, win0_4.index t = ![8 * (t.val / 32) + t.val % 8, t.val / 8 % 4] :=
  (by decide +kernel : ∀ t : Fin grid0.N, win0_4.index t = ![8 * (t.val / 32) + t.val % 8, t.val / 8 % 4])

theorem lt_points (t : Fin cfg0.N) : t.val < 64 := lt_of_lt_of_eq t.isLt (show cfg0.N = 64 from N_0)

/-- The first block read at coordinates. -/
theorem read0 (t : Fin cfg0.N) (g h' : Fin 4) (r : Fin 1024) (d : Fin 128) :
    lane (iblk m c 0 t) g h' r d = projV m c g ⟨4 * (t.val / 8 % 4) + h'.val, by omega⟩ ⟨t.val / 32, by have := lt_points t; omega⟩ ⟨1024 * (t.val % 8) + r.val, by omega⟩ d := by
  have ht := lt_points t
  unfold lane projV
  blk_simp [iblk, index0_0 t]
  congr 1
  blk_ext [index0_0 t]

/-- The second. -/
theorem read1 (t : Fin cfg0.N) (e : Fin 128) : iblk m c 1 t (ix2 (0 : Fin 1) e) = wqV m c e := by
  unfold wqV
  blk_simp [iblk, index0_1 t]
  congr 1
  blk_ext [index0_1 t]

/-- The third. -/
theorem read2 (t : Fin cfg0.N) (e : Fin 128) : iblk m c 2 t (ix2 (0 : Fin 1) e) = wkV m c e := by
  unfold wkV
  blk_simp [iblk, index0_2 t]
  congr 1
  blk_ext [index0_2 t]

/-- The fourth. -/
theorem read3 (t : Fin cfg0.N) (h' : Fin 4) (u : Fin 2) (a : Fin 64) (j : Fin 640) :
    iblk m c 3 t (ix4 h' u a j) = biasV m c ⟨4 * (t.val / 8 % 4) + h'.val, by omega⟩ u a j := by
  unfold biasV
  blk_simp [iblk, index0_3 t]
  congr 1
  blk_ext [index0_3 t]

/-- What the scratch buffers hold after point `n`: the keys and the values of the last 512 positions before the next block. -/
def Carried (n : ℕ) (h : n < cfg0.N) : Prop :=
  ∀ r l : Fin 512,
    (outsAt0 m c n h).2.1 (ix2 (⟨r.val, by omega⟩ : Fin 1536) l)
      = keyP (projV m c) (wkV m c) ⟨4 * (n / 8 % 4) + l.val / 128, by omega⟩ ⟨n / 32, by have := lt_points ⟨n, h⟩; simp only at this; omega⟩ (1024 * (n % 8) + (1024 + r.val)) ⟨l.val % 128, by omega⟩
    ∧ (outsAt0 m c n h).2.2 (ix2 (⟨r.val, by omega⟩ : Fin 1536) l)
      = valP (projV m c) ⟨4 * (n / 8 % 4) + l.val / 128, by omega⟩ ⟨n / 32, by have := lt_points ⟨n, h⟩; simp only at this; omega⟩ (1024 * (n % 8) + (1024 + r.val)) ⟨l.val % 128, by omega⟩

/-- Before the start every key is zero. -/
theorem keyP_start (p : Fin 4 → Fin 16 → Fin 2 → Fin 8192 → Fin 128 → EReal) (wk : Fin 128 → EReal) (H : Fin 16) (b : Fin 2) {n : ℕ} (hn : n < 512) (d : Fin 128) : keyP p wk H b n d = 0 :=
  dif_pos (Or.inl hn)

/-- Before the start every value is zero. -/
theorem valP_start (p : Fin 4 → Fin 16 → Fin 2 → Fin 8192 → Fin 128 → EReal) (H : Fin 16) (b : Fin 2) {n : ℕ} (hn : n < 512) (d : Fin 128) : valP p H b n d = 0 :=
  dif_pos (Or.inl hn)

/-- The buffers of a first block: zero before it. -/
theorem first_base (t : Fin cfg0.N) (h0 : t.val % 8 = 0) (r l : Fin 512) :
    ((fun _ => 0 : FVec Ideal S1536x512 .bf16) (ix2 (⟨r.val, by omega⟩ : Fin 1536) l)
      = keyP (projV m c) (wkV m c) ⟨4 * (t.val / 8 % 4) + l.val / 128, by omega⟩ ⟨t.val / 32, by have := lt_points t; omega⟩ (1024 * (t.val % 8) + r.val) ⟨l.val % 128, by omega⟩)
    ∧ ((fun _ => 0 : FVec Ideal S1536x512 .bf16) (ix2 (⟨r.val, by omega⟩ : Fin 1536) l)
      = valP (projV m c) ⟨4 * (t.val / 8 % 4) + l.val / 128, by omega⟩ ⟨t.val / 32, by have := lt_points t; omega⟩ (1024 * (t.val % 8) + r.val) ⟨l.val % 128, by omega⟩) :=
  ⟨(keyP_start _ _ _ _ (by omega) _).symm, (valP_start _ _ _ (by omega) _).symm⟩

/-- The buffers of a later block: what the block before it left. -/
theorem later_base (t : Fin cfg0.N) (h0 : ¬t.val % 8 = 0) (ih : Carried m c (t.val - 1) (Nat.lt_of_le_of_lt (Nat.sub_le _ _) t.isLt)) (r l : Fin 512) :
    ((outsAt0 m c (t.val - 1) (Nat.lt_of_le_of_lt (Nat.sub_le _ _) t.isLt)).2.1 (ix2 (⟨r.val, by omega⟩ : Fin 1536) l)
      = keyP (projV m c) (wkV m c) ⟨4 * (t.val / 8 % 4) + l.val / 128, by omega⟩ ⟨t.val / 32, by have := lt_points t; omega⟩ (1024 * (t.val % 8) + r.val) ⟨l.val % 128, by omega⟩)
    ∧ ((outsAt0 m c (t.val - 1) (Nat.lt_of_le_of_lt (Nat.sub_le _ _) t.isLt)).2.2 (ix2 (⟨r.val, by omega⟩ : Fin 1536) l)
      = valP (projV m c) ⟨4 * (t.val / 8 % 4) + l.val / 128, by omega⟩ ⟨t.val / 32, by have := lt_points t; omega⟩ (1024 * (t.val % 8) + r.val) ⟨l.val % 128, by omega⟩) := by
  have ht := lt_points t
  obtain ⟨hk, hv⟩ := ih r l
  have e1 : (⟨4 * ((t.val - 1) / 8 % 4) + l.val / 128, by omega⟩ : Fin 16) = ⟨4 * (t.val / 8 % 4) + l.val / 128, by omega⟩ := Fin.ext (by
    show 4 * ((t.val - 1) / 8 % 4) + l.val / 128 = 4 * (t.val / 8 % 4) + l.val / 128
    have : (t.val - 1) / 8 = t.val / 8 := by omega
    rw [this])
  have e2 : (⟨(t.val - 1) / 32, by omega⟩ : Fin 2) = ⟨t.val / 32, by omega⟩ := Fin.ext (by show (t.val - 1) / 32 = t.val / 32; omega)
  have e3 : 1024 * ((t.val - 1) % 8) + (1024 + r.val) = 1024 * (t.val % 8) + r.val := by omega
  rw [e1, e2, e3] at hk hv
  exact ⟨hk, hv⟩

/-- A point leaves the buffers so. -/
theorem carried (n : ℕ) (h : n < cfg0.N) : Carried m c n h := by
  induction n using Nat.strong_induction_on with
  | _ n ih =>
    intro r l
    have ht : n < 64 := lt_points ⟨n, h⟩
    have hx := fun g h' r d => read0 m c ⟨n, h⟩ g h' r d
    by_cases h0 : n % 8 = 0
    · rw [outsAt0_A m c ⟨n, h⟩ h0 (by show ¬1 ≤ n % 8; omega)]
      dsimp only
      rw [key_A, val_A]
      exact ⟨keyBuf_eq (b := ⟨n / 32, by omega⟩) (h := ⟨n / 8 % 4, by omega⟩) (s0 := ⟨n % 8, by omega⟩) hx (read2 m c ⟨n, h⟩) (fun r l => (first_base m c ⟨n, h⟩ h0 r l).1) (highRow r) l,
        valBuf_eq (b := ⟨n / 32, by omega⟩) (h := ⟨n / 8 % 4, by omega⟩) (s0 := ⟨n % 8, by omega⟩) hx (fun r l => (first_base m c ⟨n, h⟩ h0 r l).2) (highRow r) l⟩
    · have hi := later_base m c ⟨n, h⟩ h0 (ih (n - 1) (by omega) _)
      rw [outsAt0_B m c ⟨n, h⟩ h0 (by show 1 ≤ n % 8; omega)]
      dsimp only
      rw [key_B, val_B]
      exact ⟨keyBuf_eq (b := ⟨n / 32, by omega⟩) (h := ⟨n / 8 % 4, by omega⟩) (s0 := ⟨n % 8, by omega⟩) hx (read2 m c ⟨n, h⟩) (fun r l => (hi r l).1) (highRow r) l,
        valBuf_eq (b := ⟨n / 32, by omega⟩) (h := ⟨n / 8 % 4, by omega⟩) (s0 := ⟨n % 8, by omega⟩) hx (fun r l => (hi r l).2) (highRow r) l⟩

/-- A first block's mask is the sequence's. -/
theorem mask_first (t : Fin cfg0.N) (h0 : t.val % 8 = 0) (r : Fin 1024) (j : Fin 640) :
    maskAt r j = maskP ((1024 * (t.val % 8) + r.val) / 128 * 128 + j.val) := by
  unfold maskAt maskP
  rw [h0, Nat.mul_zero, Nat.zero_add]

/-- A later block has none. -/
theorem mask_later (t : Fin cfg0.N) (h0 : ¬t.val % 8 = 0) (r : Fin 1024) (j : Fin 640) :
    (0 : EReal) = maskP ((1024 * (t.val % 8) + r.val) / 128 * 128 + j.val) := by
  unfold maskP
  rw [if_neg (by omega)]

/-- What a point leaves in its output block. -/
theorem out_point (t : Fin cfg0.N) (r : Fin 1024) (l : Fin 512) :
    (outsAt0 m c t.val t.isLt).1 (ix2 r l)
      = outP (projV m c) (wqV m c) (wkV m c) (biasV m c) ⟨4 * (t.val / 8 % 4) + l.val / 128, by omega⟩ ⟨t.val / 32, by have := lt_points t; omega⟩
        ⟨1024 * (t.val % 8) + r.val, by omega⟩ ⟨l.val % 128, by omega⟩ := by
  have ht := lt_points t
  have hx := fun g h' r d => read0 m c t g h' r d
  by_cases h0 : t.val % 8 = 0
  · rw [outsAt0_A m c t h0 (by omega)]
    dsimp only
    rw [out_A]
    exact outBlk_eq (b := ⟨t.val / 32, by omega⟩) (h := ⟨t.val / 8 % 4, by omega⟩) (s0 := ⟨t.val % 8, by omega⟩) hx (read1 m c t) (read3 m c t)
      (keyBuf_eq (b := ⟨t.val / 32, by omega⟩) (h := ⟨t.val / 8 % 4, by omega⟩) (s0 := ⟨t.val % 8, by omega⟩) hx (read2 m c t) (fun r l => (first_base m c t h0 r l).1))
      (valBuf_eq (b := ⟨t.val / 32, by omega⟩) (h := ⟨t.val / 8 % 4, by omega⟩) (s0 := ⟨t.val % 8, by omega⟩) hx (fun r l => (first_base m c t h0 r l).2))
      (mask_first t h0) r l
  · have hi := later_base m c t h0 (carried m c _ _)
    rw [outsAt0_B m c t h0 (by omega)]
    dsimp only
    rw [out_B]
    exact outBlk_eq (b := ⟨t.val / 32, by omega⟩) (h := ⟨t.val / 8 % 4, by omega⟩) (s0 := ⟨t.val % 8, by omega⟩) hx (read1 m c t) (read3 m c t)
      (keyBuf_eq (b := ⟨t.val / 32, by omega⟩) (h := ⟨t.val / 8 % 4, by omega⟩) (s0 := ⟨t.val % 8, by omega⟩) hx (read2 m c t) (fun r l => (hi r l).1))
      (valBuf_eq (b := ⟨t.val / 32, by omega⟩) (h := ⟨t.val / 8 % 4, by omega⟩) (s0 := ⟨t.val % 8, by omega⟩) hx (fun r l => (hi r l).2))
      (mask_later t h0) r l

/-- The kernel's result: at row `n` and column `l` the band attention of head `l / 128` of sequence `n / 8192`. -/
theorem out_array :
    (dats m 0 c).arrAt 4 cfg0.N = fun i : S16384x2048.Idx =>
      outP (projV m c) (wqV m c) (wkV m c) (biasV m c) ⟨(i 1).val / 128, by idx_bounds i; omega⟩ ⟨(i 0).val / 8192, by idx_bounds i; omega⟩
        ⟨(i 0).val % 8192, by omega⟩ ⟨(i 1).val % 128, by omega⟩ := by
  refine (dats m 0 c).arrAt_eq_of_covers 4 _ (by decide +kernel) fun t hf y => ?_
  blk_simp
  rw [after0_4]
  have ht := lt_points t
  have hy : y = ix2 (y 0 : Fin 1024) (y 1 : Fin 512) := by blk_ext []
  have e0 : win0_4.index t 0 = 8 * (t.val / 32) + t.val % 8 := congrFun (index0_4 t) 0
  have e1 : win0_4.index t 1 = t.val / 8 % 4 := congrFun (index0_4 t) 1
  have b0 : (y 0).val < 1024 := (y 0).isLt
  have b1 : (y 1).val < 512 := (y 1).isLt
  refine (congrArg _ hy).trans ((out_point m c t (y 0) (y 1)).trans ?_)
  congr 1
  · exact Fin.ext (by show 4 * (t.val / 8 % 4) + (y 1).val / 128 = (win0_4.index t 1 * 512 + (y 1).val) / 128; omega)
  · exact Fin.ext (by show t.val / 32 = (win0_4.index t 0 * 1024 + (y 0).val) / 8192; omega)
  · exact Fin.ext (by show 1024 * (t.val % 8) + (y 0).val = (win0_4.index t 0 * 1024 + (y 0).val) % 8192; omega)
  · exact Fin.ext (by show (y 1).val % 128 = (win0_4.index t 1 * 512 + (y 1).val) % 128; omega)

end Cert.KernelIdeal.Att
-- ==== Proof.KerValue.lean ====
module

public import proofs.«01_k».proof.Proof.RefValue
public import proofs.«01_k».proof.Proof.Blocks

@[expose] public section

set_option maxRecDepth 16384

noncomputable section

open Idealize.ShloMosaic Idealize.ShloMosaic.TcCoe Idealize.SL.Sem

namespace Cert.KernelIdeal.Att
open Cert.KernelIdeal Cert.KernelIdeal.Gen Cert.KernelIdeal.Value
open Cert.BandSoftmax
open Cert.ReferenceIdeal.Att (projR laneR diagR partCol)

/-! ## The kernel's result is the plain attention of its arguments -/

variable (m : (ℓ : Loc nD τ sig) → Buf (Elt Ideal) ℓ) (c : Dev nD)

theorem projV_eq : projV m c = projR (m ((c : Thread nD τ).loc main_arg0)) := by
  funext g H b s d
  refine (V_v3_at m c _ _).trans ?_
  unfold projR
  congr 1
  refine funext fun a => Fin.ext ?_
  match a with
  | ⟨0, _⟩ => show (8192 * b.val + s.val) / 8192 = b.val; omega
  | ⟨1, _⟩ => show (8192 * b.val + s.val) % 8192 = s.val; omega
  | ⟨2, _⟩ =>
    show 2048 * ((2048 * (H.val / 4) + 512 * g.val + 128 * (H.val % 4) + d.val) / 512 % 4)
      + 512 * ((2048 * (H.val / 4) + 512 * g.val + 128 * (H.val % 4) + d.val) / 2048)
      + (2048 * (H.val / 4) + 512 * g.val + 128 * (H.val % 4) + d.val) % 512 = 2048 * g.val + (H.val * 128 + d.val)
    omega

theorem wqV_eq : wqV m c = laneR (m ((c : Thread nD τ).loc main_arg1)) := funext fun e => V_v159_at m c e

theorem wkV_eq : wkV m c = laneR (m ((c : Thread nD τ).loc main_arg2)) := funext fun e => V_v160_at m c e

/-- The kernel's output array, when weights and biases are real. -/
theorem ker_out (h1 : ∀ e, IsReal (laneR (m ((c : Thread nD τ).loc main_arg1)) e)) (h2 : ∀ e, IsReal (laneR (m ((c : Thread nD τ).loc main_arg2)) e))
    (h3 : ∀ H t, IsReal (diagR (m ((c : Thread nD τ).loc main_arg3)) H t)) (i : Fin 16384) (l : Fin 2048) :
    ((dats m 0 c).arrAt 4 cfg0.N : FVec Ideal S16384x2048 .bf16) (ix2 i l)
      = plainOut (projR (m ((c : Thread nD τ).loc main_arg0))) (laneR (m ((c : Thread nD τ).loc main_arg1))) (laneR (m ((c : Thread nD τ).loc main_arg2)))
          (diagR (m ((c : Thread nD τ).loc main_arg3))) ⟨l.val / 128, by omega⟩ ⟨i.val / 8192, by omega⟩ ⟨i.val % 8192, by omega⟩ ⟨l.val % 128, by omega⟩ := by
  rw [out_array]
  show outP (projV m c) (wqV m c) (wkV m c) (biasV m c) ⟨l.val / 128, _⟩ ⟨i.val / 8192, _⟩ ⟨i.val % 8192, _⟩ ⟨l.val % 128, _⟩ = _
  rw [projV_eq, wqV_eq, wkV_eq]
  exact out_eq h1 h2 h3 (fun H u a j => V_v158_at m c H u a j) _ _ _ _

end Cert.KernelIdeal.Att
-- ==== Proof.Weights.lean ====
module

public import proofs.«01_k».proof.Pre_finite_weights
public import proofs.«01_k».proof.Proof.Finite
public import Idealize.ShloMosaic.Lib.Pointwise

@[expose] public section

noncomputable section

open Idealize.ShloMosaic

namespace Cert.Pre_finite_weights
open Cert.BandSoftmax

/-! ## What the precondition says -/

/-- The relations of shapes that the precondition's operations take. -/
theorem facts : Facts where
  bcast_S_S128 := by decide
  bcast_S128_S1x1x128_2 := by decide
  bcast_S_S16x513 := by decide
  bcast_S16x513_S16x513x1_0_1 := by decide
  bcast_S1x1x128_S16x513x128_0_1_2 := by decide
  bcast_S16x513x1_S16x513x128_0_1_2 := by decide

/-- A value whose magnitude is below infinity is real. -/
theorem real_of_lt {x : EReal} (h : Ideal.cmp .olt (max x (-x)) (Ideal.ofBits .f32 0x7F800000#32) = 1#1) : IsReal x := by
  rw [lit_inf] at h
  have hl : max x (-x) < ⊤ := by
    by_contra hn
    have : Ideal.cmp .olt (max x (-x)) ⊤ = 0#1 := by
      show BitVec.ofBool (decide _) = _
      rw [decide_eq_false hn]
      rfl
    rw [this] at h
    exact absurd h (by decide)
  refine isReal_of_ne ?_ ?_
  · rintro rfl
    exact absurd (lt_of_le_of_lt (le_max_right _ _) hl) (by simp)
  · rintro rfl
    exact absurd (lt_of_le_of_lt (le_max_left _ _) hl) (by simp)

/-- Both bits of a conjunction that is one are one. -/
theorem and_one {x y : BitVec 1} (h : x &&& y = 1#1) : x = 1#1 ∧ y = 1#1 := by
  revert x y
  decide

/-- The precondition at an index. -/
theorem fn_at [Facts] (a0 : FVec Ideal S2x8192x8192 .f32) (a1 a2 : FVec Ideal S128 .f32) (a3 : FVec Ideal S16x513 .f32) (H : Fin 16) (c : Fin 513) (d : Fin 128)
    (h : fn (F := Ideal) a0 a1 a2 a3 = fun _ => 1#1) : IsReal (a1 (ix1 d)) ∧ IsReal (a2 (ix1 d)) ∧ IsReal (a3 (ix2 H c)) := by
  have e := congrFun h (ix3 H c d)
  unfold fn at e
  simp only [pointwise] at e
  obtain ⟨e12, e3⟩ := and_one e
  obtain ⟨e1, e2⟩ := and_one e12
  exact ⟨real_of_lt e1, real_of_lt e2, real_of_lt e3⟩

end Cert.Pre_finite_weights
-- ==== Proof.Whole.lean ====
module

public import Idealize.ShloMosaic.Lib.Pipeline.ValueKit
public import Idealize.ShloMosaic.Lib.Pipeline.ReadBack
public import Idealize.ShloMosaic.Lib.Pointwise

@[expose] public section

noncomputable section

open Idealize.ShloMosaic Idealize.ShloMosaic.TcCoe Idealize.SL.Sem

namespace Cert.Whole

/-! ## Loads and stores of a whole buffer -/

variable {sig : RefSig} {κ : Kind} {sp : Space} {s : Shape} {e : EltTy} {Val : EltTy → Type}

/-- The rectangle from zero of the buffer's own extents sends each index to itself. -/
theorem emb_unit {off : Fin s.rank → ℕ} (hoff : ∀ a, off a = 0) (inb) (j : s.Idx) :
    (Rect.unit (s := s) off s.size inb).emb j = j := by
  funext a
  refine Fin.ext ?_
  show off a + 1 * (j a).val = (j a).val
  rw [hoff a]
  omega

/-- A load of a whole buffer reads what it holds. -/
theorem readAt_unit (v : View sig κ sp s e) (f : v.ty.Contents Val) {off : Fin s.rank → ℕ} (hoff : ∀ a, off a = 0) (inb) :
    View.readAt Val v (Rect.unit (s := s) off s.size inb).toLoadRect f = v.read Val f := by
  funext j
  show v.read Val f ((Rect.unit (s := s) off s.size inb).toLoadRect.idx j) = _
  exact congrArg _ (emb_unit hoff inb j)

/-- One store of a whole buffer leaves what it stores. -/
theorem canon_unit [∀ e, Inhabited (Val e)] {off : Fin s.rank → ℕ} (hoff : ∀ a, off a = 0) (inb) (x : s.Idx → Val e) (L : List (View.Piece Val s e)) :
    View.canon ((⟨Rect.unit (s := s) off s.size inb, x⟩ : View.Piece Val s e) :: L) = x := by
  funext j
  have h := emb_unit hoff inb j
  exact (congrArg _ h.symm).trans (View.canon_cons_emb ..)

/-- A load of a whole buffer after such a store reads what was stored. -/
theorem readCov_unit [∀ e, Inhabited (Val e)] (v : View sig κ sp s e) {off off' : Fin s.rank → ℕ} (hoff : ∀ a, off a = 0) (hoff' : ∀ a, off' a = 0)
    (inb inb') (x : s.Idx → Val e) (L : List (View.Piece Val s e)) :
    v.readCov ((⟨Rect.unit (s := s) off s.size inb, x⟩ : View.Piece Val s e) :: L) (Rect.unit (s := s) off' s.size inb').toLoadRect = x :=
  (readAt_unit v _ hoff' inb').trans ((View.read_writes_junk_eq_canon ..).trans (canon_unit hoff inb x L))

theorem zero2 : ∀ a : Fin 2, (![0, 0] : Fin 2 → ℕ) a = 0
  | ⟨0, _⟩ => rfl
  | ⟨1, _⟩ => rfl

end Cert.Whole
-- ==== Proof.RmsProj.lean ====
module

public import proofs.«01_k».proof.Proof.Gen.Kernel2Ideal.Value
public import proofs.«01_k».proof.Proof.Whole
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel2Ideal.Rms
open Cert.Kernel2Ideal Cert.Kernel2Ideal.Gen Cert.Kernel2Ideal.Value Cert.Whole

/-! ## The norm and the input projection: what one grid point computes -/

/-- The root mean square norm of a row. -/
def rmsRow (x w : Fin 2048 → EReal) (k : Fin 2048) : EReal :=
  x k * Ideal.rsqrt (Ideal.div (∑ j : Fin 2048, x j * x j) (Ideal.ofBits .f32 0x45000000#32) + Ideal.ofBits .f32 0x358637BD#32) * w k

/-- The normalized rows kept on the first point of a row of the grid. -/
theorem pay1_at (x : FVec Ideal S1024x2048 .f32) (w : FVec Ideal S1x2048 .f32) (r : Fin 1024) (k : Fin 2048) :
    k0_pay1 (F := Ideal) x w (ix2 r k) = rmsRow (fun j => x (ix2 r j)) (fun j => w (ix2 (0 : Fin 1) j)) k := by
  unfold k0_pay1 rmsRow
  pointwise

/-- Their product with a block of the weights. -/
theorem pay2_at (x : FVec Ideal S1024x2048 .bf16) (w : FVec Ideal S2048x512 .bf16) (r : Fin 1024) (n : Fin 512) :
    k0_pay2 (F := Ideal) x w (ix2 r n) = ∑ k : Fin 2048, x (ix2 r k) * w (ix2 k n) := by
  unfold k0_pay2
  pointwise

theorem pay3_at (x : FVec Ideal S1024x2048 .bf16) (w : FVec Ideal S2048x512 .bf16) (r : Fin 1024) (n : Fin 512) :
    k0_pay3 (F := Ideal) x w (ix2 r n) = ∑ k : Fin 2048, x (ix2 r k) * w (ix2 k n) := pay2_at x w r n

theorem pay4_at (x : FVec Ideal S1024x2048 .bf16) (w : FVec Ideal S2048x512 .bf16) (r : Fin 1024) (n : Fin 512) :
    k0_pay4 (F := Ideal) x w (ix2 r n) = ∑ k : Fin 2048, x (ix2 r k) * w (ix2 k n) := pay2_at x w r n

theorem pay5_at (x : FVec Ideal S1024x2048 .bf16) (w : FVec Ideal S2048x512 .bf16) (r : Fin 1024) (n : Fin 512) :
    k0_pay5 (F := Ideal) x w (ix2 r n) = ∑ k : Fin 2048, x (ix2 r k) * w (ix2 k n) := pay2_at x w r n

/-- Rows times four blocks of columns, next to each other. -/
def prodBlk (x : FVec Ideal S1024x2048 .bf16) (w : Fin 4 → FVec Ideal S2048x512 .bf16) : FVec Ideal S1024x2048 .bf16 :=
  fun y => ∑ k : Fin 2048, x (ix2 (y 0) k) * w ⟨(y 1).val / 512, by have : (y 1).val < 2048 := (y 1).isLt; omega⟩ (ix2 k (⟨(y 1).val % 512, by omega⟩ : Fin 512))

/-- One of the four is a block of the array. -/
theorem piece_at (x : FVec Ideal S1024x2048 .bf16) (w : Fin 4 → FVec Ideal S2048x512 .bf16) (p : Fin 4) {o : ℕ} (ho : o = 512 * p.val) (inb)
    (P : FVec Ideal S1024x512 .bf16) (hP : ∀ r n, P (ix2 r n) = ∑ k : Fin 2048, x (ix2 r k) * w p (ix2 k n)) (y : S1024x512.Idx) :
    P y = prodBlk x w ((Rect.unit (s := S1024x2048) ![0, o] S1024x512.size inb).emb y) := by
  obtain ⟨r, n, rfl⟩ : ∃ (r : Fin 1024) (n : Fin 512), y = ix2 r n := ⟨y 0, y 1, eq_ix2 y⟩
  have e : (Rect.unit (s := S1024x2048) ![0, o] S1024x512.size inb).emb (ix2 r n) = ix2 r (⟨512 * p.val + n.val, by omega⟩ : Fin 2048) := by
    funext a; refine Fin.ext ?_
    match a with
    | ⟨0, _⟩ => show 0 + 1 * r.val = r.val; omega
    | ⟨1, _⟩ => show o + 1 * n.val = 512 * p.val + n.val; omega
  have e1 : (⟨(512 * p.val + n.val) / 512, by omega⟩ : Fin 4) = p := Fin.ext (by show (512 * p.val + n.val) / 512 = p.val; omega)
  have e2 : (⟨(512 * p.val + n.val) % 512, by omega⟩ : Fin 512) = n := Fin.ext (by show (512 * p.val + n.val) % 512 = n.val; omega)
  rw [e, hP]
  show _ = ∑ k : Fin 2048, x (ix2 r k) * w ⟨(512 * p.val + n.val) / 512, _⟩ (ix2 k (⟨(512 * p.val + n.val) % 512, _⟩ : Fin 512))
  rw [e1, e2]

section

variable (c : Dev nD) (i : grid0.Coords) (a2 : Memref sig .tc .vmem S1024x2048 .f32) (ha2 : a2.IsWhole) (a3 : Memref sig .tc .vmem S1x2048 .f32) (ha3 : a3.IsWhole)
  (a4 : Memref sig .tc .vmem S2048x512 .bf16) (ha4 : a4.IsWhole) (a5 : Memref sig .tc .vmem S2048x512 .bf16) (ha5 : a5.IsWhole) (a6 : Memref sig .tc .vmem S2048x512 .bf16) (ha6 : a6.IsWhole)
  (a7 : Memref sig .tc .vmem S2048x512 .bf16) (ha7 : a7.IsWhole) (a8 : Memref sig .tc .vmem S1024x2048 .bf16) (ha8 : a8.IsWhole) (a9 : Memref sig .tc .vmem S1024x2048 .bf16) (ha9 : a9.IsWhole)
  (x0 : FVec Ideal S1024x2048 .f32) (x1 : FVec Ideal S1x2048 .f32) (x2 x3 x4 x5 : FVec Ideal S2048x512 .bf16) (xs : FVec Ideal S1024x2048 .bf16)

/-- Loads of whole buffers. -/
theorem load_f32 (a : Memref sig .tc .vmem S1024x2048 .f32) (ha : a.IsWhole) (x : FVec Ideal S1024x2048 .f32) (inb) :
    View.readAt (Elt Ideal) a.view (Rect.unit (s := S1024x2048) ![0, 0] S1024x2048.size inb).toLoadRect (ha.unread x) = x :=
  (readAt_unit _ _ zero2 _).trans (ha.read_unread _)

theorem load_norm (a : Memref sig .tc .vmem S1x2048 .f32) (ha : a.IsWhole) (x : FVec Ideal S1x2048 .f32) (inb) :
    View.readAt (Elt Ideal) a.view (Rect.unit (s := S1x2048) ![0, 0] S1x2048.size inb).toLoadRect (ha.unread x) = x :=
  (readAt_unit _ _ zero2 _).trans (ha.read_unread _)

theorem load_rows (a : Memref sig .tc .vmem S1024x2048 .bf16) (ha : a.IsWhole) (x : FVec Ideal S1024x2048 .bf16) (inb) :
    View.readAt (Elt Ideal) a.view (Rect.unit (s := S1024x2048) ![0, 0] S1024x2048.size inb).toLoadRect (ha.unread x) = x :=
  (readAt_unit _ _ zero2 _).trans (ha.read_unread _)

theorem load_cols (a : Memref sig .tc .vmem S2048x512 .bf16) (ha : a.IsWhole) (x : FVec Ideal S2048x512 .bf16) (inb) :
    View.readAt (Elt Ideal) a.view (Rect.unit (s := S2048x512) ![0, 0] S2048x512.size inb).toLoadRect (ha.unread x) = x :=
  (readAt_unit _ _ zero2 _).trans (ha.read_unread _)

/-- A later point: its block from the kept rows. -/
theorem out_B (hc0 : ¬cond0_0 i) :
    out0_B_6 (F := Ideal) c i a2 ha2 a3 ha3 a4 ha4 a5 ha5 a6 ha6 a7 ha7 a8 ha8 a9 ha9 hc0 x0 x1 x2 x3 x4 x5 xs = prodBlk xs ![x2, x3, x4, x5] := by
  funext y
  unfold out0_B_6
  rw [View.read_writes_junk_eq_canon]
  have hc := cover0_B_6 (F := Ideal) c i a2 ha2 a3 ha3 a4 ha4 a5 ha5 a6 ha6 a7 ha7 a8 ha8 a9 ha9 hc0 x0 x1 x2 x3 x4 x5 xs y
  refine View.canon_apply_of_pieces _ _ (View.PiecesOf.mem ?_) y hc
  clear hc
  unfold kernelRun0_B kernelRun0_B.sl.r
  dsimp only
  refine ⟨fun y => piece_at xs ![x2, x3, x4, x5] 3 (o := 1536) rfl inb_S1024x2048_S1024x512_0_1536 _ (fun r n => ?_) y, fun y => piece_at xs ![x2, x3, x4, x5] 2 (o := 1024) rfl inb_S1024x2048_S1024x512_0_1024 _ (fun r n => ?_) y,
    fun y => piece_at xs ![x2, x3, x4, x5] 1 (o := 512) rfl inb_S1024x2048_S1024x512_0_512 _ (fun r n => ?_) y, fun y => piece_at xs ![x2, x3, x4, x5] 0 (o := 0) rfl inb_S1024x2048_S1024x512_0_0 _ (fun r n => ?_) y, trivial⟩
  · refine (pay5_at _ _ r n).trans ?_
    rw [load_rows a9 ha9 xs, load_cols a7 ha7 x5]
    rfl
  · refine (pay4_at _ _ r n).trans ?_
    rw [load_rows a9 ha9 xs, load_cols a6 ha6 x4]
    rfl
  · refine (pay3_at _ _ r n).trans ?_
    rw [load_rows a9 ha9 xs, load_cols a5 ha5 x3]
    rfl
  · refine (pay2_at _ _ r n).trans ?_
    rw [load_rows a9 ha9 xs, load_cols a4 ha4 x2]
    rfl

/-- The rows that the first point of a row of the grid loads again. -/
theorem loaded_A : kernelRun0_A.sl.v3 (F := Ideal) c a2 ha2 a3 ha3 a9 x0 x1 = k0_pay1 (F := Ideal) x0 x1 := by
  unfold kernelRun0_A.sl.v3 kernelRun0_A.sl.HS0_1
  refine (readCov_unit _ zero2 zero2 _ _ _ _).trans ?_
  rw [load_f32 a2 ha2 x0, load_norm a3 ha3 x1]

/-- The first point of a row of the grid: its block from the rows it keeps. -/
theorem out_A (hc0 : cond0_0 i) :
    out0_A_6 (F := Ideal) c i a2 ha2 a3 ha3 a4 ha4 a5 ha5 a6 ha6 a7 ha7 a8 ha8 a9 ha9 hc0 x0 x1 x2 x3 x4 x5 = prodBlk (k0_pay1 (F := Ideal) x0 x1) ![x2, x3, x4, x5] := by
  funext y
  unfold out0_A_6
  rw [View.read_writes_junk_eq_canon]
  have hc := cover0_A_6 (F := Ideal) c i a2 ha2 a3 ha3 a4 ha4 a5 ha5 a6 ha6 a7 ha7 a8 ha8 a9 ha9 hc0 x0 x1 x2 x3 x4 x5 y
  refine View.canon_apply_of_pieces _ _ (View.PiecesOf.mem ?_) y hc
  clear hc
  unfold kernelRun0_A kernelRun0_A.sl.r
  dsimp only
  have e := loaded_A c a2 ha2 a3 ha3 a9 x0 x1
  refine ⟨fun y => piece_at (k0_pay1 (F := Ideal) x0 x1) ![x2, x3, x4, x5] 3 (o := 1536) rfl inb_S1024x2048_S1024x512_0_1536 _ (fun r n => ?_) y, fun y => piece_at (k0_pay1 (F := Ideal) x0 x1) ![x2, x3, x4, x5] 2 (o := 1024) rfl inb_S1024x2048_S1024x512_0_1024 _ (fun r n => ?_) y,
    fun y => piece_at (k0_pay1 (F := Ideal) x0 x1) ![x2, x3, x4, x5] 1 (o := 512) rfl inb_S1024x2048_S1024x512_0_512 _ (fun r n => ?_) y, fun y => piece_at (k0_pay1 (F := Ideal) x0 x1) ![x2, x3, x4, x5] 0 (o := 0) rfl inb_S1024x2048_S1024x512_0_0 _ (fun r n => ?_) y, trivial⟩
  · refine (pay5_at _ _ r n).trans ?_
    rw [e, load_cols a7 ha7 x5]
    rfl
  · refine (pay4_at _ _ r n).trans ?_
    rw [e, load_cols a6 ha6 x4]
    rfl
  · refine (pay3_at _ _ r n).trans ?_
    rw [e, load_cols a5 ha5 x3]
    rfl
  · refine (pay2_at _ _ r n).trans ?_
    rw [e, load_cols a4 ha4 x2]
    rfl

/-- The rows that a later point keeps. -/
theorem kept_B (hc0 : ¬cond0_0 i) :
    sout0_B_0 (F := Ideal) c i a2 ha2 a3 ha3 a4 ha4 a5 ha5 a6 ha6 a7 ha7 a8 ha8 a9 ha9 hc0 x0 x1 x2 x3 x4 x5 xs = xs := rfl

/-- The rows that a first point keeps. -/
theorem kept_A (hc0 : cond0_0 i) :
    sout0_A_0 (F := Ideal) c i a2 ha2 a3 ha3 a4 ha4 a5 ha5 a6 ha6 a7 ha7 a8 ha8 a9 ha9 hc0 x0 x1 x2 x3 x4 x5 = k0_pay1 (F := Ideal) x0 x1 := by
  unfold sout0_A_0
  rw [View.read_writes_junk_eq_canon]
  unfold kernelRun0_A
  dsimp only
  unfold kernelRun0_A.sl.HS0_1
  refine (canon_unit (s := S1024x2048) zero2 _ _ _).trans ?_
  rw [load_f32 a2 ha2 x0, load_norm a3 ha3 x1]

end

/-! ## The kernel's output array -/

variable (m : (ℓ : Loc nD τ sig) → Buf (Elt Ideal) ℓ) (c : Dev nD)

theorem index0_0 : ∀ t : Fin cfg0.N, win0_0.index t = ![t.val / 4, 0] := (by decide +kernel : ∀ t : Fin grid0.N, win0_0.index t = ![t.val / 4, 0])
theorem index0_1 : ∀ t : Fin cfg0.N, win0_1.index t = ![0, 0] := (by decide +kernel : ∀ t : Fin grid0.N, win0_1.index t = ![0, 0])
theorem index0_2 : ∀ t : Fin cfg0.N, win0_2.index t = ![0, t.val % 4] := (by decide +kernel : ∀ t : Fin grid0.N, win0_2.index t = ![0, t.val % 4])
theorem index0_3 : ∀ t : Fin cfg0.N, win0_3.index t = ![0, 4 + t.val % 4] := (by decide +kernel : ∀ t : Fin grid0.N, win0_3.index t = ![0, 4 + t.val % 4])
theorem index0_4 : ∀ t : Fin cfg0.N, win0_4.index t = ![0, 8 + t.val % 4] := (by decide +kernel : ∀ t : Fin grid0.N, win0_4.index t = ![0, 8 + t.val % 4])
theorem index0_5 : ∀ t : Fin cfg0.N, win0_5.index t = ![0, 12 + t.val % 4] := (by decide +kernel : ∀ t : Fin grid0.N, win0_5.index t = ![0, 12 + t.val % 4])

theorem lt_points (t : Fin cfg0.N) : t.val < 64 := lt_of_lt_of_eq t.isLt (show cfg0.N = 64 from N_0)

/-- The tokens, as the region reads them. -/
def xV (i : Fin 16384) (k : Fin 2048) : EReal := V m c main_v0 (ix2 i k)

/-- The norm's weights. -/
def nV (k : Fin 2048) : EReal := V m c main_v2 (ix2 (0 : Fin 1) k)

/-- The projection's weights. -/
def wV (k : Fin 2048) (n : Fin 8192) : EReal := V m c main_v1 (ix2 k n)

/-- The row of a point's block. -/
abbrev rowOf (t : Fin cfg0.N) (r : Fin 1024) : Fin 16384 := ⟨1024 * (t.val / 4) + r.val, by have := lt_points t; omega⟩

/-- The column of a point's weights. -/
abbrev colOf (t : Fin cfg0.N) (p : Fin 4) (e : Fin 512) : Fin 8192 := ⟨2048 * p.val + 512 * (t.val % 4) + e.val, by omega⟩

theorem read0 (t : Fin cfg0.N) (r : Fin 1024) (k : Fin 2048) : iblk m c 0 t (ix2 r k) = xV m c (rowOf t r) k := by
  have ht := lt_points t
  unfold xV
  blk_simp [iblk, index0_0 t]
  congr 1
  blk_ext [index0_0 t]

theorem read1 (t : Fin cfg0.N) (k : Fin 2048) : iblk m c 1 t (ix2 (0 : Fin 1) k) = nV m c k := by
  unfold nV
  blk_simp [iblk, index0_1 t]
  congr 1
  blk_ext [index0_1 t]

theorem read2 (t : Fin cfg0.N) (k : Fin 2048) (e : Fin 512) : iblk m c 2 t (ix2 k e) = wV m c k (colOf t 0 e) := by
  have ht := lt_points t
  unfold wV
  blk_simp [iblk, index0_2 t]
  congr 1
  blk_ext [index0_2 t]

theorem read3 (t : Fin cfg0.N) (k : Fin 2048) (e : Fin 512) : iblk m c 3 t (ix2 k e) = wV m c k (colOf t 1 e) := by
  have ht := lt_points t
  unfold wV
  blk_simp [iblk, index0_3 t]
  congr 1
  blk_ext [index0_3 t]

theorem read4 (t : Fin cfg0.N) (k : Fin 2048) (e : Fin 512) : iblk m c 4 t (ix2 k e) = wV m c k (colOf t 2 e) := by
  have ht := lt_points t
  unfold wV
  blk_simp [iblk, index0_4 t]
  congr 1
  blk_ext [index0_4 t]

theorem read5 (t : Fin cfg0.N) (k : Fin 2048) (e : Fin 512) : iblk m c 5 t (ix2 k e) = wV m c k (colOf t 3 e) := by
  have ht := lt_points t
  unfold wV
  blk_simp [iblk, index0_5 t]
  congr 1
  blk_ext [index0_5 t]

/-- The four blocks of weights of a point. -/
theorem reads (t : Fin cfg0.N) (p : Fin 4) (k : Fin 2048) (e : Fin 512) :
    (![iblk m c 2 t, iblk m c 3 t, iblk m c 4 t, iblk m c 5 t] : Fin 4 → FVec Ideal S2048x512 .bf16) p (ix2 k e) = wV m c k (colOf t p e) := by
  match p with
  | ⟨0, _⟩ => exact read2 m c t k e
  | ⟨1, _⟩ => exact read3 m c t k e
  | ⟨2, _⟩ => exact read4 m c t k e
  | ⟨3, _⟩ => exact read5 m c t k e

/-- The rows kept after point `n` are the normalized rows of its block. -/
theorem kept (r : Fin 1024) (k : Fin 2048) : ∀ (n : ℕ) (hn : n < cfg0.N),
    (outsAt0 m c n hn).2 (ix2 r k) = rmsRow (xV m c (rowOf ⟨n, hn⟩ r)) (nV m c) k := by
  have first : ∀ (n : ℕ) (hn : n < cfg0.N), n % 4 = 0 → (outsAt0 m c n hn).2 (ix2 r k) = rmsRow (xV m c (rowOf ⟨n, hn⟩ r)) (nV m c) k := by
    intro n hn h0
    rw [outsAt0_A m c ⟨n, hn⟩ h0]
    dsimp only
    rw [kept_A, pay1_at]
    simp only [read0, read1]
  intro n
  induction n with
  | zero => exact fun hn => first 0 hn rfl
  | succ n ih =>
    intro hn
    by_cases h0 : (n + 1) % 4 = 0
    · exact first _ hn h0
    · rw [outsAt0_B m c ⟨n + 1, hn⟩ h0]
      dsimp only
      rw [kept_B]
      refine (ih (Nat.lt_of_succ_lt hn)).trans ?_
      rw [show rowOf ⟨n, Nat.lt_of_succ_lt hn⟩ r = rowOf ⟨n + 1, hn⟩ r from Fin.ext (by show 1024 * (n / 4) + r.val = 1024 * ((n + 1) / 4) + r.val; omega)]

/-- A point's block of the result. -/
theorem block_at (t : Fin cfg0.N) (r : Fin 1024) (l : Fin 2048) :
    (outsAt0 m c t.val t.isLt).1 (ix2 r l)
      = ∑ k : Fin 2048, rmsRow (xV m c (rowOf t r)) (nV m c) k * wV m c k (colOf t ⟨l.val / 512, by omega⟩ ⟨l.val % 512, by omega⟩) := by
  by_cases h0 : t.val % 4 = 0
  · rw [outsAt0_A m c t h0]
    dsimp only
    rw [out_A]
    show ∑ k : Fin 2048, k0_pay1 (F := Ideal) _ _ (ix2 r k) * (_ : Fin 4 → FVec Ideal S2048x512 .bf16) ⟨l.val / 512, _⟩ (ix2 k (⟨l.val % 512, _⟩ : Fin 512)) = _
    simp only [pay1_at, read0, read1, reads]
  · rw [outsAt0_B m c t h0]
    dsimp only
    rw [out_B]
    show ∑ k : Fin 2048, (outsAt0 m c (t.val - 1) _).2 (ix2 r k) * (_ : Fin 4 → FVec Ideal S2048x512 .bf16) ⟨l.val / 512, _⟩ (ix2 k (⟨l.val % 512, _⟩ : Fin 512)) = _
    simp only [kept, reads]
    rw [show rowOf ⟨t.val - 1, Nat.lt_of_le_of_lt (Nat.sub_le _ _) t.isLt⟩ r = rowOf t r from Fin.ext (by show 1024 * ((t.val - 1) / 4) + r.val = 1024 * (t.val / 4) + r.val; omega)]

/-- The result's rows are tokens, sequence by sequence. -/
abbrev seqOf (i : Fin 16384) : Fin 2 := ⟨i.val / 8192, by omega⟩
abbrev tokOf (i : Fin 16384) : Fin 8192 := ⟨i.val % 8192, by omega⟩

/-- The weights' column of the result's column `n`: four heads at a time of each of the four parts. -/
abbrev partOf (n : Fin 8192) : Fin 8192 := ⟨2048 * (n.val / 512 % 4) + 512 * (n.val / 2048) + n.val % 512, by omega⟩

/-- The projection of the normalized tokens, of the arguments. -/
def projAt (x : FVec Ideal S2x8192x2048 .f32) (nw : FVec Ideal S2048 .f32) (w : FVec Ideal S2048x8192 .f32) (i : Fin 16384) (n : Fin 8192) : EReal :=
  ∑ k : Fin 2048, rmsRow (fun j => x (ix3 (seqOf i) (tokOf i) j)) (fun j => nw (ix1 j)) k * w (ix2 k (partOf n))

/-- Two sequences of rows under each other. -/
theorem rows_read {α : Type} (x : S2x8192x2048.Idx → α) (h : S2x8192x2048.ShapeCasts S16384x2048) (i : Fin 16384) (n : Fin 2048) :
    (shapeCast S16384x2048 x h) (ix2 i n) = x (ix3 (seqOf i) (tokOf i) n) := by
  refine (Pointwise.shapeCast_apply _ _ _).trans (congrArg x ?_)
  refine Shape.reshapeEquiv_eq_of_vals _ _ _ _ _ (rowMajor_val3 _ (8192 * 2048) 2048 rfl rfl) (rowMajor_val2 _ 2048 rfl) ?_
  show i.val / 8192 * (8192 * 2048) + i.val % 8192 * 2048 + n.val = i.val * 2048 + n.val
  omega

theorem V_v0 : V m c main_v0 = (shapeCast S16384x2048 (m ((c : Thread nD τ).loc main_arg0) : FVec Ideal S2x8192x2048 .f32) shapeCasts_S2x8192x2048_S16384x2048 : FVec Ideal S16384x2048 .f32) := by
  entry_read
  rfl

theorem V_v1 : V m c main_v1 = (truncf (F := Ideal) .bf16 (m ((c : Thread nD τ).loc main_arg2) : FVec Ideal S2048x8192 .f32) bitsLt_bf16_f32 : FVec Ideal S2048x8192 .bf16) := by
  entry_read
  rfl

theorem V_v2 : V m c main_v2 = (shapeCast S1x2048 (m ((c : Thread nD τ).loc main_arg1) : FVec Ideal S2048 .f32) shapeCasts_S2048_S1x2048 : FVec Ideal S1x2048 .f32) := by
  entry_read
  rfl

theorem xV_eq (i : Fin 16384) : xV m c i = fun k => m ((c : Thread nD τ).loc main_arg0) (ix3 (seqOf i) (tokOf i) k) :=
  funext fun _ => (congrFun (V_v0 m c) _).trans (rows_read _ _ _ _)

theorem wV_eq (k : Fin 2048) (n : Fin 8192) : wV m c k n = m ((c : Thread nD τ).loc main_arg2) (ix2 k n) := congrFun (V_v1 m c) _

theorem nV_eq : nV m c = fun k => (m ((c : Thread nD τ).loc main_arg1) : FVec Ideal S2048 .f32) (ix1 k) := by
  funext k
  unfold nV
  rw [V_v2]
  pointwise

/-- The kernel's result. -/
theorem ker_out (i : Fin 16384) (n : Fin 8192) :
    G6 m c (ix2 i n) = projAt (m ((c : Thread nD τ).loc main_arg0)) (m ((c : Thread nD τ).loc main_arg1)) (m ((c : Thread nD τ).loc main_arg2)) i n := by
  have hp : pt6Of (ix2 i n) = 4 * (i.val / 1024) + n.val / 2048 := by
    show 4 * (i.val / 1024 - 0) + 1 * (n.val / 2048 - 0) = _
    omega
  have hlt : 4 * (i.val / 1024) + n.val / 2048 < cfg0.N := by rw [show cfg0.N = 64 from N_0]; omega
  have hloc : loc6Of (ix2 i n) = ix2 (⟨i.val % 1024, by omega⟩ : Fin 1024) (⟨n.val % 2048, by omega⟩ : Fin 2048) := by
    funext a; refine Fin.ext ?_
    match a with
    | ⟨0, _⟩ => rfl
    | ⟨1, _⟩ => rfl
  have hrow : rowOf ⟨4 * (i.val / 1024) + n.val / 2048, hlt⟩ (⟨i.val % 1024, by omega⟩ : Fin 1024) = i :=
    Fin.ext (by show 1024 * ((4 * (i.val / 1024) + n.val / 2048) / 4) + i.val % 1024 = i.val; omega)
  have hcol : colOf ⟨4 * (i.val / 1024) + n.val / 2048, hlt⟩ ⟨n.val % 2048 / 512, by omega⟩ ⟨n.val % 2048 % 512, by omega⟩ = partOf n :=
    Fin.ext (by
      show 2048 * (n.val % 2048 / 512) + 512 * ((4 * (i.val / 1024) + n.val / 2048) % 4) + n.val % 2048 % 512
        = 2048 * (n.val / 512 % 4) + 512 * (n.val / 2048) + n.val % 512
      omega)
  unfold G6
  rw [dif_pos (by rw [hp]; exact hlt), hloc, fold0_congr m c _ _ _ (by rw [Nat.zero_add]; exact hlt) hp, ← outsAt0_sweep m c _ hlt]
  refine (block_at m c ⟨4 * (i.val / 1024) + n.val / 2048, hlt⟩ _ _).trans ?_
  dsimp only
  rw [hrow, hcol, xV_eq, nV_eq]
  simp only [wV_eq]
  rfl

end Cert.Kernel2Ideal.Rms

namespace Cert.Reference2Ideal.Rms
open Cert.Reference2Ideal Cert.Reference2Ideal.Gen Cert.Reference2Ideal.Value
open Cert.Kernel2Ideal.Rms (rmsRow projAt seqOf tokOf partOf)

/-! ## The reference's result -/

/-- The normalized tokens. -/
def normR (x : FVec Ideal S2x8192x2048 .f32) (w : FVec Ideal S2048 .f32) : FVec Ideal S2x8192x2048 .f32 :=
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant (F := Ideal) S_ .f32 0x00000000#32) reducesTo_S2x8192x2048_S2x8192_d2 h_S_)) (broadcastInDim S2x8192x1 ![] bcast_S_S2x8192x1 (constant (F := Ideal) S_ .f32 0x45000000#32))) (broadcastInDim S2x8192x1 ![] bcast_S_S2x8192x1 (constant (F := Ideal) S_ .f32 0x358637BD#32)))))) (broadcastInDim S2x8192x2048 ![0, 1, 2] bcast_S1x1x2048_S2x8192x2048_0_1_2 (broadcastInDim S1x1x2048 ![2] bcast_S2048_S1x1x2048_2 w))

theorem normR_at (x : FVec Ideal S2x8192x2048 .f32) (w : FVec Ideal S2048 .f32) (b : Fin 2) (s : Fin 8192) (k : Fin 2048) :
    normR x w (ix3 b s k) = rmsRow (fun j => x (ix3 b s j)) (fun j => w (ix1 j)) k := by
  unfold normR rmsRow
  pointwise

/-- The projection. -/
def prodR (y : FVec Ideal S2x8192x2048 .f32) (w : FVec Ideal S2048x8192 .f32) : FVec Ideal S2x8192x8192 .f32 :=
  Host.dotGeneral dot_S2x8192x2048_S2048x8192_S2x8192x8192_2_0_01_1_n_n none y w

theorem prodR_at (y : FVec Ideal S2x8192x2048 .f32) (w : FVec Ideal S2048x8192 .f32) (b : Fin 2) (s n : Fin 8192) :
    prodR y w (ix3 b s n) = ∑ k : Fin 2048, y (ix3 b s k) * w (ix2 k n) := by
  unfold prodR
  pointwise

/-- A row of `8192` lanes cut into four by four groups of `512`, at an index. -/
theorem split_read {α : Type} (x : S2x8192x8192.Idx → α) (h : S2x8192x8192.ShapeCasts S16384x4x4x512) (n : Fin 16384) (a b : Fin 4) (e : Fin 512) :
    (shapeCast S16384x4x4x512 x h) (ix4 n a b e) = x (ix3 (seqOf n) (tokOf n) (⟨2048 * a.val + 512 * b.val + e.val, by omega⟩ : Fin 8192)) := by
  refine (Pointwise.shapeCast_apply _ _ _).trans (congrArg x ?_)
  refine Shape.reshapeEquiv_eq_of_vals _ _ _ _ _ (rowMajor_val3 _ (8192 * 8192) 8192 rfl rfl) (rowMajor_val4 _ (4 * 4 * 512) (4 * 512) 512 rfl rfl rfl) ?_
  show n.val / 8192 * (8192 * 8192) + n.val % 8192 * 8192 + (2048 * a.val + 512 * b.val + e.val) = n.val * (4 * 4 * 512) + a.val * (4 * 512) + b.val * 512 + e.val
  omega

/-- Four by four groups of `512` put back in one row, at an index. -/
theorem join_read {α : Type} (y : S16384x4x4x512.Idx → α) (h : S16384x4x4x512.ShapeCasts S16384x8192) (n : Fin 16384) (l : Fin 8192) :
    (shapeCast S16384x8192 y h) (ix2 n l)
      = y (ix4 n (⟨l.val / 2048, by omega⟩ : Fin 4) (⟨l.val / 512 % 4, by omega⟩ : Fin 4) (⟨l.val % 512, by omega⟩ : Fin 512)) := by
  refine (Pointwise.shapeCast_apply _ _ _).trans (congrArg y ?_)
  refine Shape.reshapeEquiv_eq_of_vals _ _ _ _ _ (rowMajor_val4 _ (4 * 4 * 512) (4 * 512) 512 rfl rfl rfl) (rowMajor_val2 _ 8192 rfl) ?_
  show n.val * (4 * 4 * 512) + l.val / 2048 * (4 * 512) + l.val / 512 % 4 * 512 + l.val % 512 = n.val * 8192 + l.val
  omega

/-- The reference's result. -/
theorem ref_out (x : FVec Ideal S2x8192x2048 .f32) (nw : FVec Ideal S2048 .f32) (w : FVec Ideal S2048x8192 .f32) (hc hc') (i : Fin 16384) (n : Fin 8192) :
    (truncf (F := Ideal) .bf16 (shapeCast S16384x8192 (transpose S16384x4x4x512 [0, 2, 1, 3] (shapeCast S16384x4x4x512 (prodR (normR x nw) w) hc) transposes_S16384x4x4x512_S16384x4x4x512_0_2_1_3) hc') bitsLt_bf16_f32 : FVec Ideal S16384x8192 .bf16) (ix2 i n)
      = projAt x nw w i n := by
  show (shapeCast S16384x8192 (transpose S16384x4x4x512 [0, 2, 1, 3] (shapeCast S16384x4x4x512 (prodR (normR x nw) w) hc) transposes_S16384x4x4x512_S16384x4x4x512_0_2_1_3) hc') (ix2 i n) = _
  refine (join_read _ _ i n).trans ?_
  refine Eq.trans (b := (shapeCast S16384x4x4x512 (prodR (normR x nw) w) hc) (ix4 i (⟨n.val / 512 % 4, by omega⟩ : Fin 4) (⟨n.val / 2048, by omega⟩ : Fin 4) (⟨n.val % 512, by omega⟩ : Fin 512))) (by pointwise) ?_
  refine (split_read _ _ _ _ _ _).trans ?_
  rw [prodR_at]
  simp only [normR_at]
  rfl

end Cert.Reference2Ideal.Rms
-- ==== Proof.OutProj.lean ====
module

public import proofs.«01_k».proof.Proof.Gen.Kernel3Ideal.Value
public import proofs.«01_k».proof.Proof.Whole
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel3Ideal.Out
open Cert.Kernel3Ideal Cert.Kernel3Ideal.Gen Cert.Kernel3Ideal.Value Cert.Whole

/-! ## The projection of the output: what one grid point computes -/

/-- The residual's block plus the block of the gated output times the weights. -/
theorem pay2_at (h : FVec Ideal S512x2048 .f32) (o : FVec Ideal S512x2048 .bf16) (w : FVec Ideal S2048x2048 .bf16) (r : Fin 512) (n : Fin 2048) :
    k0_pay2 (F := Ideal) h o w (ix2 r n) = h (ix2 r n) + ∑ k : Fin 2048, o (ix2 r k) * w (ix2 k n) := by
  unfold k0_pay2
  pointwise

/-- The weights kept on the first point. -/
theorem pay1_eq (w : FVec Ideal S2048x2048 .f32) : (k0_pay1 (F := Ideal) w : FVec Ideal S2048x2048 .bf16) = w := by
  funext i
  obtain ⟨a, b, rfl⟩ : ∃ (a b : Fin 2048), i = ix2 a b := ⟨i 0, i 1, eq_ix2 i⟩
  unfold k0_pay1
  pointwise

section

variable (c : Dev nD) (i : grid0.Coords) (a1 : Memref sig .tc .vmem S512x2048 .bf16) (ha1 : a1.IsWhole) (a2 : Memref sig .tc .vmem S2048x2048 .f32) (ha2 : a2.IsWhole)
  (a3 : Memref sig .tc .vmem S512x2048 .f32) (ha3 : a3.IsWhole) (a4 : Memref sig .tc .vmem S512x2048 .f32) (ha4 : a4.IsWhole) (a5 : Memref sig .tc .vmem S2048x2048 .bf16) (ha5 : a5.IsWhole)
  (x0 : FVec Ideal S512x2048 .bf16) (x1 : FVec Ideal S2048x2048 .f32) (x2 : FVec Ideal S512x2048 .f32) (xs : FVec Ideal S2048x2048 .bf16)

/-- A later point: its block from the kept weights. -/
theorem out_B (hc0 : ¬cond0_0 i) :
    out0_B_3 (F := Ideal) c i a1 ha1 a2 ha2 a3 ha3 a4 ha4 a5 ha5 hc0 x0 x1 x2 xs = k0_pay2 (F := Ideal) x2 x0 xs := by
  unfold out0_B_3
  rw [View.read_writes_junk_eq_canon]
  unfold kernelRun0_B
  refine (canon_unit (s := S512x2048) zero2 _ _ _).trans ?_
  rw [show View.readAt (Elt Ideal) a3.view (Rect.unit (s := S512x2048) ![0, 0] S512x2048.size inb_S512x2048_S512x2048_0_0).toLoadRect (ha3.unread x2) = x2 from (readAt_unit _ _ zero2 _).trans (ha3.read_unread _),
    show View.readAt (Elt Ideal) a1.view (Rect.unit (s := S512x2048) ![0, 0] S512x2048.size inb_S512x2048_S512x2048_0_0).toLoadRect (ha1.unread x0) = x0 from (readAt_unit _ _ zero2 _).trans (ha1.read_unread _),
    show View.readAt (Elt Ideal) a5.view (Rect.unit (s := S2048x2048) ![0, 0] S2048x2048.size inb_S2048x2048_S2048x2048_0_0).toLoadRect (ha5.unread xs) = xs from (readAt_unit _ _ zero2 _).trans (ha5.read_unread _)]

/-- The first point: its block from the weights it keeps. -/
theorem out_A (hc0 : cond0_0 i) :
    out0_A_3 (F := Ideal) c i a1 ha1 a2 ha2 a3 ha3 a4 ha4 a5 ha5 hc0 x0 x1 x2 = k0_pay2 (F := Ideal) x2 x0 (k0_pay1 (F := Ideal) x1) := by
  unfold out0_A_3
  rw [View.read_writes_junk_eq_canon]
  unfold kernelRun0_A
  refine (canon_unit (s := S512x2048) zero2 _ _ _).trans ?_
  rw [show View.readAt (Elt Ideal) a3.view (Rect.unit (s := S512x2048) ![0, 0] S512x2048.size inb_S512x2048_S512x2048_0_0).toLoadRect (ha3.unread x2) = x2 from (readAt_unit _ _ zero2 _).trans (ha3.read_unread _),
    show View.readAt (Elt Ideal) a1.view (Rect.unit (s := S512x2048) ![0, 0] S512x2048.size inb_S512x2048_S512x2048_0_0).toLoadRect (ha1.unread x0) = x0 from (readAt_unit _ _ zero2 _).trans (ha1.read_unread _)]
  refine congrArg (k0_pay2 (F := Ideal) x2 x0) ?_
  unfold kernelRun0_A.sl.v7 kernelRun0_A.sl.HS0_1
  refine (readCov_unit _ zero2 zero2 _ _ _ _).trans ?_
  exact congrArg (k0_pay1 (F := Ideal)) ((readAt_unit _ _ zero2 _).trans (ha2.read_unread _))

/-- The weights that a later point keeps. -/
theorem kept_B (hc0 : ¬cond0_0 i) :
    sout0_B_0 (F := Ideal) c i a1 ha1 a2 ha2 a3 ha3 a4 ha4 a5 ha5 hc0 x0 x1 x2 xs = xs := rfl

/-- The weights that the first point keeps. -/
theorem kept_A (hc0 : cond0_0 i) :
    sout0_A_0 (F := Ideal) c i a1 ha1 a2 ha2 a3 ha3 a4 ha4 a5 ha5 hc0 x0 x1 x2 = k0_pay1 (F := Ideal) x1 := by
  unfold sout0_A_0
  rw [View.read_writes_junk_eq_canon]
  unfold kernelRun0_A
  unfold kernelRun0_A.sl.HS0_1
  refine (canon_unit (s := S2048x2048) zero2 _ _ _).trans ?_
  exact congrArg (k0_pay1 (F := Ideal)) ((readAt_unit _ _ zero2 _).trans (ha2.read_unread _))

end

variable (m : (ℓ : Loc nD τ sig) → Buf (Elt Ideal) ℓ) (c : Dev nD)

theorem index0_0 : ∀ t : Fin cfg0.N, win0_0.index t = ![t.val, 0] := (by decide +kernel : ∀ t : Fin grid0.N, win0_0.index t = ![t.val, 0])

theorem index0_1 : ∀ t : Fin cfg0.N, win0_1.index t = ![0, 0] := (by decide +kernel : ∀ t : Fin grid0.N, win0_1.index t = ![0, 0])

theorem index0_2 : ∀ t : Fin cfg0.N, win0_2.index t = ![t.val, 0] := (by decide +kernel : ∀ t : Fin grid0.N, win0_2.index t = ![t.val, 0])

theorem lt_points (t : Fin cfg0.N) : t.val < 32 := lt_of_lt_of_eq t.isLt (show cfg0.N = 32 from N_0)

/-- The gated output, as the region reads it. -/
def oV (i : Fin 16384) (k : Fin 2048) : EReal := V m c main_v1 (ix2 i k)

/-- The weights. -/
def wV (k n : Fin 2048) : EReal := V m c main_arg1 (ix2 k n)

/-- The residual. -/
def hV (i : Fin 16384) (n : Fin 2048) : EReal := V m c main_v2 (ix2 i n)

/-- The gated output's block. -/
theorem read0 (t : Fin cfg0.N) (r : Fin 512) (k : Fin 2048) :
    iblk m c 0 t (ix2 r k) = oV m c (⟨512 * t.val + r.val, by have := lt_points t; omega⟩ : Fin 16384) k := by
  have ht := lt_points t
  unfold oV
  blk_simp [iblk, index0_0 t]
  congr 1
  blk_ext [index0_0 t]

/-- The weights, whole at every point. -/
theorem read1 (t : Fin cfg0.N) (k n : Fin 2048) : iblk m c 1 t (ix2 k n) = wV m c k n := by
  unfold wV
  blk_simp [iblk, index0_1 t]
  congr 1
  blk_ext [index0_1 t]

/-- The residual's block. -/
theorem read2 (t : Fin cfg0.N) (r : Fin 512) (k : Fin 2048) :
    iblk m c 2 t (ix2 r k) = hV m c (⟨512 * t.val + r.val, by have := lt_points t; omega⟩ : Fin 16384) k := by
  have ht := lt_points t
  unfold hV
  blk_simp [iblk, index0_2 t]
  congr 1
  blk_ext [index0_2 t]

theorem V_v1 : V m c main_v1 = (shapeCast S16384x2048 (truncf (F := Ideal) .bf16 (m ((c : Thread nD τ).loc main_arg0) : FVec Ideal S2x8192x2048 .f32) bitsLt_bf16_f32) shapeCasts_S2x8192x2048_S16384x2048 : FVec Ideal S16384x2048 .bf16) := by
  entry_read
  rfl

theorem V_v2 : V m c main_v2 = (shapeCast S16384x2048 (m ((c : Thread nD τ).loc main_arg2) : FVec Ideal S2x8192x2048 .f32) shapeCasts_S2x8192x2048_S16384x2048 : FVec Ideal S16384x2048 .f32) := by
  entry_read
  rfl

/-- The kept weights are the weights. -/
theorem kept (n : ℕ) (hn : n < cfg0.N) (k l : Fin 2048) : (outsAt0 m c n hn).2 (ix2 k l) = wV m c k l := by
  have e : ∀ (n : ℕ) (hn : n < cfg0.N), (outsAt0 m c n hn).2 (ix2 k l) = wV m c k l := by
    intro n
    induction n with
    | zero =>
      intro hn
      rw [outsAt0_A m c ⟨0, hn⟩ (Nat.zero_mod _)]
      dsimp only
      rw [kept_A, pay1_eq]
      exact read1 m c _ k l
    | succ n ih =>
      intro hn
      have hN := lt_points ⟨n + 1, hn⟩
      rw [outsAt0_B m c ⟨n + 1, hn⟩ (by simp only at hN ⊢; omega)]
      dsimp only
      rw [kept_B]
      exact ih (Nat.lt_of_succ_lt hn)
  exact e n hn

/-- A point's block of the result. -/
theorem block_at (t : Fin cfg0.N) (r : Fin 512) (n : Fin 2048) :
    (outsAt0 m c t.val t.isLt).1 (ix2 r n)
      = hV m c (⟨512 * t.val + r.val, by have := lt_points t; omega⟩ : Fin 16384) n
        + ∑ k : Fin 2048, oV m c (⟨512 * t.val + r.val, by have := lt_points t; omega⟩ : Fin 16384) k * wV m c k n := by
  by_cases h0 : t.val % 32 = 0
  · rw [outsAt0_A m c t h0]
    dsimp only
    rw [out_A, pay1_eq, pay2_at, read2]
    simp only [read0, read1]
  · rw [outsAt0_B m c t h0]
    dsimp only
    rw [out_B, pay2_at, read2]
    simp only [read0, kept]

/-- The result's rows are tokens, sequence by sequence. -/
abbrev seqOf (i : Fin 16384) : Fin 2 := ⟨i.val / 8192, by omega⟩
abbrev tokOf (i : Fin 16384) : Fin 8192 := ⟨i.val % 8192, by omega⟩

/-- The residual plus the product, of the arguments. -/
def outAt (o : FVec Ideal S2x8192x2048 .f32) (w : FVec Ideal S2048x2048 .f32) (h : FVec Ideal S2x8192x2048 .f32) (i : Fin 16384) (n : Fin 2048) : EReal :=
  h (ix3 (seqOf i) (tokOf i) n) + ∑ k : Fin 2048, o (ix3 (seqOf i) (tokOf i) k) * w (ix2 k n)

/-- Two sequences of rows under each other. -/
theorem rows_read {α : Type} (x : S2x8192x2048.Idx → α) (h : S2x8192x2048.ShapeCasts S16384x2048) (i : Fin 16384) (n : Fin 2048) :
    (shapeCast S16384x2048 x h) (ix2 i n) = x (ix3 (seqOf i) (tokOf i) n) := by
  refine (Pointwise.shapeCast_apply _ _ _).trans (congrArg x ?_)
  refine Shape.reshapeEquiv_eq_of_vals _ _ _ _ _ (rowMajor_val3 _ (8192 * 2048) 2048 rfl rfl) (rowMajor_val2 _ 2048 rfl) ?_
  show i.val / 8192 * (8192 * 2048) + i.val % 8192 * 2048 + n.val = i.val * 2048 + n.val
  omega

theorem oV_eq (i : Fin 16384) (k : Fin 2048) : oV m c i k = m ((c : Thread nD τ).loc main_arg0) (ix3 (seqOf i) (tokOf i) k) :=
  (congrFun (V_v1 m c) _).trans (rows_read _ _ _ _)

theorem hV_eq (i : Fin 16384) (k : Fin 2048) : hV m c i k = m ((c : Thread nD τ).loc main_arg2) (ix3 (seqOf i) (tokOf i) k) :=
  (congrFun (V_v2 m c) _).trans (rows_read _ _ _ _)

theorem wV_eq (k n : Fin 2048) : wV m c k n = m ((c : Thread nD τ).loc main_arg1) (ix2 k n) := congrFun (V_main_arg1 m c) _

/-- The kernel's result. -/
theorem ker_out (i : Fin 16384) (n : Fin 2048) :
    G3 m c (ix2 i n) = outAt (m ((c : Thread nD τ).loc main_arg0)) (m ((c : Thread nD τ).loc main_arg1)) (m ((c : Thread nD τ).loc main_arg2)) i n := by
  have hp : pt3Of (ix2 i n) = i.val / 512 := by
    show 1 * (i.val / 512 - 0) + 1 * (n.val / 2048 - 0) = i.val / 512
    omega
  have hlt : i.val / 512 < cfg0.N := by rw [show cfg0.N = 32 from N_0]; omega
  have hloc : loc3Of (ix2 i n) = ix2 (⟨i.val % 512, by omega⟩ : Fin 512) n := by
    funext a; refine Fin.ext ?_
    match a with
    | ⟨0, _⟩ => rfl
    | ⟨1, _⟩ => show n.val % 2048 = n.val; omega
  have hrow : (⟨512 * (i.val / 512) + i.val % 512, by omega⟩ : Fin 16384) = i := Fin.ext (by show 512 * (i.val / 512) + i.val % 512 = i.val; omega)
  unfold G3
  rw [dif_pos (by rw [hp]; exact hlt), hloc, fold0_congr m c _ _ _ (by rw [Nat.zero_add]; exact hlt) hp, ← outsAt0_sweep m c _ hlt]
  refine (block_at m c ⟨i.val / 512, hlt⟩ _ n).trans ?_
  dsimp only
  rw [hrow, hV_eq]
  simp only [oV_eq, wV_eq]
  rfl

end Cert.Kernel3Ideal.Out

namespace Cert.Reference3Ideal.Out
open Cert.Reference3Ideal Cert.Reference3Ideal.Gen Cert.Reference3Ideal.Value

/-- The reference's result. -/
theorem ref_out (o : FVec Ideal S2x8192x2048 .f32) (w : FVec Ideal S2048x2048 .f32) (h : FVec Ideal S2x8192x2048 .f32) (hc) (i : Fin 16384) (n : Fin 2048) :
    (shapeCast S16384x2048 (addf h (Host.dotGeneral dot_S2x8192x2048_S2048x2048_S2x8192x2048_2_0_01_1_n_n none o w : FVec Ideal S2x8192x2048 .f32)) hc) (ix2 i n)
      = Cert.Kernel3Ideal.Out.outAt o w h i n := by
  refine (Cert.Kernel3Ideal.Out.rows_read _ _ i n).trans ?_
  unfold Cert.Kernel3Ideal.Out.outAt
  pointwise

end Cert.Reference3Ideal.Out
-- ==== Proof.TailBody.lean ====
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Whole
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Tail

open Cert.Kernel4Ideal Cert.Kernel4Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## One grid point of the projection with its tail -/

/-- The body normalises at the first of every four points. -/
theorem first_iff (t : Fin cfg0.N) : k0_cond1 (grid0.coords t) = 1#1 ↔ t.val % 4 = 0 := by
  have ht : t.val < 64 := Nat.lt_of_lt_of_eq t.isLt N_0
  have e1 : (grid0.coords t 1).val = t.val / 1 % 4 := Pipeline.Grid.coords_val t 1 (by decide) rfl
  simp only [k0_cond1, e1]
  word_cmp

/-- The four stores of a point, last first: the products of the normalised rows with the four blocks of columns. -/
def stores (h : Vec F S1024x2048 .bf16) (w0 w1 w2 w3 : Vec F S512x2048 .bf16) : List (View.Piece (Elt F) S1024x2048 .bf16) :=
  [⟨Rect.unit (s := S1024x2048) ![0, 1536] S1024x512.size Facts₀.inb_S1024x2048_S1024x512_0_1536, k0_pay7 h w3⟩,
   ⟨Rect.unit (s := S1024x2048) ![0, 1024] S1024x512.size Facts₀.inb_S1024x2048_S1024x512_0_1024, k0_pay6 h w2⟩,
   ⟨Rect.unit (s := S1024x2048) ![0, 512] S1024x512.size Facts₀.inb_S1024x2048_S1024x512_0_512, k0_pay5 h w1⟩,
   ⟨Rect.unit (s := S1024x2048) ![0, 0] S1024x512.size Facts₀.inb_S1024x2048_S1024x512_0_0, k0_pay4 h w0⟩]

/-- The four stores fill the block. -/
theorem stores_cover (h : Vec F S1024x2048 .bf16) (w0 w1 w2 w3 : Vec F S512x2048 .bf16) (y : S1024x2048.Idx) :
    ∃ pc ∈ stores h w0 w1 w2 w3, y ∈ pc.1.set :=
  View.cover_of_tiledL (stores h w0 w1 w2 w3) S1024x512.size (by sl_kernel_rfl) y

/-- The block of products a point leaves. -/
def tile (h : Vec F S1024x2048 .bf16) (w0 w1 w2 w3 : Vec F S512x2048 .bf16) : Vec F S1024x2048 .bf16 :=
  View.canon (stores h w0 w1 w2 w3)

theorem read_stores (v : View sig .tc .vmem S1024x2048 .bf16) (f : v.ty.Contents (Elt F)) (h : Vec F S1024x2048 .bf16) (w0 w1 w2 w3 : Vec F S512x2048 .bf16) :
    v.read (Elt F) (v.writes (Elt F) f (stores h w0 w1 w2 w3)) = tile h w0 w1 w2 w3 :=
  (View.read_writes_of_cover v f v v.junk _ (stores_cover h w0 w1 w2 w3)).trans (View.read_writes_junk_eq_canon ..)

/-- A load of a whole buffer that holds `x`. -/
theorem load_whole {s : Shape} {e : EltTy} (a : Memref sig .tc .vmem s e) (ha : a.IsWhole) (x : Vec F s e) {off : Fin s.rank → ℕ} (hoff : ∀ k, off k = 0) (inb) :
    View.readAt (Elt F) a.view (Rect.unit (s := s) off s.size inb).toLoadRect (ha.unread x) = x :=
  (readAt_unit a.view _ hoff inb).trans (ha.read_unread x)

/-- What a store of a whole buffer leaves. -/
theorem read_store_whole {s : Shape} {e : EltTy} (v : View sig .tc .vmem s e) (f : v.ty.Contents (Elt F)) (x : Vec F s e) {off : Fin s.rank → ℕ} (hoff : ∀ k, off k = 0) (inb) :
    v.read (Elt F) (v.writes (Elt F) f [⟨Rect.unit (s := s) off s.size inb, x⟩]) = x :=
  funext fun j => (congrArg _ (emb_unit hoff inb j).symm).trans (View.read_writes_cons_emb ..)

section

variable (c : Dev nD) (i : grid0.Coords) (a2 : Memref sig .tc .vmem S1024x2048 .f32) (ha2 : a2.IsWhole) (a3 : Memref sig .tc .vmem S1x2048 .f32) (ha3 : a3.IsWhole)
  (a4 : Memref sig .tc .vmem S512x2048 .bf16) (ha4 : a4.IsWhole) (a5 : Memref sig .tc .vmem S512x2048 .bf16) (ha5 : a5.IsWhole)
  (a6 : Memref sig .tc .vmem S512x2048 .bf16) (ha6 : a6.IsWhole) (a7 : Memref sig .tc .vmem S512x2048 .bf16) (ha7 : a7.IsWhole)
  (a8 : Memref sig .tc .vmem S128x2048 .bf16) (ha8 : a8.IsWhole) (a9 : Memref sig .tc .vmem S1024x2048 .bf16) (ha9 : a9.IsWhole)
  (a10 : Memref sig .tc .vmem S1024x128 .f32) (ha10 : a10.IsWhole) (a11 : Memref sig .tc .vmem S1024x2048 .bf16) (ha11 : a11.IsWhole)
  (x0 : Vec F S1024x2048 .f32) (x1 : Vec F S1x2048 .f32) (w0 w1 w2 w3 : Vec F S512x2048 .bf16) (wt : Vec F S128x2048 .bf16) (h : Vec F S1024x2048 .bf16)

set_option maxHeartbeats 1000000 in
/-- A point that doesn't normalise: the products of the rows the scratch holds. -/
theorem run_later (hc : ¬k0_cond1 i = 1#1) (E : Set ℕ) (K : PUnit → sProp 𝕄) :
    iprop(owns (c : Thread nD τ) a4 fullShare w0 ∗ owns (c : Thread nD τ) a5 fullShare w1 ∗ owns (c : Thread nD τ) a6 fullShare w2 ∗ owns (c : Thread nD τ) a7 fullShare w3
        ∗ (∃ d, owns (c : Thread nD τ) a9 fullShare d) ∗ owns (c : Thread nD τ) a11 fullShare h
        ∗ (iprop(owns (c : Thread nD τ) a4 fullShare w0 ∗ owns (c : Thread nD τ) a5 fullShare w1 ∗ owns (c : Thread nD τ) a6 fullShare w2 ∗ owns (c : Thread nD τ) a7 fullShare w3
            ∗ owns (c : Thread nD τ) a9 fullShare (tile h w0 w1 w2 w3) ∗ owns (c : Thread nD τ) a11 fullShare h) -∗ K ⟨⟩))
      ⊢ wp frame (wpE (defs₀ (F := F)) Variants.none c none) E (cc0_rms_proj_tail i a2 ha2 a3 ha3 a4 ha4 a5 ha5 a6 ha6 a7 ha7 a8 ha8 a9 ha9 a10 ha10 a11 ha11) K := by
  simp only [cc0_rms_proj_tail_eq_skeleton]; unfold cc0_rms_proj_tail_skel
  simp only [k0_part1_eq_skeleton]
  unfold owns
  iintro ⟨⟨%f4, %hf4, H4⟩, ⟨%f5, %hf5, H5⟩, ⟨%f6, %hf6, H6⟩, ⟨%f7, %hf7, H7⟩, ⟨%d9, %f9, -, H9⟩, ⟨%f11, %hf11, H11⟩, Hk⟩
  obtain rfl := ha4.eq_unread hf4; obtain rfl := ha5.eq_unread hf5; obtain rfl := ha6.eq_unread hf6; obtain rfl := ha7.eq_unread hf7; obtain rfl := ha11.eq_unread hf11
  sl_exec (disch := first | sl_exact hc)
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H9]
  · iexists _; isplitr
    swap; · iexact H9
    ipureintro
    refine Eq.trans ?_ (read_stores a9.view f9 h w0 w1 w2 w3)
    unfold run_later.sl.r
    rw [load_whole a11 ha11 h zero2, load_whole a4 ha4 w0 zero2, load_whole a5 ha5 w1 zero2, load_whole a6 ha6 w2 zero2, load_whole a7 ha7 w3 zero2]
    rfl
  iexists _; isplitr; · ipureintro; exact hf11
  iexact H11

set_option maxHeartbeats 1000000 in
/-- A point that normalises: it fills the scratch with the normalised rows, leaves their product with the tail, and their products with the four blocks. -/
theorem run_first (hc : k0_cond1 i = 1#1) (E : Set ℕ) (K : PUnit → sProp 𝕄) :
    iprop(owns (c : Thread nD τ) a2 fullShare x0 ∗ owns (c : Thread nD τ) a3 fullShare x1
        ∗ owns (c : Thread nD τ) a4 fullShare w0 ∗ owns (c : Thread nD τ) a5 fullShare w1 ∗ owns (c : Thread nD τ) a6 fullShare w2 ∗ owns (c : Thread nD τ) a7 fullShare w3
        ∗ owns (c : Thread nD τ) a8 fullShare wt
        ∗ (∃ d, owns (c : Thread nD τ) a9 fullShare d) ∗ (∃ d, owns (c : Thread nD τ) a10 fullShare d) ∗ (∃ d, owns (c : Thread nD τ) a11 fullShare d)
        ∗ (iprop(owns (c : Thread nD τ) a2 fullShare x0 ∗ owns (c : Thread nD τ) a3 fullShare x1
            ∗ owns (c : Thread nD τ) a4 fullShare w0 ∗ owns (c : Thread nD τ) a5 fullShare w1 ∗ owns (c : Thread nD τ) a6 fullShare w2 ∗ owns (c : Thread nD τ) a7 fullShare w3
            ∗ owns (c : Thread nD τ) a8 fullShare wt
            ∗ owns (c : Thread nD τ) a9 fullShare (tile (k0_pay2 x0 x1) w0 w1 w2 w3) ∗ owns (c : Thread nD τ) a10 fullShare (k0_pay3 x0 x1 wt)
            ∗ owns (c : Thread nD τ) a11 fullShare (k0_pay2 x0 x1)) -∗ K ⟨⟩))
      ⊢ wp frame (wpE (defs₀ (F := F)) Variants.none c none) E (cc0_rms_proj_tail i a2 ha2 a3 ha3 a4 ha4 a5 ha5 a6 ha6 a7 ha7 a8 ha8 a9 ha9 a10 ha10 a11 ha11) K := by
  simp only [cc0_rms_proj_tail_eq_skeleton]; unfold cc0_rms_proj_tail_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  obtain rfl := ha2.eq_unread hf2; obtain rfl := ha3.eq_unread hf3; obtain rfl := ha8.eq_unread hf8
  obtain rfl := ha4.eq_unread hf4; obtain rfl := ha5.eq_unread hf5; obtain rfl := ha6.eq_unread hf6; obtain rfl := ha7.eq_unread hf7
  sl_exec (disch := first | sl_exact hc)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    refine Eq.trans ?_ (read_stores a9.view f9 (k0_pay2 x0 x1) w0 w1 w2 w3)
    unfold run_first.sl.r run_first.sl.v3 run_first.sl.H11_1
    rw [readCov_unit a11.view zero2 zero2, load_whole a2 ha2 x0 zero2, load_whole a3 ha3 x1 zero2,
      load_whole a4 ha4 w0 zero2, load_whole a5 ha5 w1 zero2, load_whole a6 ha6 w2 zero2, load_whole a7 ha7 w3 zero2]
    rfl
  isplitl [H10]
  · iexists _; isplitr
    swap; · iexact H10
    ipureintro
    rw [load_whole a2 ha2 x0 zero2, load_whole a3 ha3 x1 zero2, load_whole a8 ha8 wt zero2]
    exact read_store_whole a10.view f10 _ zero2 _
  iexists _; isplitr
  swap; · iexact H11
  ipureintro
  unfold run_first.sl.H11_1
  rw [load_whole a2 ha2 x0 zero2, load_whole a3 ha3 x1 zero2]
  exact read_store_whole a11.view f11 _ zero2 _

end

end Cert.Kernel4Ideal.Tail
-- ==== Proof.TailRun.lean ====
module

public import proofs.«01_k».proof.Proof.TailBody
public import Idealize.ShloMosaic.Lib.Claim

@[expose] public section

set_option maxRecDepth 16384

noncomputable section

namespace Cert.Kernel4Ideal.Tail

open Cert.Kernel4Ideal Cert.Kernel4Ideal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's part -/

/-- The host's operations before the region. -/
abbrev host : List (List (HloOp τ sig (Elt F))) := [hostOps0, hostOps0_1, hostOps0_2]

/-- What a buffer holds when the region is entered. -/
abbrev V (c : Dev nD) (b : Ref sig .tc) : Buf (Elt F) ((c : Thread nD τ).loc b) :=
  StableHlo.after (List.flatten host) (fun b => m (c, b)) b

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main host (by simp only [List.Forall]; exact ⟨hostOps0_sub, hostOps0_1_sub, hostOps0_2_sub⟩)
    (by simp only [List.Forall]; repeat' constructor) main_chain

/-- The host writes no argument. -/
theorem V_arg (c : Dev nD) : V m c main_arg0 = m ((c : Thread nD τ).loc main_arg0) ∧ V m c main_arg1 = m ((c : Thread nD τ).loc main_arg1)
    ∧ V m c main_arg2 = m ((c : Thread nD τ).loc main_arg2) := by
  refine ⟨?_, ?_, ?_⟩ <;>
  · refine StableHlo.after_of_forall_not_mem _ _ (List.forall_iff_forall_mem.mp ?_)
    simp only [host, hostOps0, hostOps0_1, hostOps0_2, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)

/-! ## What the buffers hold after each point -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A block the array's end doesn't cut, as contents of its buffer. -/
def uncut {α : Type} {G : Pipeline.Grid} (w : Pipeline.Window sig G) (i : G.Coords) (h : w.clipped i = false) (g : (w.xblock i).Idx → α) : w.block.Idx → α :=
  fun j => g fun a => ⟨(j a).val, by
    show (j a).val < (w.clip i a).extent (w.size a)
    rw [(w.clipped_eq_false_iff i).mp h a]; exact (j a).isLt⟩

/-- Such a block fills its buffer. -/
theorem fill_uncut {α : Type} {G : Pipeline.Grid} (w : Pipeline.Window sig G) (i : G.Coords) (h : w.clipped i = false) (d : w.block.Idx → α) (g : (w.xblock i).Idx → α) :
    w.fill i d g = uncut w i h g := by
  funext j
  have hm : w.moved i j = true := (w.moved_iff i j).mpr fun a => by
    show (j a).val < (w.clip i a).extent (w.size a)
    rw [(w.clipped_eq_false_iff i).mp h a]; exact (j a).isLt
  exact dif_pos hm

/-- No point's block of weights reaches the array's end. -/
theorem inside2 : ∀ t : Fin cfg0.N, (cfg0.win 2).clipped (cfg0.grid.coords t) = false := (by decide +kernel : ∀ t : Fin grid0.N, win0_2.clipped (grid0.coords t) = false)
theorem inside3 : ∀ t : Fin cfg0.N, (cfg0.win 3).clipped (cfg0.grid.coords t) = false := (by decide +kernel : ∀ t : Fin grid0.N, win0_3.clipped (grid0.coords t) = false)
theorem inside4 : ∀ t : Fin cfg0.N, (cfg0.win 4).clipped (cfg0.grid.coords t) = false := (by decide +kernel : ∀ t : Fin grid0.N, win0_4.clipped (grid0.coords t) = false)
theorem inside5 : ∀ t : Fin cfg0.N, (cfg0.win 5).clipped (cfg0.grid.coords t) = false := (by decide +kernel : ∀ t : Fin grid0.N, win0_5.clipped (grid0.coords t) = false)

/-- The four blocks of weights of a point. -/
def wt0 (c : Dev nD) (t : Fin cfg0.N) : Vec F S512x2048 .bf16 := uncut (cfg0.win 2) (cfg0.grid.coords t) (inside2 t) (iblk m c 2 t)
def wt1 (c : Dev nD) (t : Fin cfg0.N) : Vec F S512x2048 .bf16 := uncut (cfg0.win 3) (cfg0.grid.coords t) (inside3 t) (iblk m c 3 t)
def wt2 (c : Dev nD) (t : Fin cfg0.N) : Vec F S512x2048 .bf16 := uncut (cfg0.win 4) (cfg0.grid.coords t) (inside4 t) (iblk m c 4 t)
def wt3 (c : Dev nD) (t : Fin cfg0.N) : Vec F S512x2048 .bf16 := uncut (cfg0.win 5) (cfg0.grid.coords t) (inside5 t) (iblk m c 5 t)

/-- The first of the four points that share `t`'s rows. -/
def head (t : Fin cfg0.N) : Fin cfg0.N := ⟨4 * (t.val / 4), by have := t.isLt; omega⟩

theorem head_self (t : Fin cfg0.N) (h : t.val % 4 = 0) : head t = t := Fin.ext (by show 4 * (t.val / 4) = t.val; omega)

theorem head_pred (t : Fin cfg0.N) (h : ¬t.val % 4 = 0) (hp : t.val - 1 < cfg0.N) : head ⟨t.val - 1, hp⟩ = head t :=
  Fin.ext (by show 4 * ((t.val - 1) / 4) = 4 * (t.val / 4); omega)

/-- The normalised rows the scratch holds after point `t`. -/
def rowsAt (c : Dev nD) (t : Fin cfg0.N) : Vec F S1024x2048 .bf16 := k0_pay2 (iblk m c 0 (head t)) (iblk m c 1 (head t))

/-- The first result's block after point `t`. -/
def mainAt (c : Dev nD) (t : Fin cfg0.N) : Vec F S1024x2048 .bf16 :=
  tile (rowsAt m c t) (wt0 m c t) (wt1 m c t) (wt2 m c t) (wt3 m c t)

/-- The second result's block after point `t`. -/
def tailAt (c : Dev nD) (t : Fin cfg0.N) : Vec F S1024x128 .f32 :=
  k0_pay3 (iblk m c 0 (head t)) (iblk m c 1 (head t)) (iblk m c 6 (head t))

/-- The scratch as a memref. -/
abbrev scratch : Memref sig .tc .vmem S1024x2048 .bf16 := Memref.whole cc0_scratch0

/-- Before the first point the scratch holds anything, before each later one the rows of the point before. -/
def inv (c : Dev nD) : (n : ℕ) → n ≤ cfg0.N → sProp 𝕄
  | 0, _ => Pipeline.ΦA spec0 c
  | n + 1, hn => iprop(owns (c : Thread nD τ) scratch fullShare (rowsAt m c ⟨n, hn⟩) ∗ (∃ r, prngReg c r))

theorem start_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

theorem inv_pos (c : Dev nD) (t : Fin cfg0.N) (hz : t.val ≠ 0) :
    inv m c t.val (Nat.le_of_lt t.isLt)
      = iprop(owns (c : Thread nD τ) scratch fullShare (rowsAt m c ⟨t.val - 1, Nat.lt_of_le_of_lt (Nat.sub_le _ _) t.isLt⟩) ∗ (∃ r, prngReg c r)) := by
  obtain ⟨n, hn⟩ := t
  cases n with
  | zero => exact absurd rfl hz
  | succ n => rfl

/-- At any point the scratch holds something. -/
theorem inv_some (c : Dev nD) (n : ℕ) (hn : n ≤ cfg0.N) :
    inv m c n hn ⊢ iprop((∃ d, owns (c : Thread nD τ) scratch fullShare d) ∗ (∃ r, prngReg c r)) := by
  cases n with
  | zero => show Pipeline.ΦA spec0 c ⊢ _; rw [start_eq]
  | succ n =>
    show iprop(owns (c : Thread nD τ) scratch fullShare (rowsAt m c ⟨n, hn⟩) ∗ (∃ r, prngReg c r)) ⊢ _
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wt0 m c t
    | ⟨3, _⟩ => wt1 m c t
    | ⟨4, _⟩ => wt2 m c t
    | ⟨5, _⟩ => wt3 m c t
    | ⟨6, _⟩ => iblk m c 6 t
    | ⟨7, _⟩ => mainAt m c t
    | ⟨8, _⟩ => tailAt m c t
  Φ t := inv m c t.val (Nat.le_of_lt_succ t.isLt)
  q w := Pipeline.shareOf spec0 w
  owed _ := 0

theorem arrays (c : Dev nD) (w : Fin cfg0.W) : (dats m 0 c).A w = V m c (Pipeline.arrRef spec0 w) := by
  dsimp only [dats]

theorem after_main (c : Dev nD) (t : Fin cfg0.N) : (dats m 0 c).after 7 t = mainAt m c t := by dsimp only [dats]
theorem after_tail (c : Dev nD) (t : Fin cfg0.N) : (dats m 0 c).after 8 t = tailAt m c t := by dsimp only [dats]

/-- An input's buffer holds its block at every point. -/
theorem before_in (c : Dev nD) (t : Fin cfg0.N) :
    (∀ d, (dats m 0 c).before 0 t d = iblk m c 0 t) ∧ (∀ d, (dats m 0 c).before 1 t d = iblk m c 1 t) ∧ (∀ d, (dats m 0 c).before 2 t d = wt0 m c t)
      ∧ (∀ d, (dats m 0 c).before 3 t d = wt1 m c t) ∧ (∀ d, (dats m 0 c).before 4 t d = wt2 m c t) ∧ (∀ d, (dats m 0 c).before 5 t d = wt3 m c t)
      ∧ (∀ d, (dats m 0 c).before 6 t d = iblk m c 6 t) := by
  refine ⟨fun d => ?_, fun d => ?_, fun d => ?_, fun d => ?_, fun d => ?_, fun d => ?_, fun d => ?_⟩
  · exact (dats m 0 c).before_in_eq_fetched 0 rfl (fun _ => rfl) (fun _ _ _ => rfl) (fun _ => rfl) t d
  · exact (dats m 0 c).before_in_eq_fetched 1 rfl (fun _ => rfl) (fun _ _ _ => rfl) (fun _ => rfl) t d
  · exact ((dats m 0 c).before_fetched 2 t (fetch0_2 t) d).trans (fill_uncut _ _ (inside2 t) _ _)
  · exact ((dats m 0 c).before_fetched 3 t (fetch0_3 t) d).trans (fill_uncut _ _ (inside3 t) _ _)
  · exact ((dats m 0 c).before_fetched 4 t (fetch0_4 t) d).trans (fill_uncut _ _ (inside4 t) _ _)
  · exact ((dats m 0 c).before_fetched 5 t (fetch0_5 t) d).trans (fill_uncut _ _ (inside5 t) _ _)
  · exact (dats m 0 c).before_in_eq_fetched 6 rfl (fun _ => rfl) (fun _ _ _ => rfl) (fun _ => rfl) t d

/-- The second result's window is idle where the body doesn't normalise. -/
theorem idle_tail (t : Fin cfg0.N) : cfg0.idle 8 (cfg0.grid.coords t) = true ↔ ¬t.val % 4 = 0 := by
  rw [← first_iff t]
  show (!(k0_cond1 (grid0.coords t) == 1#1)) = true ↔ _
  rw [Bool.not_eq_true', beq_eq_false_iff_ne]

theorem tailAt_pred (c : Dev nD) (t : Fin cfg0.N) (h : ¬t.val % 4 = 0) (hp : t.val - 1 < cfg0.N) : tailAt m c ⟨t.val - 1, hp⟩ = tailAt m c t := by
  unfold tailAt; rw [head_pred t h hp]

/-- Where the body doesn't normalise, the second result's buffer already holds the block of its rows. -/
theorem before_tail (c : Dev nD) : ∀ (n : ℕ) (hn : n < cfg0.N) (_ : ¬n % 4 = 0) (d), (dats m 0 c).before 8 ⟨n, hn⟩ d = tailAt m c ⟨n, hn⟩
  | 0, _, h, _ => absurd rfl h
  | n + 1, hn, h, d => by
    have hp : n < cfg0.N := Nat.lt_of_succ_lt hn
    have hf : (cfg0.win 8).flush ⟨n, hp⟩ = false := Bool.eq_false_iff.mpr fun hf => by have := (flush0_8 ⟨n, hp⟩).mp hf; dsimp only at this; omega
    refine ((dats m 0 c).before_of_pos 8 ⟨n + 1, hn⟩ (Nat.succ_ne_zero n) rfl d).trans ?_
    refine (if_neg (by rw [show (⟨n + 1 - 1, _⟩ : Fin cfg0.N) = ⟨n, hp⟩ from rfl, hf]; exact Bool.false_ne_true)).trans ?_
    refine Eq.trans ?_ (tailAt_pred m c ⟨n + 1, hn⟩ h hp)
    show (dats m 0 c).left 8 ⟨n, hp⟩ d = tailAt m c ⟨n, hp⟩
    by_cases h0 : n % 4 = 0
    · have hi : cfg0.idle 8 (cfg0.grid.coords ⟨n, hp⟩) = false := Bool.eq_false_iff.mpr fun hi => (idle_tail ⟨n, hp⟩).mp hi h0
      unfold Dat.left; rw [hi]; rfl
    · have hi : cfg0.idle 8 (cfg0.grid.coords ⟨n, hp⟩) = true := (idle_tail ⟨n, hp⟩).mpr h0
      unfold Dat.left; rw [hi]; exact before_tail c n hp h0 d

/-- The second result's buffer after a point that doesn't normalise: as found, and so the block of its rows. -/
theorem carry (c : Dev nD) (t : Fin cfg0.N) (h : ¬t.val % 4 = 0) :
    iprop(∃ d, owns (c : Thread nD τ) ((cfg0.win 8).stage (cfg0.slots t 8)) fullShare ((dats m 0 c).before 8 t d)) ⊢ (dats m 0 c).leavesExact 8 t := by
  by_cases hf : (cfg0.win 8).flush t = true
  · have e : (dats m 0 c).leavesExact 8 t = owns (c : Thread nD τ) ((cfg0.win 8).stage (cfg0.slots t 8)) fullShare (tailAt m c t) := by
      unfold Dat.leavesExact; rw [(idle_tail t).mpr h, hf]; rfl
    rw [e]
    iintro ⟨%d, H⟩
    rw [before_tail m c t.val t.isLt h d]
    iexact H
  · rw [(dats m 0 c).leavesExact_idle 8 t ((idle_tail t).mpr h) (Bool.eq_false_iff.mpr hf)]

theorem leaves_first (c : Dev nD) (t : Fin cfg0.N) (h : t.val % 4 = 0) :
    (dats m 0 c).leavesExact 8 t = owns (c : Thread nD τ) ((cfg0.win 8).stage (cfg0.slots t 8)) fullShare (tailAt m c t) := by
  have hi : cfg0.idle 8 (cfg0.grid.coords t) = false := Bool.eq_false_iff.mpr fun hi => (idle_tail t).mp hi h
  unfold Dat.leavesExact; rw [hi]; rfl

/-! ## The body at any point -/

/-- The staging buffer of window `w` at point `t`. -/
abbrev st (t : Fin cfg0.N) (w : Fin cfg0.W) := (cfg0.win w).stage (cfg0.slots t w)

def pre (c : Dev nD) (t : Fin cfg0.N) : sProp 𝕄 :=
  iprop((dats m 0 c).Φ t.castSucc ∗ (dats m 0 c).owesAt () t.castSucc
    ∗ (∃ d, owns (c : Thread nD τ) (st t 0) fullShare ((dats m 0 c).before 0 t d)) ∗ (∃ d, owns (c : Thread nD τ) (st t 1) fullShare ((dats m 0 c).before 1 t d))
    ∗ (∃ d, owns (c : Thread nD τ) (st t 2) fullShare ((dats m 0 c).before 2 t d)) ∗ (∃ d, owns (c : Thread nD τ) (st t 3) fullShare ((dats m 0 c).before 3 t d))
    ∗ (∃ d, owns (c : Thread nD τ) (st t 4) fullShare ((dats m 0 c).before 4 t d)) ∗ (∃ d, owns (c : Thread nD τ) (st t 5) fullShare ((dats m 0 c).before 5 t d))
    ∗ (∃ d, owns (c : Thread nD τ) (st t 6) fullShare ((dats m 0 c).before 6 t d)) ∗ (∃ d, owns (c : Thread nD τ) (st t 7) fullShare ((dats m 0 c).before 7 t d))
    ∗ (∃ d, owns (c : Thread nD τ) (st t 8) fullShare ((dats m 0 c).before 8 t d)))

def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t ∗ (dats m 0 c).leavesExact 8 t)

theorem leaves0 (c : Dev nD) (t : Fin cfg0.N) : (dats m 0 c).leavesExact 0 t = owns (c : Thread nD τ) (st t 0) fullShare (iblk m c 0 t) := rfl
theorem leaves1 (c : Dev nD) (t : Fin cfg0.N) : (dats m 0 c).leavesExact 1 t = owns (c : Thread nD τ) (st t 1) fullShare (iblk m c 1 t) := rfl
theorem leaves2 (c : Dev nD) (t : Fin cfg0.N) : (dats m 0 c).leavesExact 2 t = owns (c : Thread nD τ) (st t 2) fullShare (wt0 m c t) := rfl
theorem leaves3 (c : Dev nD) (t : Fin cfg0.N) : (dats m 0 c).leavesExact 3 t = owns (c : Thread nD τ) (st t 3) fullShare (wt1 m c t) := rfl
theorem leaves4 (c : Dev nD) (t : Fin cfg0.N) : (dats m 0 c).leavesExact 4 t = owns (c : Thread nD τ) (st t 4) fullShare (wt2 m c t) := rfl
theorem leaves5 (c : Dev nD) (t : Fin cfg0.N) : (dats m 0 c).leavesExact 5 t = owns (c : Thread nD τ) (st t 5) fullShare (wt3 m c t) := rfl
theorem leaves6 (c : Dev nD) (t : Fin cfg0.N) : (dats m 0 c).leavesExact 6 t = owns (c : Thread nD τ) (st t 6) fullShare (iblk m c 6 t) := rfl
theorem leaves7 (c : Dev nD) (t : Fin cfg0.N) : (dats m 0 c).leavesExact 7 t = owns (c : Thread nD τ) (st t 7) fullShare (mainAt m c t) := by
  show owns (c : Thread nD τ) (st t 7) fullShare ((dats m 0 c).after 7 t) = _
  rw [after_main]

set_option maxHeartbeats 3200000 in
theorem body (c : Dev nD) (t : Fin cfg0.N) : pre m c t ⊢ wp frame (wpE (defs₀ (F := F)) Variants.none c none) Set.univ (bodyAt0 t) (fun _ => post m c t) := by
  obtain ⟨b0, b1, b2, b3, b4, b5, b6⟩ := before_in m c t
  unfold pre post bodyAt0
  simp only [b0, b1, b2, b3, b4, b5, b6]
  rw [show (dats m 0 c).owesAt () t.succ = (dats m 0 c).owesAt () t.castSucc from rfl,
    show (dats m 0 c).Φ t.succ = iprop(owns (c : Thread nD τ) scratch fullShare (rowsAt m c t) ∗ (∃ r, prngReg c r)) from rfl,
    show (dats m 0 c).Φ t.castSucc = inv m c t.val (Nat.le_of_lt t.isLt) from rfl]
  rw [leaves0, leaves1, leaves2, leaves3, leaves4, leaves5, leaves6, leaves7]
  by_cases h : t.val % 4 = 0
  · have er : rowsAt m c t = k0_pay2 (iblk m c 0 t) (iblk m c 1 t) := by unfold rowsAt; rw [head_self t h]
    have et : tailAt m c t = k0_pay3 (iblk m c 0 t) (iblk m c 1 t) (iblk m c 6 t) := by unfold tailAt; rw [head_self t h]
    rw [leaves_first m c t h, et]
    unfold mainAt
    rw [er]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave ⟨HS, Hg⟩ := inv_some m c t.val (Nat.le_of_lt t.isLt) $$ HΦ
    iapply (run_first c (grid0.coords t) _ _ _ _ _ _ _ _ _ _ _ _ _ _ _ _ _ _ _ _ (iblk m c 0 t) (iblk m c 1 t) (wt0 m c t) (wt1 m c t) (wt2 m c t) (wt3 m c t) (iblk m c 6 t) ((first_iff t).mpr h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun e => h (by rw [e])
    have er : rowsAt m c ⟨t.val - 1, Nat.lt_of_le_of_lt (Nat.sub_le _ _) t.isLt⟩ = rowsAt m c t := by unfold rowsAt; rw [head_pred t h]
    rw [inv_pos m c t hz, er]
    unfold mainAt
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run_later c (grid0.coords t) _ _ _ _ _ _ _ _ _ _ _ _ _ _ _ _ _ _ _ _ (wt0 m c t) (wt1 m c t) (wt2 m c t) (wt3 m c t) (rowsAt m c t) (fun e => h ((first_iff t).mp e)) Set.univ _)
    isplitl [H2]; · iexact H2
    isplitl [H3]; · iexact H3
    isplitl [H4]; · iexact H4
    isplitl [H5]; · iexact H5
    isplitl [H7]; · iexists _; iexact H7
    isplitl [HS]; · iexact HS
    iintro ⟨H2, H3, H4, H5, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (carry m c t h)
    iexact H8

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (body m c t) rfl ?_ fun _ => ?_
  · exact .rfl
  · unfold post; exact .rfl

/-! ## The run -/

set_option backward.isDefEq.respectTransparency.types false in
theorem run_still : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m) (hmain := hmain m Variants.none)
    (hA := arrays m) (hin := fun _ => Idealize.SL.BI.Entails.refl _)
    (hout := fun c => by rw [start_eq]; exact inv_some m c cfg0.N (Nat.le_refl _))

/-- Every run ends, with both results at what the windows' write-backs leave, the arguments unchanged and no counter raised. -/
theorem run : θ_run defs (onTc (τ := τ) (main (F := F))) ⟨m, fun _ => 0, ρ⟩ (fun r => (∀ c : Dev nD,
      r.2.mem ((c.tc : Thread nD τ).loc main_v7_0) = (dats m 0 c).arrAt 7 cfg0.N
      ∧ r.2.mem ((c.tc : Thread nD τ).loc main_v7_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 7, (h.1 c).1 8,
      ((h.1 c).2 main_arg0 (Pipeline.mem_restRefs_of main_arg0 (by decide) (by decide))).trans (V_arg m c).1,
      ((h.1 c).2 main_arg1 (Pipeline.mem_restRefs_of main_arg1 (by decide) (by decide))).trans (V_arg m c).2.1,
      ((h.1 c).2 main_arg2 (Pipeline.mem_restRefs_of main_arg2 (by decide) (by decide))).trans (V_arg m c).2.2⟩, h.2⟩) (run_still m ρ)

/-- The same without the results. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run m ρ)

end Cert.Kernel4Ideal.Tail
-- ==== Proof.TailValue.lean ====
module

public import proofs.«01_k».proof.Proof.TailRun
public import proofs.«01_k».proof.Proof.RmsProj
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel4Ideal.Tail
open Cert.Kernel4Ideal Cert.Kernel4Ideal.Gen Cert.Whole
open Cert.Kernel2Ideal.Rms (rmsRow seqOf tokOf partOf rows_read)

/-! ## What one grid point computes, at an index -/

/-- The normalized rows. -/
theorem pay1_at (x : FVec Ideal S1024x2048 .f32) (w : FVec Ideal S1x2048 .f32) (r : Fin 1024) (k : Fin 2048) :
    k0_pay1 (F := Ideal) x w (ix2 r k) = rmsRow (fun j => x (ix2 r j)) (fun j => w (ix2 (0 : Fin 1) j)) k := by
  unfold k0_pay1 rmsRow
  pointwise

theorem pay2_at (x : FVec Ideal S1024x2048 .f32) (w : FVec Ideal S1x2048 .f32) (r : Fin 1024) (k : Fin 2048) :
    k0_pay2 (F := Ideal) x w (ix2 r k) = rmsRow (fun j => x (ix2 r j)) (fun j => w (ix2 (0 : Fin 1) j)) k := by
  unfold k0_pay2
  pointwise [pay1_at]

/-- Their product with the tail of the weights. -/
theorem pay3_at (x : FVec Ideal S1024x2048 .f32) (w : FVec Ideal S1x2048 .f32) (g : FVec Ideal S128x2048 .bf16) (r : Fin 1024) (n : Fin 128) :
    k0_pay3 (F := Ideal) x w g (ix2 r n)
      = ∑ k : Fin 2048, rmsRow (fun j => x (ix2 r j)) (fun j => w (ix2 (0 : Fin 1) j)) k * g (ix2 n k) := by
  unfold k0_pay3
  pointwise [pay1_at]

/-- Rows times a block of weights, row by row. -/
theorem pay4_at (x : FVec Ideal S1024x2048 .bf16) (w : FVec Ideal S512x2048 .bf16) (r : Fin 1024) (n : Fin 512) :
    k0_pay4 (F := Ideal) x w (ix2 r n) = ∑ k : Fin 2048, x (ix2 r k) * w (ix2 n k) := by
  unfold k0_pay4
  pointwise

theorem pay5_at (x : FVec Ideal S1024x2048 .bf16) (w : FVec Ideal S512x2048 .bf16) (r : Fin 1024) (n : Fin 512) :
    k0_pay5 (F := Ideal) x w (ix2 r n) = ∑ k : Fin 2048, x (ix2 r k) * w (ix2 n k) := pay4_at x w r n

theorem pay6_at (x : FVec Ideal S1024x2048 .bf16) (w : FVec Ideal S512x2048 .bf16) (r : Fin 1024) (n : Fin 512) :
    k0_pay6 (F := Ideal) x w (ix2 r n) = ∑ k : Fin 2048, x (ix2 r k) * w (ix2 n k) := pay4_at x w r n

theorem pay7_at (x : FVec Ideal S1024x2048 .bf16) (w : FVec Ideal S512x2048 .bf16) (r : Fin 1024) (n : Fin 512) :
    k0_pay7 (F := Ideal) x w (ix2 r n) = ∑ k : Fin 2048, x (ix2 r k) * w (ix2 n k) := pay4_at x w r n

/-- Rows times four blocks of weights, next to each other. -/
def prodBlk (x : FVec Ideal S1024x2048 .bf16) (w : Fin 4 → FVec Ideal S512x2048 .bf16) : FVec Ideal S1024x2048 .bf16 :=
  fun y => ∑ k : Fin 2048, x (ix2 (y 0) k) * w ⟨(y 1).val / 512, by have : (y 1).val < 2048 := (y 1).isLt; omega⟩ (ix2 (⟨(y 1).val % 512, by omega⟩ : Fin 512) k)

/-- One of the four is a block of the array. -/
theorem piece_at (x : FVec Ideal S1024x2048 .bf16) (w : Fin 4 → FVec Ideal S512x2048 .bf16) (p : Fin 4) {o : ℕ} (ho : o = 512 * p.val) (inb)
    (P : FVec Ideal S1024x512 .bf16) (hP : ∀ r n, P (ix2 r n) = ∑ k : Fin 2048, x (ix2 r k) * w p (ix2 n k)) (y : S1024x512.Idx) :
    P y = prodBlk x w ((Rect.unit (s := S1024x2048) ![0, o] S1024x512.size inb).emb y) := by
  obtain ⟨r, n, rfl⟩ : ∃ (r : Fin 1024) (n : Fin 512), y = ix2 r n := ⟨y 0, y 1, eq_ix2 y⟩
  have e : (Rect.unit (s := S1024x2048) ![0, o] S1024x512.size inb).emb (ix2 r n) = ix2 r (⟨512 * p.val + n.val, by omega⟩ : Fin 2048) := by
    funext a; refine Fin.ext ?_
    match a with
    | ⟨0, _⟩ => show 0 + 1 * r.val = r.val; omega
    | ⟨1, _⟩ => show o + 1 * n.val = 512 * p.val + n.val; omega
  have e1 : (⟨(512 * p.val + n.val) / 512, by omega⟩ : Fin 4) = p := Fin.ext (by show (512 * p.val + n.val) / 512 = p.val; omega)
  have e2 : (⟨(512 * p.val + n.val) % 512, by omega⟩ : Fin 512) = n := Fin.ext (by show (512 * p.val + n.val) % 512 = n.val; omega)
  rw [e, hP]
  show _ = ∑ k : Fin 2048, x (ix2 r k) * w ⟨(512 * p.val + n.val) / 512, _⟩ (ix2 (⟨(512 * p.val + n.val) % 512, _⟩ : Fin 512) k)
  rw [e1, e2]

/-- What the four stores leave. -/
theorem tile_eq (x : FVec Ideal S1024x2048 .bf16) (w0 w1 w2 w3 : FVec Ideal S512x2048 .bf16) :
    tile (F := Ideal) x w0 w1 w2 w3 = prodBlk x ![w0, w1, w2, w3] := by
  funext y
  unfold tile
  have hc := stores_cover (F := Ideal) x w0 w1 w2 w3 y
  refine View.canon_apply_of_pieces _ _ (View.PiecesOf.mem ?_) y hc
  clear hc
  unfold stores
  exact ⟨fun y => piece_at x ![w0, w1, w2, w3] 3 (o := 1536) rfl Facts₀.inb_S1024x2048_S1024x512_0_1536 _ (pay7_at x w3) y,
    fun y => piece_at x ![w0, w1, w2, w3] 2 (o := 1024) rfl Facts₀.inb_S1024x2048_S1024x512_0_1024 _ (pay6_at x w2) y,
    fun y => piece_at x ![w0, w1, w2, w3] 1 (o := 512) rfl Facts₀.inb_S1024x2048_S1024x512_0_512 _ (pay5_at x w1) y,
    fun y => piece_at x ![w0, w1, w2, w3] 0 (o := 0) rfl Facts₀.inb_S1024x2048_S1024x512_0_0 _ (pay4_at x w0) y, trivial⟩

/-! ## What the region reads -/

variable (m : (ℓ : Loc nD τ sig) → Buf (Elt Ideal) ℓ) (c : Dev nD)

theorem index0_0 : ∀ t : Fin cfg0.N, win0_0.index t = ![t.val / 4, 0] := (by decide +kernel : ∀ t : Fin grid0.N, win0_0.index t = ![t.val / 4, 0])
theorem index0_1 : ∀ t : Fin cfg0.N, win0_1.index t = ![0, 0] := (by decide +kernel : ∀ t : Fin grid0.N, win0_1.index t = ![0, 0])
theorem index0_2 : ∀ t : Fin cfg0.N, win0_2.index t = ![t.val % 4, 0] := (by decide +kernel : ∀ t : Fin grid0.N, win0_2.index t = ![t.val % 4, 0])
theorem index0_3 : ∀ t : Fin cfg0.N, win0_3.index t = ![4 + t.val % 4, 0] := (by decide +kernel : ∀ t : Fin grid0.N, win0_3.index t = ![4 + t.val % 4, 0])
theorem index0_4 : ∀ t : Fin cfg0.N, win0_4.index t = ![8 + t.val % 4, 0] := (by decide +kernel : ∀ t : Fin grid0.N, win0_4.index t = ![8 + t.val % 4, 0])
theorem index0_5 : ∀ t : Fin cfg0.N, win0_5.index t = ![12 + t.val % 4, 0] := (by decide +kernel : ∀ t : Fin grid0.N, win0_5.index t = ![12 + t.val % 4, 0])
theorem index0_6 : ∀ t : Fin cfg0.N, win0_6.index t = ![0, 0] := (by decide +kernel : ∀ t : Fin grid0.N, win0_6.index t = ![0, 0])
theorem index0_7 : ∀ t : Fin cfg0.N, win0_7.index t = ![t.val / 4, t.val % 4] := (by decide +kernel : ∀ t : Fin grid0.N, win0_7.index t = ![t.val / 4, t.val % 4])
theorem index0_8 : ∀ t : Fin cfg0.N, win0_8.index t = ![t.val / 4, 0] := (by decide +kernel : ∀ t : Fin grid0.N, win0_8.index t = ![t.val / 4, 0])

theorem lt_points (t : Fin cfg0.N) : t.val < 64 := lt_of_lt_of_eq t.isLt (show cfg0.N = 64 from N_0)

/-- The tokens, as the region reads them. -/
def xV (i : Fin 16384) (k : Fin 2048) : EReal := V (F := Ideal) m c main_v4 (ix2 i k)

/-- The norm's weights. -/
def nV (k : Fin 2048) : EReal := V (F := Ideal) m c main_v6 (ix2 (0 : Fin 1) k)

/-- The projection's weights, turned. -/
def wV (n : Fin 8224) (k : Fin 2048) : EReal := V (F := Ideal) m c main_v5 (ix2 n k)

/-- The gates' weights, turned and filled up. -/
def gV (n : Fin 128) (k : Fin 2048) : EReal := V (F := Ideal) m c main_v3 (ix2 n k)

/-- The row of a point's block. -/
abbrev rowOf (t : Fin cfg0.N) (r : Fin 1024) : Fin 16384 := ⟨1024 * (t.val / 4) + r.val, by have := lt_points t; omega⟩

/-- The row of a point's weights. -/
abbrev colOf (t : Fin cfg0.N) (p : Fin 4) (e : Fin 512) : Fin 8224 := ⟨2048 * p.val + 512 * (t.val % 4) + e.val, by omega⟩

theorem read0 (t : Fin cfg0.N) (r : Fin 1024) (k : Fin 2048) : iblk (F := Ideal) m c 0 t (ix2 r k) = xV m c (rowOf t r) k := by
  have ht := lt_points t
  unfold xV
  blk_simp [iblk, index0_0 t]
  congr 1
  blk_ext [index0_0 t]

theorem read1 (t : Fin cfg0.N) (k : Fin 2048) : iblk (F := Ideal) m c 1 t (ix2 (0 : Fin 1) k) = nV m c k := by
  unfold nV
  blk_simp [iblk, index0_1 t]
  congr 1
  blk_ext [index0_1 t]

theorem read6 (t : Fin cfg0.N) (n : Fin 128) (k : Fin 2048) : iblk (F := Ideal) m c 6 t (ix2 n k) = gV m c n k := by
  unfold gV
  blk_simp [iblk, index0_6 t]
  congr 1
  blk_ext [index0_6 t]

theorem read2 (t : Fin cfg0.N) (e : Fin 512) (k : Fin 2048) : wt0 (F := Ideal) m c t (ix2 e k) = wV m c (colOf t 0 e) k := by
  unfold wV wt0 uncut
  blk_simp [iblk, index0_2 t]
  congr 1
  blk_ext [index0_2 t]

theorem read3 (t : Fin cfg0.N) (e : Fin 512) (k : Fin 2048) : wt1 (F := Ideal) m c t (ix2 e k) = wV m c (colOf t 1 e) k := by
  unfold wV wt1 uncut
  blk_simp [iblk, index0_3 t]
  congr 1
  blk_ext [index0_3 t]

theorem read4 (t : Fin cfg0.N) (e : Fin 512) (k : Fin 2048) : wt2 (F := Ideal) m c t (ix2 e k) = wV m c (colOf t 2 e) k := by
  unfold wV wt2 uncut
  blk_simp [iblk, index0_4 t]
  congr 1
  blk_ext [index0_4 t]

theorem read5 (t : Fin cfg0.N) (e : Fin 512) (k : Fin 2048) : wt3 (F := Ideal) m c t (ix2 e k) = wV m c (colOf t 3 e) k := by
  unfold wV wt3 uncut
  blk_simp [iblk, index0_5 t]
  congr 1
  blk_ext [index0_5 t]

/-- The four blocks of weights of a point. -/
theorem reads (t : Fin cfg0.N) (p : Fin 4) (e : Fin 512) (k : Fin 2048) :
    (![wt0 m c t, wt1 m c t, wt2 m c t, wt3 m c t] : Fin 4 → FVec Ideal S512x2048 .bf16) p (ix2 e k) = wV m c (colOf t p e) k := by
  match p with
  | ⟨0, _⟩ => exact read2 m c t e k
  | ⟨1, _⟩ => exact read3 m c t e k
  | ⟨2, _⟩ => exact read4 m c t e k
  | ⟨3, _⟩ => exact read5 m c t e k

theorem rowOf_head (t : Fin cfg0.N) (r : Fin 1024) : rowOf (head t) r = rowOf t r :=
  Fin.ext (by show 1024 * (4 * (t.val / 4) / 4) + r.val = 1024 * (t.val / 4) + r.val; omega)

/-- The rows a point multiplies. -/
theorem rowsAt_at (t : Fin cfg0.N) (r : Fin 1024) (k : Fin 2048) :
    rowsAt (F := Ideal) m c t (ix2 r k) = rmsRow (xV m c (rowOf t r)) (nV m c) k := by
  unfold rowsAt
  rw [pay2_at]
  simp only [read0, read1, rowOf_head]

/-- A point's block of the first result. -/
theorem mainAt_at (t : Fin cfg0.N) (r : Fin 1024) (l : Fin 2048) :
    mainAt (F := Ideal) m c t (ix2 r l)
      = ∑ k : Fin 2048, rmsRow (xV m c (rowOf t r)) (nV m c) k * wV m c (colOf t ⟨l.val / 512, by omega⟩ ⟨l.val % 512, by omega⟩) k := by
  unfold mainAt
  rw [tile_eq]
  show ∑ k : Fin 2048, rowsAt (F := Ideal) m c t (ix2 r k) * (_ : Fin 4 → FVec Ideal S512x2048 .bf16) ⟨l.val / 512, _⟩ (ix2 (⟨l.val % 512, _⟩ : Fin 512) k) = _
  simp only [rowsAt_at, reads]

/-- A point's block of the second result. -/
theorem tailAt_at (t : Fin cfg0.N) (r : Fin 1024) (n : Fin 128) :
    tailAt (F := Ideal) m c t (ix2 r n) = ∑ k : Fin 2048, rmsRow (xV m c (rowOf t r)) (nV m c) k * gV m c n k := by
  unfold tailAt
  rw [pay3_at]
  simp only [read0, read1, read6, rowOf_head]

/-! ## The results, of the arguments -/

/-- A column of the projection, at a row. -/
def dotAt (x : FVec Ideal S2x8192x2048 .f32) (nw : FVec Ideal S2048 .f32) (w : FVec Ideal S2048x8224 .f32) (i : Fin 16384) (n : Fin 8224) : EReal :=
  ∑ k : Fin 2048, rmsRow (fun j => x (ix3 (seqOf i) (tokOf i) j)) (fun j => nw (ix1 j)) k * w (ix2 k n)

/-- The first result: four heads at a time of each of the four parts. -/
def mainOf (x : FVec Ideal S2x8192x2048 .f32) (nw : FVec Ideal S2048 .f32) (w : FVec Ideal S2048x8224 .f32) : FVec Ideal S16384x8192 .bf16 :=
  fun y => dotAt x nw w (y 0) ((partOf (y 1)).castLE (by decide))

/-- The second result: the gates' columns, and columns of zeros. -/
def tailOf (x : FVec Ideal S2x8192x2048 .f32) (nw : FVec Ideal S2048 .f32) (w : FVec Ideal S2048x8224 .f32) : FVec Ideal S16384x128 .f32 :=
  fun y => if h : (y 1).val < 32 then dotAt x nw w (y 0) ⟨8192 + (y 1).val, by omega⟩ else 0

theorem V_v4 : V (F := Ideal) m c main_v4 = (shapeCast S16384x2048 (m ((c : Thread nD τ).loc main_arg0) : FVec Ideal S2x8192x2048 .f32) shapeCasts_S2x8192x2048_S16384x2048 : FVec Ideal S16384x2048 .f32) := by
  entry_read
  rfl

theorem V_v6 : V (F := Ideal) m c main_v6 = (shapeCast S1x2048 (m ((c : Thread nD τ).loc main_arg1) : FVec Ideal S2048 .f32) shapeCasts_S2048_S1x2048 : FVec Ideal S1x2048 .f32) := by
  entry_read
  rfl

theorem V_v5 : V (F := Ideal) m c main_v5 = (truncf (F := Ideal) .bf16 (transpose S8224x2048 [1, 0] (m ((c : Thread nD τ).loc main_arg2) : FVec Ideal S2048x8224 .f32) transposes_S2048x8224_S8224x2048_1_0) bitsLt_bf16_f32 : FVec Ideal S8224x2048 .bf16) := by
  entry_read
  rfl

theorem V_v3 : V (F := Ideal) m c main_v3 = (truncf (F := Ideal) .bf16 (pad S128x2048 ![0, 0] ![96, 0] ![0, 0] (extractStridedSlice S32x2048 ![8192, 0] (transpose S8224x2048 [1, 0] (m ((c : Thread nD τ).loc main_arg2) : FVec Ideal S2048x8224 .f32) transposes_S2048x8224_S8224x2048_1_0) slices_S8224x2048_S32x2048_8192_0) (sitofp (F := Ideal) .f32 (constantI S_ 32 0#32)) pads_S32x2048_S128x2048_0960_000 h_S_) bitsLt_bf16_f32 : FVec Ideal S128x2048 .bf16) := by
  entry_read
  rfl

theorem xV_eq (i : Fin 16384) : xV m c i = fun k => m ((c : Thread nD τ).loc main_arg0) (ix3 (seqOf i) (tokOf i) k) :=
  funext fun _ => (congrFun (V_v4 m c) _).trans (rows_read _ _ _ _)

theorem nV_eq : nV m c = fun k => (m ((c : Thread nD τ).loc main_arg1) : FVec Ideal S2048 .f32) (ix1 k) := by
  funext k
  unfold nV
  rw [V_v6]
  pointwise

theorem wV_eq (n : Fin 8224) (k : Fin 2048) : wV m c n k = (m ((c : Thread nD τ).loc main_arg2) : FVec Ideal S2048x8224 .f32) (ix2 k n) := by
  unfold wV
  rw [V_v5]
  pointwise

/-- The value that fills up the gates' weights. -/
theorem zero_fill (j : S_.Idx) : (sitofp (F := Ideal) .f32 (constantI S_ 32 0#32) : FVec Ideal S_ .f32) j = 0 := by
  show (((0#32 : BitVec 32).toInt : ℝ) : EReal) = 0
  simp

theorem gV_gate (n : Fin 128) (h : n.val < 32) (k : Fin 2048) :
    gV m c n k = (m ((c : Thread nD τ).loc main_arg2) : FVec Ideal S2048x8224 .f32) (ix2 k (⟨8192 + n.val, by omega⟩ : Fin 8224)) := by
  unfold gV
  rw [V_v3]
  show pad (s := S32x2048) S128x2048 ![0, 0] ![96, 0] ![0, 0] _ _ pads_S32x2048_S128x2048_0960_000 h_S_ (ix2 n k) = _
  refine (pad_apply_of_inside _ _ _ _ _ _ _ _ (ix2 (⟨n.val, h⟩ : Fin 32) k) ?_).trans ?_
  · intro a
    match a with
    | ⟨0, _⟩ => show n.val = 0 + n.val * 1; omega
    | ⟨1, _⟩ => show k.val = 0 + k.val * 1; omega
  pointwise

theorem gV_fill (n : Fin 128) (h : ¬n.val < 32) (k : Fin 2048) : gV m c n k = 0 := by
  unfold gV
  rw [V_v3]
  show pad (s := S32x2048) S128x2048 ![0, 0] ![96, 0] ![0, 0] _ _ pads_S32x2048_S128x2048_0960_000 h_S_ (ix2 n k) = _
  refine (pad_apply_of_not_inside _ _ _ _ _ _ _ _ (0 : Fin 2) ?_).trans (zero_fill _)
  intro hh
  have h2 : (n.val - 0) / (0 + 1) < 32 := hh.2.2
  omega

section

variable (x : FVec Ideal S2x8192x2048 .f32) (nw : FVec Ideal S2048 .f32) (w : FVec Ideal S2048x8224 .f32)

theorem mainOf_at (i : Fin 16384) (n : Fin 8192) : mainOf x nw w (ix2 i n) = dotAt x nw w i ((partOf n).castLE (by decide)) := rfl

theorem tailOf_gate (i : Fin 16384) (n : Fin 128) (h : n.val < 32) : tailOf x nw w (ix2 i n) = dotAt x nw w i ⟨8192 + n.val, by omega⟩ := dif_pos h

theorem tailOf_fill (i : Fin 16384) (n : Fin 128) (h : ¬n.val < 32) : tailOf x nw w (ix2 i n) = 0 := dif_neg h

end

/-- A point's weights, as columns of the argument. -/
theorem colOf_eq (t : Fin cfg0.N) (l : Fin 2048) (n : Fin 8192) (hn : n.val = 2048 * (t.val % 4) + l.val) :
    colOf t ⟨l.val / 512, by omega⟩ ⟨l.val % 512, by omega⟩ = (partOf n).castLE (by decide) :=
  Fin.ext (by
    show 2048 * (l.val / 512) + 512 * (t.val % 4) + l.val % 512 = 2048 * (n.val / 512 % 4) + 512 * (n.val / 2048) + n.val % 512
    omega)

/-- A point's blocks of the results, of the arguments. -/
theorem main_block (t : Fin cfg0.N) (r : Fin 1024) (l : Fin 2048) (n : Fin 8192) (hn : n.val = 2048 * (t.val % 4) + l.val) :
    mainAt (F := Ideal) m c t (ix2 r l)
      = mainOf (m ((c : Thread nD τ).loc main_arg0)) (m ((c : Thread nD τ).loc main_arg1)) (m ((c : Thread nD τ).loc main_arg2)) (ix2 (rowOf t r) n) := by
  rw [mainAt_at, mainOf_at, colOf_eq t l n hn, xV_eq, nV_eq]
  simp only [wV_eq]
  rfl

theorem tail_block (t : Fin cfg0.N) (r : Fin 1024) (n : Fin 128) :
    tailAt (F := Ideal) m c t (ix2 r n)
      = tailOf (m ((c : Thread nD τ).loc main_arg0)) (m ((c : Thread nD τ).loc main_arg1)) (m ((c : Thread nD τ).loc main_arg2)) (ix2 (rowOf t r) n) := by
  rw [tailAt_at, xV_eq, nV_eq]
  by_cases h : n.val < 32
  · rw [tailOf_gate _ _ _ _ n h]
    simp only [gV_gate m c n h]
    rfl
  · rw [tailOf_fill _ _ _ _ n h]
    simp only [gV_fill m c n h, mul_zero, Finset.sum_const_zero]

/-- The first result's array. -/
theorem arr_main : (dats (F := Ideal) m 0 c).arrAt 7 cfg0.N
    = mainOf (m ((c : Thread nD τ).loc main_arg0)) (m ((c : Thread nD τ).loc main_arg1)) (m ((c : Thread nD τ).loc main_arg2)) := by
  refine (dats (F := Ideal) m 0 c).arrAt_eq_of_covers 7 _ (by decide +kernel) fun t hf y => ?_
  blk_simp
  rw [after_main]
  have hy : ∃ (r : Fin 1024) (l : Fin 2048), y = ix2 r l := ⟨y 0, y 1, eq_ix2 y⟩
  obtain ⟨r, l, rfl⟩ := hy
  have ht := lt_points t
  refine (main_block m c t r l (⟨2048 * (t.val % 4) + l.val, by omega⟩ : Fin 8192) rfl).trans (congrArg _ ?_)
  blk_ext [index0_7 t]

/-- The second result's array. -/
theorem arr_tail : (dats (F := Ideal) m 0 c).arrAt 8 cfg0.N
    = tailOf (m ((c : Thread nD τ).loc main_arg0)) (m ((c : Thread nD τ).loc main_arg1)) (m ((c : Thread nD τ).loc main_arg2)) := by
  refine (dats (F := Ideal) m 0 c).arrAt_eq_of_covers 8 _ (by decide +kernel) fun t hf y => ?_
  blk_simp
  rw [after_tail]
  have hy : ∃ (r : Fin 1024) (n : Fin 128), y = ix2 r n := ⟨y 0, y 1, eq_ix2 y⟩
  obtain ⟨r, n, rfl⟩ := hy
  have ht := lt_points t
  refine (tail_block m c t r n).trans (congrArg _ ?_)
  blk_ext [index0_8 t]

end Cert.Kernel4Ideal.Tail
-- ==== Proof.TailRef.lean ====
module

public import proofs.«01_k».proof.Proof.TailValue
public import proofs.«01_k».proof.Proof.Gen.Reference4Ideal.Run

@[expose] public section

set_option maxRecDepth 16384

noncomputable section

open Idealize.ShloMosaic Idealize.ShloMosaic.TcCoe Idealize.SL.Sem

namespace Cert.Reference4Ideal.Tail
open Cert.Reference4Ideal Cert.Reference4Ideal.Gen Cert.Reference4Ideal.Value
open Cert.Kernel2Ideal.Rms (rmsRow seqOf tokOf partOf)
open Cert.Reference2Ideal.Rms (normR normR_at join_read)
open Cert.Kernel4Ideal.Tail (dotAt mainOf tailOf mainOf_at tailOf_gate tailOf_fill zero_fill)

/-! ## The reference's results -/

variable (x : FVec Ideal S2x8192x2048 .f32) (nw : FVec Ideal S2048 .f32) (w : FVec Ideal S2048x8224 .f32)

/-- The projection, one row per token. -/
def rowsR : FVec Ideal S16384x8224 .f32 :=
  shapeCast S16384x8224 (Host.dotGeneral dot_S2x8192x2048_S2048x8224_S2x8192x8224_2_0_01_1_n_n none (normR x nw) w : FVec Ideal S2x8192x8224 .f32) shapeCasts_S2x8192x8224_S16384x8224

theorem dot_at (y : FVec Ideal S2x8192x2048 .f32) (b : Fin 2) (s : Fin 8192) (n : Fin 8224) :
    (Host.dotGeneral dot_S2x8192x2048_S2048x8224_S2x8192x8224_2_0_01_1_n_n none y w : FVec Ideal S2x8192x8224 .f32) (ix3 b s n) = ∑ k : Fin 2048, y (ix3 b s k) * w (ix2 k n) := by
  pointwise

theorem rowsR_at (i : Fin 16384) (n : Fin 8224) : rowsR x nw w (ix2 i n) = dotAt x nw w i n := by
  unfold rowsR
  refine (Pointwise.shapeCast_apply _ _ _).trans ?_
  refine Eq.trans (b := (Host.dotGeneral dot_S2x8192x2048_S2048x8224_S2x8192x8224_2_0_01_1_n_n none (normR x nw) w : FVec Ideal S2x8192x8224 .f32) (ix3 (seqOf i) (tokOf i) n)) (congrArg _ ?_) ?_
  · refine Shape.reshapeEquiv_eq_of_vals _ _ _ _ _ (rowMajor_val3 _ (8192 * 8224) 8224 rfl rfl) (rowMajor_val2 _ 8224 rfl) ?_
    show i.val / 8192 * (8192 * 8224) + i.val % 8192 * 8224 + n.val = i.val * 8224 + n.val
    omega
  · rw [dot_at]
    simp only [normR_at]
    rfl

/-- A row of `8192` lanes cut into four by four groups of `512`, at an index. -/
theorem cut_read (y : FVec Ideal S16384x8192 .f32) (h : S16384x8192.ShapeCasts S16384x4x4x512) (n : Fin 16384) (a b : Fin 4) (e : Fin 512) :
    (shapeCast S16384x4x4x512 y h) (ix4 n a b e) = y (ix2 n (⟨2048 * a.val + 512 * b.val + e.val, by omega⟩ : Fin 8192)) := by
  refine (Pointwise.shapeCast_apply _ _ _).trans (congrArg y ?_)
  refine Shape.reshapeEquiv_eq_of_vals _ _ _ _ _ (rowMajor_val2 _ 8192 rfl) (rowMajor_val4 _ (4 * 4 * 512) (4 * 512) 512 rfl rfl rfl) ?_
  show n.val * 8192 + (2048 * a.val + 512 * b.val + e.val) = n.val * (4 * 4 * 512) + a.val * (4 * 512) + b.val * 512 + e.val
  omega

/-- The columns before the gates'. -/
def mixR : FVec Ideal S16384x8192 .f32 := extractStridedSlice S16384x8192 ![0, 0] (rowsR x nw w) slices_S16384x8224_S16384x8192_0_0

theorem mixR_at (i : Fin 16384) (n : Fin 8192) : mixR x nw w (ix2 i n) = dotAt x nw w i (n.castLE (by decide)) := by
  refine Eq.trans (b := rowsR x nw w (ix2 i (n.castLE (by decide)))) ?_ (rowsR_at x nw w i _)
  unfold mixR
  pointwise
  rfl

/-- The first result. -/
theorem ref_main :
    (truncf (F := Ideal) .bf16 (shapeCast S16384x8192 (transpose S16384x4x4x512 [0, 2, 1, 3] (shapeCast S16384x4x4x512 (mixR x nw w) shapeCasts_S16384x8192_S16384x4x4x512) transposes_S16384x4x4x512_S16384x4x4x512_0_2_1_3) shapeCasts_S16384x4x4x512_S16384x8192) bitsLt_bf16_f32 : FVec Ideal S16384x8192 .bf16)
      = mainOf x nw w := by
  funext y
  obtain ⟨i, n, rfl⟩ : ∃ (i : Fin 16384) (n : Fin 8192), y = ix2 i n := ⟨y 0, y 1, eq_ix2 y⟩
  show (shapeCast S16384x8192 (transpose S16384x4x4x512 [0, 2, 1, 3] (shapeCast S16384x4x4x512 (mixR x nw w) shapeCasts_S16384x8192_S16384x4x4x512) transposes_S16384x4x4x512_S16384x4x4x512_0_2_1_3) shapeCasts_S16384x4x4x512_S16384x8192) (ix2 i n) = _
  refine (join_read _ _ i n).trans ?_
  refine Eq.trans (b := (shapeCast S16384x4x4x512 (mixR x nw w) shapeCasts_S16384x8192_S16384x4x4x512) (ix4 i (⟨n.val / 512 % 4, by omega⟩ : Fin 4) (⟨n.val / 2048, by omega⟩ : Fin 4) (⟨n.val % 512, by omega⟩ : Fin 512))) (by pointwise) ?_
  refine (cut_read _ _ _ _ _ _).trans ?_
  rw [mixR_at, mainOf_at]

/-- The second result. -/
theorem ref_tail :
    (pad S16384x128 ![0, 0] ![0, 96] ![0, 0] (extractStridedSlice S16384x32 ![0, 8192] (rowsR x nw w) slices_S16384x8224_S16384x32_0_8192) (sitofp (F := Ideal) .f32 (constantI S_ 32 0#32)) pads_S16384x32_S16384x128_000_0960 h_S_ : FVec Ideal S16384x128 .f32)
      = tailOf x nw w := by
  funext y
  obtain ⟨i, n, rfl⟩ : ∃ (i : Fin 16384) (n : Fin 128), y = ix2 i n := ⟨y 0, y 1, eq_ix2 y⟩
  by_cases h : n.val < 32
  · rw [tailOf_gate _ _ _ _ n h]
    refine (pad_apply_of_inside _ _ _ _ _ _ _ _ (ix2 i (⟨n.val, h⟩ : Fin 32)) ?_).trans ?_
    · intro a
      match a with
      | ⟨0, _⟩ => show i.val = 0 + i.val * 1; omega
      | ⟨1, _⟩ => show n.val = 0 + n.val * 1; omega
    refine Eq.trans (b := rowsR x nw w (ix2 i (⟨8192 + n.val, by omega⟩ : Fin 8224))) ?_ (rowsR_at x nw w i _)
    pointwise
  · rw [tailOf_fill _ _ _ _ n h]
    refine (pad_apply_of_not_inside _ _ _ _ _ _ _ _ (1 : Fin 2) ?_).trans (zero_fill _)
    intro hh
    have h2 : (n.val - 0) / (0 + 1) < 32 := hh.2.2
    omega

end Cert.Reference4Ideal.Tail
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.KerValue
public import proofs.«01_k».proof.Proof.Weights
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.RmsProj
public import proofs.«01_k».proof.Proof.OutProj
public import proofs.«01_k».proof.Proof.TailRun
public import proofs.«01_k».proof.Proof.TailValue
public import proofs.«01_k».proof.Proof.TailRef
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite_weights.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts

/-- The reference runs, keeps its arguments and declares no semaphore. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems rfl r.2⟩)
    (Cert.ReferenceIdeal.Value.run (F := Ideal) m ρ)

open Cert.BandSoftmax Cert.ReferenceIdeal.Att in
/-- When the weights and biases are finite, the kernel's result is the reference's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Pre_KernelIdeal_finite_weights m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v107 m' c = (Cert.KernelIdeal.Gen.dats m 0 c).arrAt 4 Cert.KernelIdeal.cfg0.N := by
  rw [res_eq m' c _ _ _ _ h0 h1 h2 h3]
  funext i
  obtain ⟨r, l, rfl⟩ : ∃ (r : Fin 16384) (l : Fin 2048), i = ix2 r l := ⟨i 0, i 1, eq_ix2 i⟩
  refine (ref_out _ _ _ _ _ _).trans (Cert.KernelIdeal.Att.ker_out m c (fun e => ?_) (fun e => ?_) (fun H t => ?_) _ _).symm
  · exact (Cert.Pre_finite_weights.fn_at _ _ _ _ 0 0 e (hpre c)).1
  · exact (Cert.Pre_finite_weights.fn_at _ _ _ _ 0 0 e (hpre c)).2.1
  · exact (Cert.Pre_finite_weights.fn_at _ _ _ _ H _ 0 (hpre c)).2.2

/-- The algebraic claim. -/
theorem algebraic : Cert.algebraic_KernelIdeal_ReferenceIdeal_pre_finite_weights := fun m g m' g' hpre hagree =>
  ⟨fun c => (Cert.KernelIdeal.Gen.dats m 0 c).arrAt 4 Cert.KernelIdeal.cfg0.N,
    Cert.KernelIdeal.Value.run_blocks m g,
    (θ_run Cert.ReferenceIdeal.defs _ _).mono (fun _ h c => ⟨(h c).1.trans (results_agree m m' hpre c (hagree c).1 (hagree c).2.1 (hagree c).2.2.1 (hagree c).2.2.2), (h c).2⟩)
      (Cert.ReferenceIdeal.Value.run (F := Ideal) m' g')⟩

/-! ## The norm and the input projection -/

/-- The reference runs, keeps its arguments and declares no semaphore. -/
theorem frame_reference2 : Cert.quiescent_Reference2Ideal := fun m ρ _ =>
  (θ_run Cert.Reference2Ideal.defs _ _).mono (fun r h => ⟨fun c => (h c).2, sem_eq_zero_of_no_sems rfl r.2⟩)
    (Cert.Reference2Ideal.Value.run (F := Ideal) m ρ)

/-- The algebraic claim. -/
theorem algebraic2 : Cert.algebraic_Kernel2Ideal_Reference2Ideal := fun m g m' g' _ hagree =>
  ⟨fun c => Cert.Kernel2Ideal.Value.G6 m c,
    Cert.Kernel2Ideal.Value.run m g,
    (θ_run Cert.Reference2Ideal.defs _ _).mono (fun _ h c => ⟨(h c).1.trans (by
        obtain ⟨h0, h1, h2⟩ := hagree c
        rw [h0, h1, h2]
        funext i
        obtain ⟨r, l, rfl⟩ : ∃ (r : Fin 16384) (l : Fin 8192), i = ix2 r l := ⟨i 0, i 1, eq_ix2 i⟩
        exact (Cert.Reference2Ideal.Rms.ref_out _ _ _ _ _ _ _).trans (Cert.Kernel2Ideal.Rms.ker_out m c _ _).symm), (h c).2⟩)
      (Cert.Reference2Ideal.Value.run (F := Ideal) m' g')⟩

/-! ## The output projection and the residual -/

/-- The reference runs, keeps its arguments and declares no semaphore. -/
theorem frame_reference3 : Cert.quiescent_Reference3Ideal := fun m ρ _ =>
  (θ_run Cert.Reference3Ideal.defs _ _).mono (fun r h => ⟨fun c => (h c).2, sem_eq_zero_of_no_sems rfl r.2⟩)
    (Cert.Reference3Ideal.Value.run (F := Ideal) m ρ)

/-- The algebraic claim. -/
theorem algebraic3 : Cert.algebraic_Kernel3Ideal_Reference3Ideal := fun m g m' g' _ hagree =>
  ⟨fun c => Cert.Kernel3Ideal.Value.G3 m c,
    Cert.Kernel3Ideal.Value.run m g,
    (θ_run Cert.Reference3Ideal.defs _ _).mono (fun _ h c => ⟨(h c).1.trans (by
        obtain ⟨h0, h1, h2⟩ := hagree c
        rw [h0, h1, h2]
        funext i
        obtain ⟨r, l, rfl⟩ : ∃ (r : Fin 16384) (l : Fin 2048), i = ix2 r l := ⟨i 0, i 1, eq_ix2 i⟩
        exact (Cert.Reference3Ideal.Out.ref_out _ _ _ _ _ _).trans (Cert.Kernel3Ideal.Out.ker_out m c _ _).symm), (h c).2⟩)
      (Cert.Reference3Ideal.Value.run (F := Ideal) m' g')⟩

/-! ## The norm, the input projection and the gates' columns -/

/-- The two programs' bodies are the same. -/
theorem bodies4 : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs4 : Cert.Kernel4.defs (F := Bits) = Cert.Kernel4Ideal.defs (F := Bits) :=
  congrArg (Pipeline.defs (Cert.Kernel4Ideal.pcfgs (F := Bits))) bodies4

/-- The kernel runs and keeps its arguments, at the machine's values and at the ideal ones: one run serves both. -/
theorem frame_kernel4 : Cert.quiescent_Kernel4 := fun m ρ _ => by
  rw [defs4]
  exact Cert.Kernel4Ideal.Tail.frame_run (F := Bits) m ρ

theorem frame_kernel4_ideal : Cert.quiescent_Kernel4Ideal := fun m ρ _ => Cert.Kernel4Ideal.Tail.frame_run (F := Ideal) m ρ

/-- The reference runs, keeps its arguments and declares no semaphore. -/
theorem frame_reference4 : Cert.quiescent_Reference4Ideal := fun m ρ _ =>
  (θ_run Cert.Reference4Ideal.defs _ _).mono (fun r h => ⟨fun c => (h c).2.2, sem_eq_zero_of_no_sems rfl r.2⟩)
    (Cert.Reference4Ideal.Value.run (F := Ideal) m ρ)

/-- The algebraic claim. -/
theorem algebraic4 : Cert.algebraic_Kernel4Ideal_Reference4Ideal := fun m g m' g' _ hagree =>
  ⟨fun c => (Cert.Kernel4Ideal.Tail.dats m 0 c).arrAt 7 Cert.Kernel4Ideal.cfg0.N,
    fun c => (Cert.Kernel4Ideal.Tail.dats m 0 c).arrAt 8 Cert.Kernel4Ideal.cfg0.N,
    (θ_run Cert.Kernel4Ideal.defs _ _).mono (fun _ h => h.1) (Cert.Kernel4Ideal.Tail.run (F := Ideal) m g),
    (θ_run Cert.Reference4Ideal.defs _ _).mono (fun _ h c => ⟨(h c).1.trans (by
        obtain ⟨h0, h1, h2⟩ := hagree c
        rw [h0, h1, h2]
        exact (Cert.Reference4Ideal.Tail.ref_main _ _ _).trans (Cert.Kernel4Ideal.Tail.arr_main m c).symm), (h c).2.1.trans (by
        obtain ⟨h0, h1, h2⟩ := hagree c
        rw [h0, h1, h2]
        exact (Cert.Reference4Ideal.Tail.ref_tail _ _ _).trans (Cert.Kernel4Ideal.Tail.arr_tail m c).symm), (h c).2.2⟩)
      (Cert.Reference4Ideal.Value.run (F := Ideal) m' g')⟩

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_weights.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  frame_kernel4,
  frame_kernel4_ideal,
  frame_reference4,
  ⟨IdealRules.named_const.statement Cert.KernelIdeal.κ "scale_log2e" .f32 0x3E0293EE#32 _ rfl,
    IdealRules.named_const.statement Cert.KernelIdeal.κ "mask" .f32 0xF149F2CA#32 _ rfl⟩,
  algebraic,
  trivial,
  algebraic2,
  trivial,
  algebraic3,
  trivial,
  algebraic4⟩

end Cert.Proof

end
